-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S128x512x512 : Shape := ⟨3, ![128, 512, 512]⟩
abbrev S128x480x480 : Shape := ⟨3, ![128, 480, 480]⟩
abbrev S56x512 : Shape := ⟨2, ![56, 512]⟩
abbrev S48x480 : Shape := ⟨2, ![48, 480]⟩
abbrev S_ : Shape := ⟨0, ![]⟩
abbrev S16 : Shape := ⟨1, ![16]⟩
abbrev S1x56x512 : Shape := ⟨3, ![1, 56, 512]⟩
abbrev S1x48x480 : Shape := ⟨3, ![1, 48, 480]⟩
abbrev S1x16 : Shape := ⟨2, ![1, 16]⟩

abbrev nBuf : Table → Nat
  | .hbm => 2
  | .local .scVector .vmem => 4
  | _ => 0

abbrev bufTy : (tb : Table) → Fin (nBuf tb) → BufTy
  | .hbm, ⟨0, _⟩ => ⟨S128x512x512, .f32⟩
  | .hbm, ⟨1, _⟩ => ⟨S128x480x480, .f32⟩
  | .local .scVector .vmem, ⟨0, _⟩ => ⟨S56x512, .f32⟩
  | .local .scVector .vmem, ⟨1, _⟩ => ⟨S56x512, .f32⟩
  | .local .scVector .vmem, ⟨2, _⟩ => ⟨S48x480, .f32⟩
  | .local .scVector .vmem, ⟨3, _⟩ => ⟨S48x480, .f32⟩
  | _, _ => ⟨S128x512x512, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 4 → Bool
  | ⟨0, _⟩ => false
  | ⟨1, _⟩ => false
  | ⟨2, _⟩ => false
  | ⟨3, _⟩ => false
  | _ => false

abbrev sig : RefSig :=
  ofTables nBuf rfl bufTy 4 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_arg0_scv : Ref sig .scVector := ⟨.hbm, 0, rfl⟩
abbrev main_v0_scv : Ref sig .scVector := ⟨.hbm, 1, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32 : BitVec 32 := 4#32
  let v2 : BitVec 32 := Scalar.muli v1 c4_i32
  let c0_i32 : BitVec 32 := 0#32
  let v4 : BitVec 32 := Scalar.addi v2 c0_i32
  let c0_i32_1 : BitVec 32 := 0#32
  let c0_i32_2 : BitVec 32 := 0#32
  ![v4.toNat, 0, 0]
def k0_off2 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32 : BitVec 32 := 4#32
  let v2 : BitVec 32 := Scalar.muli v1 c4_i32
  let c0_i32_5 : BitVec 32 := 0#32
  let v11 : BitVec 32 := Scalar.addi v2 c0_i32_5
  let c48_i32 : BitVec 32 := 48#32
  let c0_i32_8 : BitVec 32 := 0#32
  ![v11.toNat, 48, 0]
@[reducible] def k0_t1_loop : Scf.Loop 32 :=
  let c0_i32_12 : BitVec 32 := 0#32
  let c20_i32 : BitVec 32 := 20#32
  let v18 : BitVec 32 := Scalar.addi c0_i32_12 c20_i32
  let c1_i32 : BitVec 32 := 1#32
  ⟨c0_i32_12, v18, c1_i32⟩
@[reducible] def k0_t2_loop : Scf.Loop 32 :=
  let c0_i32_49 : BitVec 32 := 0#32
  let c12_i32 : BitVec 32 := 12#32
  let v68 : BitVec 32 := Scalar.addi c0_i32_49 c12_i32
  let c1_i32_50 : BitVec 32 := 1#32
  ⟨c0_i32_49, v68, c1_i32_50⟩

def k0_chk1 (v192 : IVec S16 32) (v195 : IVec S16 32) : Prop :=
  (∀ a x, ((![v192, v195] : Fin 2 → IVec S16 32) a x).toNat < S56x512.size a)
theorem k0_idx1_inb : ∀ (v192 : IVec S16 32) (v195 : IVec S16 32) (k0_hw1 : k0_chk1 v192 v195), ∀ a x, ((![v192, v195] : Fin 2 → IVec S16 32) a x).toNat < S56x512.size a := fun v192 v195 k0_hw1 => k0_hw1
def k0_off3 (k0_t2 : Fin k0_t2_loop.trips) : Fin 2 → Nat :=
  let c0_i32_49 : BitVec 32 := 0#32
  let c1_i32_50 : BitVec 32 := 1#32
  let arg14 : BitVec 32 := Scf.iv c0_i32_49 c1_i32_50 k0_t2
  let c4_i32_122 : BitVec 32 := 4#32
  let v188 : BitVec 32 := Scalar.muli arg14 c4_i32_122
  let c0_i32_123 : BitVec 32 := 0#32
  let v189 : BitVec 32 := Scalar.addi v188 c0_i32_123
  let v197 : Index := Scalar.indexCast v189
  let c0 : Index := 0#32
  ![v197.toNat, 0]

def k0_chk2 (v192 : IVec S16 32) (v201 : IVec S16 32) : Prop :=
  (∀ a x, ((![v192, v201] : Fin 2 → IVec S16 32) a x).toNat < S56x512.size a)
theorem k0_idx2_inb : ∀ (v192 : IVec S16 32) (v201 : IVec S16 32) (k0_hw2 : k0_chk2 v192 v201), ∀ a x, ((![v192, v201] : Fin 2 → IVec S16 32) a x).toNat < S56x512.size a := fun v192 v201 k0_hw2 => k0_hw2
def k0_off4 (k0_t2 : Fin k0_t2_loop.trips) : Fin 2 → Nat :=
  let c0_i32_49 : BitVec 32 := 0#32
  let c1_i32_50 : BitVec 32 := 1#32
  let arg14 : BitVec 32 := Scf.iv c0_i32_49 c1_i32_50 k0_t2
  let c4_i32_122 : BitVec 32 := 4#32
  let v188 : BitVec 32 := Scalar.muli arg14 c4_i32_122
  let c0_i32_123 : BitVec 32 := 0#32
  let v189 : BitVec 32 := Scalar.addi v188 c0_i32_123
  let v203 : Index := Scalar.indexCast v189
  let c16 : Index := 16#32
  ![v203.toNat, 16]

def k0_chk3 (v192 : IVec S16 32) (v207 : IVec S16 32) : Prop :=
  (∀ a x, ((![v192, v207] : Fin 2 → IVec S16 32) a x).toNat < S56x512.size a)
theorem k0_idx3_inb : ∀ (v192 : IVec S16 32) (v207 : IVec S16 32) (k0_hw3 : k0_chk3 v192 v207), ∀ a x, ((![v192, v207] : Fin 2 → IVec S16 32) a x).toNat < S56x512.size a := fun v192 v207 k0_hw3 => k0_hw3
def k0_off5 (k0_t2 : Fin k0_t2_loop.trips) : Fin 2 → Nat :=
  let c0_i32_49 : BitVec 32 := 0#32
  let c1_i32_50 : BitVec 32 := 1#32
  let arg14 : BitVec 32 := Scf.iv c0_i32_49 c1_i32_50 k0_t2
  let c4_i32_122 : BitVec 32 := 4#32
  let v188 : BitVec 32 := Scalar.muli arg14 c4_i32_122
  let c0_i32_123 : BitVec 32 := 0#32
  let v189 : BitVec 32 := Scalar.addi v188 c0_i32_123
  let v209 : Index := Scalar.indexCast v189
  let c32 : Index := 32#32
  ![v209.toNat, 32]

def k0_chk4 (v192 : IVec S16 32) (v213 : IVec S16 32) : Prop :=
  (∀ a x, ((![v192, v213] : Fin 2 → IVec S16 32) a x).toNat < S56x512.size a)
theorem k0_idx4_inb : ∀ (v192 : IVec S16 32) (v213 : IVec S16 32) (k0_hw4 : k0_chk4 v192 v213), ∀ a x, ((![v192, v213] : Fin 2 → IVec S16 32) a x).toNat < S56x512.size a := fun v192 v213 k0_hw4 => k0_hw4
def k0_off6 (k0_t2 : Fin k0_t2_loop.trips) : Fin 2 → Nat :=
  let c0_i32_49 : BitVec 32 := 0#32
  let c1_i32_50 : BitVec 32 := 1#32
  let arg14 : BitVec 32 := Scf.iv c0_i32_49 c1_i32_50 k0_t2
  let c4_i32_122 : BitVec 32 := 4#32
  let v188 : BitVec 32 := Scalar.muli arg14 c4_i32_122
  let c0_i32_123 : BitVec 32 := 0#32
  let v189 : BitVec 32 := Scalar.addi v188 c0_i32_123
  let v215 : Index := Scalar.indexCast v189
  let c48 : Index := 48#32
  ![v215.toNat, 48]

def k0_chk5 (v192 : IVec S16 32) (v219 : IVec S16 32) : Prop :=
  (∀ a x, ((![v192, v219] : Fin 2 → IVec S16 32) a x).toNat < S56x512.size a)
theorem k0_idx5_inb : ∀ (v192 : IVec S16 32) (v219 : IVec S16 32) (k0_hw5 : k0_chk5 v192 v219), ∀ a x, ((![v192, v219] : Fin 2 → IVec S16 32) a x).toNat < S56x512.size a := fun v192 v219 k0_hw5 => k0_hw5
def k0_off7 (k0_t2 : Fin k0_t2_loop.trips) : Fin 2 → Nat :=
  let c0_i32_49 : BitVec 32 := 0#32
  let c1_i32_50 : BitVec 32 := 1#32
  let arg14 : BitVec 32 := Scf.iv c0_i32_49 c1_i32_50 k0_t2
  let c4_i32_122 : BitVec 32 := 4#32
  let v188 : BitVec 32 := Scalar.muli arg14 c4_i32_122
  let c0_i32_123 : BitVec 32 := 0#32
  let v189 : BitVec 32 := Scalar.addi v188 c0_i32_123
  let v221 : Index := Scalar.indexCast v189
  let c64 : Index := 64#32
  ![v221.toNat, 64]

def k0_chk6 (v192 : IVec S16 32) (v225 : IVec S16 32) : Prop :=
  (∀ a x, ((![v192, v225] : Fin 2 → IVec S16 32) a x).toNat < S56x512.size a)
theorem k0_idx6_inb : ∀ (v192 : IVec S16 32) (v225 : IVec S16 32) (k0_hw6 : k0_chk6 v192 v225), ∀ a x, ((![v192, v225] : Fin 2 → IVec S16 32) a x).toNat < S56x512.size a := fun v192 v225 k0_hw6 => k0_hw6
def k0_off8 (k0_t2 : Fin k0_t2_loop.trips) : Fin 2 → Nat :=
  let c0_i32_49 : BitVec 32 := 0#32
  let c1_i32_50 : BitVec 32 := 1#32
  let arg14 : BitVec 32 := Scf.iv c0_i32_49 c1_i32_50 k0_t2
  let c4_i32_122 : BitVec 32 := 4#32
  let v188 : BitVec 32 := Scalar.muli arg14 c4_i32_122
  let c0_i32_123 : BitVec 32 := 0#32
  let v189 : BitVec 32 := Scalar.addi v188 c0_i32_123
  let v227 : Index := Scalar.indexCast v189
  let c80 : Index := 80#32
  ![v227.toNat, 80]

def k0_chk7 (v192 : IVec S16 32) (v231 : IVec S16 32) : Prop :=
  (∀ a x, ((![v192, v231] : Fin 2 → IVec S16 32) a x).toNat < S56x512.size a)
theorem k0_idx7_inb : ∀ (v192 : IVec S16 32) (v231 : IVec S16 32) (k0_hw7 : k0_chk7 v192 v231), ∀ a x, ((![v192, v231] : Fin 2 → IVec S16 32) a x).toNat < S56x512.size a := fun v192 v231 k0_hw7 => k0_hw7
def k0_off9 (k0_t2 : Fin k0_t2_loop.trips) : Fin 2 → Nat :=
  let c0_i32_49 : BitVec 32 := 0#32
  let c1_i32_50 : BitVec 32 := 1#32
  let arg14 : BitVec 32 := Scf.iv c0_i32_49 c1_i32_50 k0_t2
  let c4_i32_122 : BitVec 32 := 4#32
  let v188 : BitVec 32 := Scalar.muli arg14 c4_i32_122
  let c0_i32_123 : BitVec 32 := 0#32
  let v189 : BitVec 32 := Scalar.addi v188 c0_i32_123
  let v233 : Index := Scalar.indexCast v189
  let c96 : Index := 96#32
  ![v233.toNat, 96]

def k0_chk8 (v192 : IVec S16 32) (v237 : IVec S16 32) : Prop :=
  (∀ a x, ((![v192, v237] : Fin 2 → IVec S16 32) a x).toNat < S56x512.size a)
theorem k0_idx8_inb : ∀ (v192 : IVec S16 32) (v237 : IVec S16 32) (k0_hw8 : k0_chk8 v192 v237), ∀ a x, ((![v192, v237] : Fin 2 → IVec S16 32) a x).toNat < S56x512.size a := fun v192 v237 k0_hw8 => k0_hw8
def k0_off10 (k0_t2 : Fin k0_t2_loop.trips) : Fin 2 → Nat :=
  let c0_i32_49 : BitVec 32 := 0#32
  let c1_i32_50 : BitVec 32 := 1#32
  let arg14 : BitVec 32 := Scf.iv c0_i32_49 c1_i32_50 k0_t2
  let c4_i32_122 : BitVec 32 := 4#32
  let v188 : BitVec 32 := Scalar.muli arg14 c4_i32_122
  let c0_i32_123 : BitVec 32 := 0#32
  let v189 : BitVec 32 := Scalar.addi v188 c0_i32_123
  let v239 : Index := Scalar.indexCast v189
  let c112 : Index := 112#32
  ![v239.toNat, 112]

def k0_chk9 (v192 : IVec S16 32) (v243 : IVec S16 32) : Prop :=
  (∀ a x, ((![v192, v243] : Fin 2 → IVec S16 32) a x).toNat < S56x512.size a)
theorem k0_idx9_inb : ∀ (v192 : IVec S16 32) (v243 : IVec S16 32) (k0_hw9 : k0_chk9 v192 v243), ∀ a x, ((![v192, v243] : Fin 2 → IVec S16 32) a x).toNat < S56x512.size a := fun v192 v243 k0_hw9 => k0_hw9
def k0_off11 (k0_t2 : Fin k0_t2_loop.trips) : Fin 2 → Nat :=
  let c0_i32_49 : BitVec 32 := 0#32
  let c1_i32_50 : BitVec 32 := 1#32
  let arg14 : BitVec 32 := Scf.iv c0_i32_49 c1_i32_50 k0_t2
  let c4_i32_122 : BitVec 32 := 4#32
  let v188 : BitVec 32 := Scalar.muli arg14 c4_i32_122
  let c0_i32_123 : BitVec 32 := 0#32
  let v189 : BitVec 32 := Scalar.addi v188 c0_i32_123
  let v245 : Index := Scalar.indexCast v189
  let c128 : Index := 128#32
  ![v245.toNat, 128]

def k0_chk10 (v192 : IVec S16 32) (v249 : IVec S16 32) : Prop :=
  (∀ a x, ((![v192, v249] : Fin 2 → IVec S16 32) a x).toNat < S56x512.size a)
theorem k0_idx10_inb : ∀ (v192 : IVec S16 32) (v249 : IVec S16 32) (k0_hw10 : k0_chk10 v192 v249), ∀ a x, ((![v192, v249] : Fin 2 → IVec S16 32) a x).toNat < S56x512.size a := fun v192 v249 k0_hw10 => k0_hw10
def k0_off12 (k0_t2 : Fin k0_t2_loop.trips) : Fin 2 → Nat :=
  let c0_i32_49 : BitVec 32 := 0#32
  let c1_i32_50 : BitVec 32 := 1#32
  let arg14 : BitVec 32 := Scf.iv c0_i32_49 c1_i32_50 k0_t2
  let c4_i32_122 : BitVec 32 := 4#32
  let v188 : BitVec 32 := Scalar.muli arg14 c4_i32_122
  let c0_i32_123 : BitVec 32 := 0#32
  let v189 : BitVec 32 := Scalar.addi v188 c0_i32_123
  let v251 : Index := Scalar.indexCast v189
  let c144 : Index := 144#32
  ![v251.toNat, 144]

def k0_chk11 (v192 : IVec S16 32) (v255 : IVec S16 32) : Prop :=
  (∀ a x, ((![v192, v255] : Fin 2 → IVec S16 32) a x).toNat < S56x512.size a)
theorem k0_idx11_inb : ∀ (v192 : IVec S16 32) (v255 : IVec S16 32) (k0_hw11 : k0_chk11 v192 v255), ∀ a x, ((![v192, v255] : Fin 2 → IVec S16 32) a x).toNat < S56x512.size a := fun v192 v255 k0_hw11 => k0_hw11
def k0_off13 (k0_t2 : Fin k0_t2_loop.trips) : Fin 2 → Nat :=
  let c0_i32_49 : BitVec 32 := 0#32
  let c1_i32_50 : BitVec 32 := 1#32
  let arg14 : BitVec 32 := Scf.iv c0_i32_49 c1_i32_50 k0_t2
  let c4_i32_122 : BitVec 32 := 4#32
  let v188 : BitVec 32 := Scalar.muli arg14 c4_i32_122
  let c0_i32_123 : BitVec 32 := 0#32
  let v189 : BitVec 32 := Scalar.addi v188 c0_i32_123
  let v257 : Index := Scalar.indexCast v189
  let c160 : Index := 160#32
  ![v257.toNat, 160]

def k0_chk12 (v192 : IVec S16 32) (v261 : IVec S16 32) : Prop :=
  (∀ a x, ((![v192, v261] : Fin 2 → IVec S16 32) a x).toNat < S56x512.size a)
theorem k0_idx12_inb : ∀ (v192 : IVec S16 32) (v261 : IVec S16 32) (k0_hw12 : k0_chk12 v192 v261), ∀ a x, ((![v192, v261] : Fin 2 → IVec S16 32) a x).toNat < S56x512.size a := fun v192 v261 k0_hw12 => k0_hw12
def k0_off14 (k0_t2 : Fin k0_t2_loop.trips) : Fin 2 → Nat :=
  let c0_i32_49 : BitVec 32 := 0#32
  let c1_i32_50 : BitVec 32 := 1#32
  let arg14 : BitVec 32 := Scf.iv c0_i32_49 c1_i32_50 k0_t2
  let c4_i32_122 : BitVec 32 := 4#32
  let v188 : BitVec 32 := Scalar.muli arg14 c4_i32_122
  let c0_i32_123 : BitVec 32 := 0#32
  let v189 : BitVec 32 := Scalar.addi v188 c0_i32_123
  let v263 : Index := Scalar.indexCast v189
  let c176 : Index := 176#32
  ![v263.toNat, 176]

def k0_chk13 (v192 : IVec S16 32) (v267 : IVec S16 32) : Prop :=
  (∀ a x, ((![v192, v267] : Fin 2 → IVec S16 32) a x).toNat < S56x512.size a)
theorem k0_idx13_inb : ∀ (v192 : IVec S16 32) (v267 : IVec S16 32) (k0_hw13 : k0_chk13 v192 v267), ∀ a x, ((![v192, v267] : Fin 2 → IVec S16 32) a x).toNat < S56x512.size a := fun v192 v267 k0_hw13 => k0_hw13
def k0_off15 (k0_t2 : Fin k0_t2_loop.trips) : Fin 2 → Nat :=
  let c0_i32_49 : BitVec 32 := 0#32
  let c1_i32_50 : BitVec 32 := 1#32
  let arg14 : BitVec 32 := Scf.iv c0_i32_49 c1_i32_50 k0_t2
  let c4_i32_122 : BitVec 32 := 4#32
  let v188 : BitVec 32 := Scalar.muli arg14 c4_i32_122
  let c0_i32_123 : BitVec 32 := 0#32
  let v189 : BitVec 32 := Scalar.addi v188 c0_i32_123
  let v269 : Index := Scalar.indexCast v189
  let c192 : Index := 192#32
  ![v269.toNat, 192]

def k0_chk14 (v192 : IVec S16 32) (v273 : IVec S16 32) : Prop :=
  (∀ a x, ((![v192, v273] : Fin 2 → IVec S16 32) a x).toNat < S56x512.size a)
theorem k0_idx14_inb : ∀ (v192 : IVec S16 32) (v273 : IVec S16 32) (k0_hw14 : k0_chk14 v192 v273), ∀ a x, ((![v192, v273] : Fin 2 → IVec S16 32) a x).toNat < S56x512.size a := fun v192 v273 k0_hw14 => k0_hw14
def k0_off16 (k0_t2 : Fin k0_t2_loop.trips) : Fin 2 → Nat :=
  let c0_i32_49 : BitVec 32 := 0#32
  let c1_i32_50 : BitVec 32 := 1#32
  let arg14 : BitVec 32 := Scf.iv c0_i32_49 c1_i32_50 k0_t2
  let c4_i32_122 : BitVec 32 := 4#32
  let v188 : BitVec 32 := Scalar.muli arg14 c4_i32_122
  let c0_i32_123 : BitVec 32 := 0#32
  let v189 : BitVec 32 := Scalar.addi v188 c0_i32_123
  let v275 : Index := Scalar.indexCast v189
  let c208 : Index := 208#32
  ![v275.toNat, 208]

def k0_chk15 (v192 : IVec S16 32) (v279 : IVec S16 32) : Prop :=
  (∀ a x, ((![v192, v279] : Fin 2 → IVec S16 32) a x).toNat < S56x512.size a)
theorem k0_idx15_inb : ∀ (v192 : IVec S16 32) (v279 : IVec S16 32) (k0_hw15 : k0_chk15 v192 v279), ∀ a x, ((![v192, v279] : Fin 2 → IVec S16 32) a x).toNat < S56x512.size a := fun v192 v279 k0_hw15 => k0_hw15
def k0_off17 (k0_t2 : Fin k0_t2_loop.trips) : Fin 2 → Nat :=
  let c0_i32_49 : BitVec 32 := 0#32
  let c1_i32_50 : BitVec 32 := 1#32
  let arg14 : BitVec 32 := Scf.iv c0_i32_49 c1_i32_50 k0_t2
  let c4_i32_122 : BitVec 32 := 4#32
  let v188 : BitVec 32 := Scalar.muli arg14 c4_i32_122
  let c0_i32_123 : BitVec 32 := 0#32
  let v189 : BitVec 32 := Scalar.addi v188 c0_i32_123
  let v281 : Index := Scalar.indexCast v189
  let c224 : Index := 224#32
  ![v281.toNat, 224]

def k0_chk16 (v192 : IVec S16 32) (v285 : IVec S16 32) : Prop :=
  (∀ a x, ((![v192, v285] : Fin 2 → IVec S16 32) a x).toNat < S56x512.size a)
theorem k0_idx16_inb : ∀ (v192 : IVec S16 32) (v285 : IVec S16 32) (k0_hw16 : k0_chk16 v192 v285), ∀ a x, ((![v192, v285] : Fin 2 → IVec S16 32) a x).toNat < S56x512.size a := fun v192 v285 k0_hw16 => k0_hw16
def k0_off18 (k0_t2 : Fin k0_t2_loop.trips) : Fin 2 → Nat :=
  let c0_i32_49 : BitVec 32 := 0#32
  let c1_i32_50 : BitVec 32 := 1#32
  let arg14 : BitVec 32 := Scf.iv c0_i32_49 c1_i32_50 k0_t2
  let c4_i32_122 : BitVec 32 := 4#32
  let v188 : BitVec 32 := Scalar.muli arg14 c4_i32_122
  let c0_i32_123 : BitVec 32 := 0#32
  let v189 : BitVec 32 := Scalar.addi v188 c0_i32_123
  let v287 : Index := Scalar.indexCast v189
  let c240 : Index := 240#32
  ![v287.toNat, 240]

def k0_chk17 (v192 : IVec S16 32) (v291 : IVec S16 32) : Prop :=
  (∀ a x, ((![v192, v291] : Fin 2 → IVec S16 32) a x).toNat < S56x512.size a)
theorem k0_idx17_inb : ∀ (v192 : IVec S16 32) (v291 : IVec S16 32) (k0_hw17 : k0_chk17 v192 v291), ∀ a x, ((![v192, v291] : Fin 2 → IVec S16 32) a x).toNat < S56x512.size a := fun v192 v291 k0_hw17 => k0_hw17
def k0_off19 (k0_t2 : Fin k0_t2_loop.trips) : Fin 2 → Nat :=
  let c0_i32_49 : BitVec 32 := 0#32
  let c1_i32_50 : BitVec 32 := 1#32
  let arg14 : BitVec 32 := Scf.iv c0_i32_49 c1_i32_50 k0_t2
  let c4_i32_122 : BitVec 32 := 4#32
  let v188 : BitVec 32 := Scalar.muli arg14 c4_i32_122
  let c0_i32_123 : BitVec 32 := 0#32
  let v189 : BitVec 32 := Scalar.addi v188 c0_i32_123
  let v293 : Index := Scalar.indexCast v189
  let c256 : Index := 256#32
  ![v293.toNat, 256]

def k0_chk18 (v192 : IVec S16 32) (v297 : IVec S16 32) : Prop :=
  (∀ a x, ((![v192, v297] : Fin 2 → IVec S16 32) a x).toNat < S56x512.size a)
theorem k0_idx18_inb : ∀ (v192 : IVec S16 32) (v297 : IVec S16 32) (k0_hw18 : k0_chk18 v192 v297), ∀ a x, ((![v192, v297] : Fin 2 → IVec S16 32) a x).toNat < S56x512.size a := fun v192 v297 k0_hw18 => k0_hw18
def k0_off20 (k0_t2 : Fin k0_t2_loop.trips) : Fin 2 → Nat :=
  let c0_i32_49 : BitVec 32 := 0#32
  let c1_i32_50 : BitVec 32 := 1#32
  let arg14 : BitVec 32 := Scf.iv c0_i32_49 c1_i32_50 k0_t2
  let c4_i32_122 : BitVec 32 := 4#32
  let v188 : BitVec 32 := Scalar.muli arg14 c4_i32_122
  let c0_i32_123 : BitVec 32 := 0#32
  let v189 : BitVec 32 := Scalar.addi v188 c0_i32_123
  let v299 : Index := Scalar.indexCast v189
  let c272 : Index := 272#32
  ![v299.toNat, 272]

def k0_chk19 (v192 : IVec S16 32) (v303 : IVec S16 32) : Prop :=
  (∀ a x, ((![v192, v303] : Fin 2 → IVec S16 32) a x).toNat < S56x512.size a)
theorem k0_idx19_inb : ∀ (v192 : IVec S16 32) (v303 : IVec S16 32) (k0_hw19 : k0_chk19 v192 v303), ∀ a x, ((![v192, v303] : Fin 2 → IVec S16 32) a x).toNat < S56x512.size a := fun v192 v303 k0_hw19 => k0_hw19
def k0_off21 (k0_t2 : Fin k0_t2_loop.trips) : Fin 2 → Nat :=
  let c0_i32_49 : BitVec 32 := 0#32
  let c1_i32_50 : BitVec 32 := 1#32
  let arg14 : BitVec 32 := Scf.iv c0_i32_49 c1_i32_50 k0_t2
  let c4_i32_122 : BitVec 32 := 4#32
  let v188 : BitVec 32 := Scalar.muli arg14 c4_i32_122
  let c0_i32_123 : BitVec 32 := 0#32
  let v189 : BitVec 32 := Scalar.addi v188 c0_i32_123
  let v305 : Index := Scalar.indexCast v189
  let c288 : Index := 288#32
  ![v305.toNat, 288]

def k0_chk20 (v192 : IVec S16 32) (v309 : IVec S16 32) : Prop :=
  (∀ a x, ((![v192, v309] : Fin 2 → IVec S16 32) a x).toNat < S56x512.size a)
theorem k0_idx20_inb : ∀ (v192 : IVec S16 32) (v309 : IVec S16 32) (k0_hw20 : k0_chk20 v192 v309), ∀ a x, ((![v192, v309] : Fin 2 → IVec S16 32) a x).toNat < S56x512.size a := fun v192 v309 k0_hw20 => k0_hw20
def k0_off22 (k0_t2 : Fin k0_t2_loop.trips) : Fin 2 → Nat :=
  let c0_i32_49 : BitVec 32 := 0#32
  let c1_i32_50 : BitVec 32 := 1#32
  let arg14 : BitVec 32 := Scf.iv c0_i32_49 c1_i32_50 k0_t2
  let c4_i32_122 : BitVec 32 := 4#32
  let v188 : BitVec 32 := Scalar.muli arg14 c4_i32_122
  let c0_i32_123 : BitVec 32 := 0#32
  let v189 : BitVec 32 := Scalar.addi v188 c0_i32_123
  let v311 : Index := Scalar.indexCast v189
  let c304 : Index := 304#32
  ![v311.toNat, 304]

def k0_chk21 (v192 : IVec S16 32) (v315 : IVec S16 32) : Prop :=
  (∀ a x, ((![v192, v315] : Fin 2 → IVec S16 32) a x).toNat < S56x512.size a)
theorem k0_idx21_inb : ∀ (v192 : IVec S16 32) (v315 : IVec S16 32) (k0_hw21 : k0_chk21 v192 v315), ∀ a x, ((![v192, v315] : Fin 2 → IVec S16 32) a x).toNat < S56x512.size a := fun v192 v315 k0_hw21 => k0_hw21
def k0_off23 (k0_t2 : Fin k0_t2_loop.trips) : Fin 2 → Nat :=
  let c0_i32_49 : BitVec 32 := 0#32
  let c1_i32_50 : BitVec 32 := 1#32
  let arg14 : BitVec 32 := Scf.iv c0_i32_49 c1_i32_50 k0_t2
  let c4_i32_122 : BitVec 32 := 4#32
  let v188 : BitVec 32 := Scalar.muli arg14 c4_i32_122
  let c0_i32_123 : BitVec 32 := 0#32
  let v189 : BitVec 32 := Scalar.addi v188 c0_i32_123
  let v317 : Index := Scalar.indexCast v189
  let c320 : Index := 320#32
  ![v317.toNat, 320]

def k0_chk22 (v192 : IVec S16 32) (v321 : IVec S16 32) : Prop :=
  (∀ a x, ((![v192, v321] : Fin 2 → IVec S16 32) a x).toNat < S56x512.size a)
theorem k0_idx22_inb : ∀ (v192 : IVec S16 32) (v321 : IVec S16 32) (k0_hw22 : k0_chk22 v192 v321), ∀ a x, ((![v192, v321] : Fin 2 → IVec S16 32) a x).toNat < S56x512.size a := fun v192 v321 k0_hw22 => k0_hw22
def k0_off24 (k0_t2 : Fin k0_t2_loop.trips) : Fin 2 → Nat :=
  let c0_i32_49 : BitVec 32 := 0#32
  let c1_i32_50 : BitVec 32 := 1#32
  let arg14 : BitVec 32 := Scf.iv c0_i32_49 c1_i32_50 k0_t2
  let c4_i32_122 : BitVec 32 := 4#32
  let v188 : BitVec 32 := Scalar.muli arg14 c4_i32_122
  let c0_i32_123 : BitVec 32 := 0#32
  let v189 : BitVec 32 := Scalar.addi v188 c0_i32_123
  let v323 : Index := Scalar.indexCast v189
  let c336 : Index := 336#32
  ![v323.toNat, 336]

def k0_chk23 (v192 : IVec S16 32) (v327 : IVec S16 32) : Prop :=
  (∀ a x, ((![v192, v327] : Fin 2 → IVec S16 32) a x).toNat < S56x512.size a)
theorem k0_idx23_inb : ∀ (v192 : IVec S16 32) (v327 : IVec S16 32) (k0_hw23 : k0_chk23 v192 v327), ∀ a x, ((![v192, v327] : Fin 2 → IVec S16 32) a x).toNat < S56x512.size a := fun v192 v327 k0_hw23 => k0_hw23
def k0_off25 (k0_t2 : Fin k0_t2_loop.trips) : Fin 2 → Nat :=
  let c0_i32_49 : BitVec 32 := 0#32
  let c1_i32_50 : BitVec 32 := 1#32
  let arg14 : BitVec 32 := Scf.iv c0_i32_49 c1_i32_50 k0_t2
  let c4_i32_122 : BitVec 32 := 4#32
  let v188 : BitVec 32 := Scalar.muli arg14 c4_i32_122
  let c0_i32_123 : BitVec 32 := 0#32
  let v189 : BitVec 32 := Scalar.addi v188 c0_i32_123
  let v329 : Index := Scalar.indexCast v189
  let c352 : Index := 352#32
  ![v329.toNat, 352]

def k0_chk24 (v192 : IVec S16 32) (v333 : IVec S16 32) : Prop :=
  (∀ a x, ((![v192, v333] : Fin 2 → IVec S16 32) a x).toNat < S56x512.size a)
theorem k0_idx24_inb : ∀ (v192 : IVec S16 32) (v333 : IVec S16 32) (k0_hw24 : k0_chk24 v192 v333), ∀ a x, ((![v192, v333] : Fin 2 → IVec S16 32) a x).toNat < S56x512.size a := fun v192 v333 k0_hw24 => k0_hw24
def k0_off26 (k0_t2 : Fin k0_t2_loop.trips) : Fin 2 → Nat :=
  let c0_i32_49 : BitVec 32 := 0#32
  let c1_i32_50 : BitVec 32 := 1#32
  let arg14 : BitVec 32 := Scf.iv c0_i32_49 c1_i32_50 k0_t2
  let c4_i32_122 : BitVec 32 := 4#32
  let v188 : BitVec 32 := Scalar.muli arg14 c4_i32_122
  let c0_i32_123 : BitVec 32 := 0#32
  let v189 : BitVec 32 := Scalar.addi v188 c0_i32_123
  let v335 : Index := Scalar.indexCast v189
  let c368 : Index := 368#32
  ![v335.toNat, 368]

def k0_chk25 (v192 : IVec S16 32) (v339 : IVec S16 32) : Prop :=
  (∀ a x, ((![v192, v339] : Fin 2 → IVec S16 32) a x).toNat < S56x512.size a)
theorem k0_idx25_inb : ∀ (v192 : IVec S16 32) (v339 : IVec S16 32) (k0_hw25 : k0_chk25 v192 v339), ∀ a x, ((![v192, v339] : Fin 2 → IVec S16 32) a x).toNat < S56x512.size a := fun v192 v339 k0_hw25 => k0_hw25
def k0_off27 (k0_t2 : Fin k0_t2_loop.trips) : Fin 2 → Nat :=
  let c0_i32_49 : BitVec 32 := 0#32
  let c1_i32_50 : BitVec 32 := 1#32
  let arg14 : BitVec 32 := Scf.iv c0_i32_49 c1_i32_50 k0_t2
  let c4_i32_122 : BitVec 32 := 4#32
  let v188 : BitVec 32 := Scalar.muli arg14 c4_i32_122
  let c0_i32_123 : BitVec 32 := 0#32
  let v189 : BitVec 32 := Scalar.addi v188 c0_i32_123
  let v341 : Index := Scalar.indexCast v189
  let c384 : Index := 384#32
  ![v341.toNat, 384]

def k0_chk26 (v192 : IVec S16 32) (v345 : IVec S16 32) : Prop :=
  (∀ a x, ((![v192, v345] : Fin 2 → IVec S16 32) a x).toNat < S56x512.size a)
theorem k0_idx26_inb : ∀ (v192 : IVec S16 32) (v345 : IVec S16 32) (k0_hw26 : k0_chk26 v192 v345), ∀ a x, ((![v192, v345] : Fin 2 → IVec S16 32) a x).toNat < S56x512.size a := fun v192 v345 k0_hw26 => k0_hw26
def k0_off28 (k0_t2 : Fin k0_t2_loop.trips) : Fin 2 → Nat :=
  let c0_i32_49 : BitVec 32 := 0#32
  let c1_i32_50 : BitVec 32 := 1#32
  let arg14 : BitVec 32 := Scf.iv c0_i32_49 c1_i32_50 k0_t2
  let c4_i32_122 : BitVec 32 := 4#32
  let v188 : BitVec 32 := Scalar.muli arg14 c4_i32_122
  let c0_i32_123 : BitVec 32 := 0#32
  let v189 : BitVec 32 := Scalar.addi v188 c0_i32_123
  let v347 : Index := Scalar.indexCast v189
  let c400 : Index := 400#32
  ![v347.toNat, 400]

def k0_chk27 (v192 : IVec S16 32) (v351 : IVec S16 32) : Prop :=
  (∀ a x, ((![v192, v351] : Fin 2 → IVec S16 32) a x).toNat < S56x512.size a)
theorem k0_idx27_inb : ∀ (v192 : IVec S16 32) (v351 : IVec S16 32) (k0_hw27 : k0_chk27 v192 v351), ∀ a x, ((![v192, v351] : Fin 2 → IVec S16 32) a x).toNat < S56x512.size a := fun v192 v351 k0_hw27 => k0_hw27
def k0_off29 (k0_t2 : Fin k0_t2_loop.trips) : Fin 2 → Nat :=
  let c0_i32_49 : BitVec 32 := 0#32
  let c1_i32_50 : BitVec 32 := 1#32
  let arg14 : BitVec 32 := Scf.iv c0_i32_49 c1_i32_50 k0_t2
  let c4_i32_122 : BitVec 32 := 4#32
  let v188 : BitVec 32 := Scalar.muli arg14 c4_i32_122
  let c0_i32_123 : BitVec 32 := 0#32
  let v189 : BitVec 32 := Scalar.addi v188 c0_i32_123
  let v353 : Index := Scalar.indexCast v189
  let c416 : Index := 416#32
  ![v353.toNat, 416]

def k0_chk28 (v192 : IVec S16 32) (v357 : IVec S16 32) : Prop :=
  (∀ a x, ((![v192, v357] : Fin 2 → IVec S16 32) a x).toNat < S56x512.size a)
theorem k0_idx28_inb : ∀ (v192 : IVec S16 32) (v357 : IVec S16 32) (k0_hw28 : k0_chk28 v192 v357), ∀ a x, ((![v192, v357] : Fin 2 → IVec S16 32) a x).toNat < S56x512.size a := fun v192 v357 k0_hw28 => k0_hw28
def k0_off30 (k0_t2 : Fin k0_t2_loop.trips) : Fin 2 → Nat :=
  let c0_i32_49 : BitVec 32 := 0#32
  let c1_i32_50 : BitVec 32 := 1#32
  let arg14 : BitVec 32 := Scf.iv c0_i32_49 c1_i32_50 k0_t2
  let c4_i32_122 : BitVec 32 := 4#32
  let v188 : BitVec 32 := Scalar.muli arg14 c4_i32_122
  let c0_i32_123 : BitVec 32 := 0#32
  let v189 : BitVec 32 := Scalar.addi v188 c0_i32_123
  let v359 : Index := Scalar.indexCast v189
  let c432 : Index := 432#32
  ![v359.toNat, 432]

def k0_chk29 (v192 : IVec S16 32) (v363 : IVec S16 32) : Prop :=
  (∀ a x, ((![v192, v363] : Fin 2 → IVec S16 32) a x).toNat < S56x512.size a)
theorem k0_idx29_inb : ∀ (v192 : IVec S16 32) (v363 : IVec S16 32) (k0_hw29 : k0_chk29 v192 v363), ∀ a x, ((![v192, v363] : Fin 2 → IVec S16 32) a x).toNat < S56x512.size a := fun v192 v363 k0_hw29 => k0_hw29
def k0_off31 (k0_t2 : Fin k0_t2_loop.trips) : Fin 2 → Nat :=
  let c0_i32_49 : BitVec 32 := 0#32
  let c1_i32_50 : BitVec 32 := 1#32
  let arg14 : BitVec 32 := Scf.iv c0_i32_49 c1_i32_50 k0_t2
  let c4_i32_122 : BitVec 32 := 4#32
  let v188 : BitVec 32 := Scalar.muli arg14 c4_i32_122
  let c0_i32_123 : BitVec 32 := 0#32
  let v189 : BitVec 32 := Scalar.addi v188 c0_i32_123
  let v365 : Index := Scalar.indexCast v189
  let c448 : Index := 448#32
  ![v365.toNat, 448]

def k0_chk30 (v192 : IVec S16 32) (v369 : IVec S16 32) : Prop :=
  (∀ a x, ((![v192, v369] : Fin 2 → IVec S16 32) a x).toNat < S56x512.size a)
theorem k0_idx30_inb : ∀ (v192 : IVec S16 32) (v369 : IVec S16 32) (k0_hw30 : k0_chk30 v192 v369), ∀ a x, ((![v192, v369] : Fin 2 → IVec S16 32) a x).toNat < S56x512.size a := fun v192 v369 k0_hw30 => k0_hw30
def k0_off32 (k0_t2 : Fin k0_t2_loop.trips) : Fin 2 → Nat :=
  let c0_i32_49 : BitVec 32 := 0#32
  let c1_i32_50 : BitVec 32 := 1#32
  let arg14 : BitVec 32 := Scf.iv c0_i32_49 c1_i32_50 k0_t2
  let c4_i32_122 : BitVec 32 := 4#32
  let v188 : BitVec 32 := Scalar.muli arg14 c4_i32_122
  let c0_i32_123 : BitVec 32 := 0#32
  let v189 : BitVec 32 := Scalar.addi v188 c0_i32_123
  let v371 : Index := Scalar.indexCast v189
  let c464 : Index := 464#32
  ![v371.toNat, 464]

def k0_chk31 (v377 : IVec S16 32) (v380 : IVec S16 32) : Prop :=
  (∀ a x, ((![v377, v380] : Fin 2 → IVec S16 32) a x).toNat < S56x512.size a)
theorem k0_idx31_inb : ∀ (v377 : IVec S16 32) (v380 : IVec S16 32) (k0_hw31 : k0_chk31 v377 v380), ∀ a x, ((![v377, v380] : Fin 2 → IVec S16 32) a x).toNat < S56x512.size a := fun v377 v380 k0_hw31 => k0_hw31
def k0_off33 (k0_t2 : Fin k0_t2_loop.trips) : Fin 2 → Nat :=
  let c0_i32_49 : BitVec 32 := 0#32
  let c1_i32_50 : BitVec 32 := 1#32
  let arg14 : BitVec 32 := Scf.iv c0_i32_49 c1_i32_50 k0_t2
  let c4_i32_126 : BitVec 32 := 4#32
  let v373 : BitVec 32 := Scalar.muli arg14 c4_i32_126
  let c1_i32_127 : BitVec 32 := 1#32
  let v374 : BitVec 32 := Scalar.addi v373 c1_i32_127
  let v382 : Index := Scalar.indexCast v374
  let c0_129 : Index := 0#32
  ![v382.toNat, 0]

def k0_chk32 (v377 : IVec S16 32) (v386 : IVec S16 32) : Prop :=
  (∀ a x, ((![v377, v386] : Fin 2 → IVec S16 32) a x).toNat < S56x512.size a)
theorem k0_idx32_inb : ∀ (v377 : IVec S16 32) (v386 : IVec S16 32) (k0_hw32 : k0_chk32 v377 v386), ∀ a x, ((![v377, v386] : Fin 2 → IVec S16 32) a x).toNat < S56x512.size a := fun v377 v386 k0_hw32 => k0_hw32
def k0_off34 (k0_t2 : Fin k0_t2_loop.trips) : Fin 2 → Nat :=
  let c0_i32_49 : BitVec 32 := 0#32
  let c1_i32_50 : BitVec 32 := 1#32
  let arg14 : BitVec 32 := Scf.iv c0_i32_49 c1_i32_50 k0_t2
  let c4_i32_126 : BitVec 32 := 4#32
  let v373 : BitVec 32 := Scalar.muli arg14 c4_i32_126
  let c1_i32_127 : BitVec 32 := 1#32
  let v374 : BitVec 32 := Scalar.addi v373 c1_i32_127
  let v388 : Index := Scalar.indexCast v374
  let c16_131 : Index := 16#32
  ![v388.toNat, 16]

def k0_chk33 (v377 : IVec S16 32) (v392 : IVec S16 32) : Prop :=
  (∀ a x, ((![v377, v392] : Fin 2 → IVec S16 32) a x).toNat < S56x512.size a)
theorem k0_idx33_inb : ∀ (v377 : IVec S16 32) (v392 : IVec S16 32) (k0_hw33 : k0_chk33 v377 v392), ∀ a x, ((![v377, v392] : Fin 2 → IVec S16 32) a x).toNat < S56x512.size a := fun v377 v392 k0_hw33 => k0_hw33
def k0_off35 (k0_t2 : Fin k0_t2_loop.trips) : Fin 2 → Nat :=
  let c0_i32_49 : BitVec 32 := 0#32
  let c1_i32_50 : BitVec 32 := 1#32
  let arg14 : BitVec 32 := Scf.iv c0_i32_49 c1_i32_50 k0_t2
  let c4_i32_126 : BitVec 32 := 4#32
  let v373 : BitVec 32 := Scalar.muli arg14 c4_i32_126
  let c1_i32_127 : BitVec 32 := 1#32
  let v374 : BitVec 32 := Scalar.addi v373 c1_i32_127
  let v394 : Index := Scalar.indexCast v374
  let c32_133 : Index := 32#32
  ![v394.toNat, 32]

def k0_chk34 (v377 : IVec S16 32) (v398 : IVec S16 32) : Prop :=
  (∀ a x, ((![v377, v398] : Fin 2 → IVec S16 32) a x).toNat < S56x512.size a)
theorem k0_idx34_inb : ∀ (v377 : IVec S16 32) (v398 : IVec S16 32) (k0_hw34 : k0_chk34 v377 v398), ∀ a x, ((![v377, v398] : Fin 2 → IVec S16 32) a x).toNat < S56x512.size a := fun v377 v398 k0_hw34 => k0_hw34
def k0_off36 (k0_t2 : Fin k0_t2_loop.trips) : Fin 2 → Nat :=
  let c0_i32_49 : BitVec 32 := 0#32
  let c1_i32_50 : BitVec 32 := 1#32
  let arg14 : BitVec 32 := Scf.iv c0_i32_49 c1_i32_50 k0_t2
  let c4_i32_126 : BitVec 32 := 4#32
  let v373 : BitVec 32 := Scalar.muli arg14 c4_i32_126
  let c1_i32_127 : BitVec 32 := 1#32
  let v374 : BitVec 32 := Scalar.addi v373 c1_i32_127
  let v400 : Index := Scalar.indexCast v374
  let c48_135 : Index := 48#32
  ![v400.toNat, 48]

def k0_chk35 (v377 : IVec S16 32) (v404 : IVec S16 32) : Prop :=
  (∀ a x, ((![v377, v404] : Fin 2 → IVec S16 32) a x).toNat < S56x512.size a)
theorem k0_idx35_inb : ∀ (v377 : IVec S16 32) (v404 : IVec S16 32) (k0_hw35 : k0_chk35 v377 v404), ∀ a x, ((![v377, v404] : Fin 2 → IVec S16 32) a x).toNat < S56x512.size a := fun v377 v404 k0_hw35 => k0_hw35
def k0_off37 (k0_t2 : Fin k0_t2_loop.trips) : Fin 2 → Nat :=
  let c0_i32_49 : BitVec 32 := 0#32
  let c1_i32_50 : BitVec 32 := 1#32
  let arg14 : BitVec 32 := Scf.iv c0_i32_49 c1_i32_50 k0_t2
  let c4_i32_126 : BitVec 32 := 4#32
  let v373 : BitVec 32 := Scalar.muli arg14 c4_i32_126
  let c1_i32_127 : BitVec 32 := 1#32
  let v374 : BitVec 32 := Scalar.addi v373 c1_i32_127
  let v406 : Index := Scalar.indexCast v374
  let c64_137 : Index := 64#32
  ![v406.toNat, 64]

def k0_chk36 (v377 : IVec S16 32) (v410 : IVec S16 32) : Prop :=
  (∀ a x, ((![v377, v410] : Fin 2 → IVec S16 32) a x).toNat < S56x512.size a)
theorem k0_idx36_inb : ∀ (v377 : IVec S16 32) (v410 : IVec S16 32) (k0_hw36 : k0_chk36 v377 v410), ∀ a x, ((![v377, v410] : Fin 2 → IVec S16 32) a x).toNat < S56x512.size a := fun v377 v410 k0_hw36 => k0_hw36
def k0_off38 (k0_t2 : Fin k0_t2_loop.trips) : Fin 2 → Nat :=
  let c0_i32_49 : BitVec 32 := 0#32
  let c1_i32_50 : BitVec 32 := 1#32
  let arg14 : BitVec 32 := Scf.iv c0_i32_49 c1_i32_50 k0_t2
  let c4_i32_126 : BitVec 32 := 4#32
  let v373 : BitVec 32 := Scalar.muli arg14 c4_i32_126
  let c1_i32_127 : BitVec 32 := 1#32
  let v374 : BitVec 32 := Scalar.addi v373 c1_i32_127
  let v412 : Index := Scalar.indexCast v374
  let c80_139 : Index := 80#32
  ![v412.toNat, 80]

def k0_chk37 (v377 : IVec S16 32) (v416 : IVec S16 32) : Prop :=
  (∀ a x, ((![v377, v416] : Fin 2 → IVec S16 32) a x).toNat < S56x512.size a)
theorem k0_idx37_inb : ∀ (v377 : IVec S16 32) (v416 : IVec S16 32) (k0_hw37 : k0_chk37 v377 v416), ∀ a x, ((![v377, v416] : Fin 2 → IVec S16 32) a x).toNat < S56x512.size a := fun v377 v416 k0_hw37 => k0_hw37
def k0_off39 (k0_t2 : Fin k0_t2_loop.trips) : Fin 2 → Nat :=
  let c0_i32_49 : BitVec 32 := 0#32
  let c1_i32_50 : BitVec 32 := 1#32
  let arg14 : BitVec 32 := Scf.iv c0_i32_49 c1_i32_50 k0_t2
  let c4_i32_126 : BitVec 32 := 4#32
  let v373 : BitVec 32 := Scalar.muli arg14 c4_i32_126
  let c1_i32_127 : BitVec 32 := 1#32
  let v374 : BitVec 32 := Scalar.addi v373 c1_i32_127
  let v418 : Index := Scalar.indexCast v374
  let c96_141 : Index := 96#32
  ![v418.toNat, 96]

def k0_chk38 (v377 : IVec S16 32) (v422 : IVec S16 32) : Prop :=
  (∀ a x, ((![v377, v422] : Fin 2 → IVec S16 32) a x).toNat < S56x512.size a)
theorem k0_idx38_inb : ∀ (v377 : IVec S16 32) (v422 : IVec S16 32) (k0_hw38 : k0_chk38 v377 v422), ∀ a x, ((![v377, v422] : Fin 2 → IVec S16 32) a x).toNat < S56x512.size a := fun v377 v422 k0_hw38 => k0_hw38
def k0_off40 (k0_t2 : Fin k0_t2_loop.trips) : Fin 2 → Nat :=
  let c0_i32_49 : BitVec 32 := 0#32
  let c1_i32_50 : BitVec 32 := 1#32
  let arg14 : BitVec 32 := Scf.iv c0_i32_49 c1_i32_50 k0_t2
  let c4_i32_126 : BitVec 32 := 4#32
  let v373 : BitVec 32 := Scalar.muli arg14 c4_i32_126
  let c1_i32_127 : BitVec 32 := 1#32
  let v374 : BitVec 32 := Scalar.addi v373 c1_i32_127
  let v424 : Index := Scalar.indexCast v374
  let c112_143 : Index := 112#32
  ![v424.toNat, 112]

def k0_chk39 (v377 : IVec S16 32) (v428 : IVec S16 32) : Prop :=
  (∀ a x, ((![v377, v428] : Fin 2 → IVec S16 32) a x).toNat < S56x512.size a)
theorem k0_idx39_inb : ∀ (v377 : IVec S16 32) (v428 : IVec S16 32) (k0_hw39 : k0_chk39 v377 v428), ∀ a x, ((![v377, v428] : Fin 2 → IVec S16 32) a x).toNat < S56x512.size a := fun v377 v428 k0_hw39 => k0_hw39
def k0_off41 (k0_t2 : Fin k0_t2_loop.trips) : Fin 2 → Nat :=
  let c0_i32_49 : BitVec 32 := 0#32
  let c1_i32_50 : BitVec 32 := 1#32
  let arg14 : BitVec 32 := Scf.iv c0_i32_49 c1_i32_50 k0_t2
  let c4_i32_126 : BitVec 32 := 4#32
  let v373 : BitVec 32 := Scalar.muli arg14 c4_i32_126
  let c1_i32_127 : BitVec 32 := 1#32
  let v374 : BitVec 32 := Scalar.addi v373 c1_i32_127
  let v430 : Index := Scalar.indexCast v374
  let c128_145 : Index := 128#32
  ![v430.toNat, 128]

def k0_chk40 (v377 : IVec S16 32) (v434 : IVec S16 32) : Prop :=
  (∀ a x, ((![v377, v434] : Fin 2 → IVec S16 32) a x).toNat < S56x512.size a)
theorem k0_idx40_inb : ∀ (v377 : IVec S16 32) (v434 : IVec S16 32) (k0_hw40 : k0_chk40 v377 v434), ∀ a x, ((![v377, v434] : Fin 2 → IVec S16 32) a x).toNat < S56x512.size a := fun v377 v434 k0_hw40 => k0_hw40
def k0_off42 (k0_t2 : Fin k0_t2_loop.trips) : Fin 2 → Nat :=
  let c0_i32_49 : BitVec 32 := 0#32
  let c1_i32_50 : BitVec 32 := 1#32
  let arg14 : BitVec 32 := Scf.iv c0_i32_49 c1_i32_50 k0_t2
  let c4_i32_126 : BitVec 32 := 4#32
  let v373 : BitVec 32 := Scalar.muli arg14 c4_i32_126
  let c1_i32_127 : BitVec 32 := 1#32
  let v374 : BitVec 32 := Scalar.addi v373 c1_i32_127
  let v436 : Index := Scalar.indexCast v374
  let c144_147 : Index := 144#32
  ![v436.toNat, 144]

def k0_chk41 (v377 : IVec S16 32) (v440 : IVec S16 32) : Prop :=
  (∀ a x, ((![v377, v440] : Fin 2 → IVec S16 32) a x).toNat < S56x512.size a)
theorem k0_idx41_inb : ∀ (v377 : IVec S16 32) (v440 : IVec S16 32) (k0_hw41 : k0_chk41 v377 v440), ∀ a x, ((![v377, v440] : Fin 2 → IVec S16 32) a x).toNat < S56x512.size a := fun v377 v440 k0_hw41 => k0_hw41
def k0_off43 (k0_t2 : Fin k0_t2_loop.trips) : Fin 2 → Nat :=
  let c0_i32_49 : BitVec 32 := 0#32
  let c1_i32_50 : BitVec 32 := 1#32
  let arg14 : BitVec 32 := Scf.iv c0_i32_49 c1_i32_50 k0_t2
  let c4_i32_126 : BitVec 32 := 4#32
  let v373 : BitVec 32 := Scalar.muli arg14 c4_i32_126
  let c1_i32_127 : BitVec 32 := 1#32
  let v374 : BitVec 32 := Scalar.addi v373 c1_i32_127
  let v442 : Index := Scalar.indexCast v374
  let c160_149 : Index := 160#32
  ![v442.toNat, 160]

def k0_chk42 (v377 : IVec S16 32) (v446 : IVec S16 32) : Prop :=
  (∀ a x, ((![v377, v446] : Fin 2 → IVec S16 32) a x).toNat < S56x512.size a)
theorem k0_idx42_inb : ∀ (v377 : IVec S16 32) (v446 : IVec S16 32) (k0_hw42 : k0_chk42 v377 v446), ∀ a x, ((![v377, v446] : Fin 2 → IVec S16 32) a x).toNat < S56x512.size a := fun v377 v446 k0_hw42 => k0_hw42
def k0_off44 (k0_t2 : Fin k0_t2_loop.trips) : Fin 2 → Nat :=
  let c0_i32_49 : BitVec 32 := 0#32
  let c1_i32_50 : BitVec 32 := 1#32
  let arg14 : BitVec 32 := Scf.iv c0_i32_49 c1_i32_50 k0_t2
  let c4_i32_126 : BitVec 32 := 4#32
  let v373 : BitVec 32 := Scalar.muli arg14 c4_i32_126
  let c1_i32_127 : BitVec 32 := 1#32
  let v374 : BitVec 32 := Scalar.addi v373 c1_i32_127
  let v448 : Index := Scalar.indexCast v374
  let c176_151 : Index := 176#32
  ![v448.toNat, 176]

def k0_chk43 (v377 : IVec S16 32) (v452 : IVec S16 32) : Prop :=
  (∀ a x, ((![v377, v452] : Fin 2 → IVec S16 32) a x).toNat < S56x512.size a)
theorem k0_idx43_inb : ∀ (v377 : IVec S16 32) (v452 : IVec S16 32) (k0_hw43 : k0_chk43 v377 v452), ∀ a x, ((![v377, v452] : Fin 2 → IVec S16 32) a x).toNat < S56x512.size a := fun v377 v452 k0_hw43 => k0_hw43
def k0_off45 (k0_t2 : Fin k0_t2_loop.trips) : Fin 2 → Nat :=
  let c0_i32_49 : BitVec 32 := 0#32
  let c1_i32_50 : BitVec 32 := 1#32
  let arg14 : BitVec 32 := Scf.iv c0_i32_49 c1_i32_50 k0_t2
  let c4_i32_126 : BitVec 32 := 4#32
  let v373 : BitVec 32 := Scalar.muli arg14 c4_i32_126
  let c1_i32_127 : BitVec 32 := 1#32
  let v374 : BitVec 32 := Scalar.addi v373 c1_i32_127
  let v454 : Index := Scalar.indexCast v374
  let c192_153 : Index := 192#32
  ![v454.toNat, 192]

def k0_chk44 (v377 : IVec S16 32) (v458 : IVec S16 32) : Prop :=
  (∀ a x, ((![v377, v458] : Fin 2 → IVec S16 32) a x).toNat < S56x512.size a)
theorem k0_idx44_inb : ∀ (v377 : IVec S16 32) (v458 : IVec S16 32) (k0_hw44 : k0_chk44 v377 v458), ∀ a x, ((![v377, v458] : Fin 2 → IVec S16 32) a x).toNat < S56x512.size a := fun v377 v458 k0_hw44 => k0_hw44
def k0_off46 (k0_t2 : Fin k0_t2_loop.trips) : Fin 2 → Nat :=
  let c0_i32_49 : BitVec 32 := 0#32
  let c1_i32_50 : BitVec 32 := 1#32
  let arg14 : BitVec 32 := Scf.iv c0_i32_49 c1_i32_50 k0_t2
  let c4_i32_126 : BitVec 32 := 4#32
  let v373 : BitVec 32 := Scalar.muli arg14 c4_i32_126
  let c1_i32_127 : BitVec 32 := 1#32
  let v374 : BitVec 32 := Scalar.addi v373 c1_i32_127
  let v460 : Index := Scalar.indexCast v374
  let c208_155 : Index := 208#32
  ![v460.toNat, 208]

def k0_chk45 (v377 : IVec S16 32) (v464 : IVec S16 32) : Prop :=
  (∀ a x, ((![v377, v464] : Fin 2 → IVec S16 32) a x).toNat < S56x512.size a)
theorem k0_idx45_inb : ∀ (v377 : IVec S16 32) (v464 : IVec S16 32) (k0_hw45 : k0_chk45 v377 v464), ∀ a x, ((![v377, v464] : Fin 2 → IVec S16 32) a x).toNat < S56x512.size a := fun v377 v464 k0_hw45 => k0_hw45
def k0_off47 (k0_t2 : Fin k0_t2_loop.trips) : Fin 2 → Nat :=
  let c0_i32_49 : BitVec 32 := 0#32
  let c1_i32_50 : BitVec 32 := 1#32
  let arg14 : BitVec 32 := Scf.iv c0_i32_49 c1_i32_50 k0_t2
  let c4_i32_126 : BitVec 32 := 4#32
  let v373 : BitVec 32 := Scalar.muli arg14 c4_i32_126
  let c1_i32_127 : BitVec 32 := 1#32
  let v374 : BitVec 32 := Scalar.addi v373 c1_i32_127
  let v466 : Index := Scalar.indexCast v374
  let c224_157 : Index := 224#32
  ![v466.toNat, 224]

def k0_chk46 (v377 : IVec S16 32) (v470 : IVec S16 32) : Prop :=
  (∀ a x, ((![v377, v470] : Fin 2 → IVec S16 32) a x).toNat < S56x512.size a)
theorem k0_idx46_inb : ∀ (v377 : IVec S16 32) (v470 : IVec S16 32) (k0_hw46 : k0_chk46 v377 v470), ∀ a x, ((![v377, v470] : Fin 2 → IVec S16 32) a x).toNat < S56x512.size a := fun v377 v470 k0_hw46 => k0_hw46
def k0_off48 (k0_t2 : Fin k0_t2_loop.trips) : Fin 2 → Nat :=
  let c0_i32_49 : BitVec 32 := 0#32
  let c1_i32_50 : BitVec 32 := 1#32
  let arg14 : BitVec 32 := Scf.iv c0_i32_49 c1_i32_50 k0_t2
  let c4_i32_126 : BitVec 32 := 4#32
  let v373 : BitVec 32 := Scalar.muli arg14 c4_i32_126
  let c1_i32_127 : BitVec 32 := 1#32
  let v374 : BitVec 32 := Scalar.addi v373 c1_i32_127
  let v472 : Index := Scalar.indexCast v374
  let c240_159 : Index := 240#32
  ![v472.toNat, 240]

def k0_chk47 (v377 : IVec S16 32) (v476 : IVec S16 32) : Prop :=
  (∀ a x, ((![v377, v476] : Fin 2 → IVec S16 32) a x).toNat < S56x512.size a)
theorem k0_idx47_inb : ∀ (v377 : IVec S16 32) (v476 : IVec S16 32) (k0_hw47 : k0_chk47 v377 v476), ∀ a x, ((![v377, v476] : Fin 2 → IVec S16 32) a x).toNat < S56x512.size a := fun v377 v476 k0_hw47 => k0_hw47
def k0_off49 (k0_t2 : Fin k0_t2_loop.trips) : Fin 2 → Nat :=
  let c0_i32_49 : BitVec 32 := 0#32
  let c1_i32_50 : BitVec 32 := 1#32
  let arg14 : BitVec 32 := Scf.iv c0_i32_49 c1_i32_50 k0_t2
  let c4_i32_126 : BitVec 32 := 4#32
  let v373 : BitVec 32 := Scalar.muli arg14 c4_i32_126
  let c1_i32_127 : BitVec 32 := 1#32
  let v374 : BitVec 32 := Scalar.addi v373 c1_i32_127
  let v478 : Index := Scalar.indexCast v374
  let c256_161 : Index := 256#32
  ![v478.toNat, 256]

def k0_chk48 (v377 : IVec S16 32) (v482 : IVec S16 32) : Prop :=
  (∀ a x, ((![v377, v482] : Fin 2 → IVec S16 32) a x).toNat < S56x512.size a)
theorem k0_idx48_inb : ∀ (v377 : IVec S16 32) (v482 : IVec S16 32) (k0_hw48 : k0_chk48 v377 v482), ∀ a x, ((![v377, v482] : Fin 2 → IVec S16 32) a x).toNat < S56x512.size a := fun v377 v482 k0_hw48 => k0_hw48
def k0_off50 (k0_t2 : Fin k0_t2_loop.trips) : Fin 2 → Nat :=
  let c0_i32_49 : BitVec 32 := 0#32
  let c1_i32_50 : BitVec 32 := 1#32
  let arg14 : BitVec 32 := Scf.iv c0_i32_49 c1_i32_50 k0_t2
  let c4_i32_126 : BitVec 32 := 4#32
  let v373 : BitVec 32 := Scalar.muli arg14 c4_i32_126
  let c1_i32_127 : BitVec 32 := 1#32
  let v374 : BitVec 32 := Scalar.addi v373 c1_i32_127
  let v484 : Index := Scalar.indexCast v374
  let c272_163 : Index := 272#32
  ![v484.toNat, 272]

def k0_chk49 (v377 : IVec S16 32) (v488 : IVec S16 32) : Prop :=
  (∀ a x, ((![v377, v488] : Fin 2 → IVec S16 32) a x).toNat < S56x512.size a)
theorem k0_idx49_inb : ∀ (v377 : IVec S16 32) (v488 : IVec S16 32) (k0_hw49 : k0_chk49 v377 v488), ∀ a x, ((![v377, v488] : Fin 2 → IVec S16 32) a x).toNat < S56x512.size a := fun v377 v488 k0_hw49 => k0_hw49
def k0_off51 (k0_t2 : Fin k0_t2_loop.trips) : Fin 2 → Nat :=
  let c0_i32_49 : BitVec 32 := 0#32
  let c1_i32_50 : BitVec 32 := 1#32
  let arg14 : BitVec 32 := Scf.iv c0_i32_49 c1_i32_50 k0_t2
  let c4_i32_126 : BitVec 32 := 4#32
  let v373 : BitVec 32 := Scalar.muli arg14 c4_i32_126
  let c1_i32_127 : BitVec 32 := 1#32
  let v374 : BitVec 32 := Scalar.addi v373 c1_i32_127
  let v490 : Index := Scalar.indexCast v374
  let c288_165 : Index := 288#32
  ![v490.toNat, 288]

def k0_chk50 (v377 : IVec S16 32) (v494 : IVec S16 32) : Prop :=
  (∀ a x, ((![v377, v494] : Fin 2 → IVec S16 32) a x).toNat < S56x512.size a)
theorem k0_idx50_inb : ∀ (v377 : IVec S16 32) (v494 : IVec S16 32) (k0_hw50 : k0_chk50 v377 v494), ∀ a x, ((![v377, v494] : Fin 2 → IVec S16 32) a x).toNat < S56x512.size a := fun v377 v494 k0_hw50 => k0_hw50
def k0_off52 (k0_t2 : Fin k0_t2_loop.trips) : Fin 2 → Nat :=
  let c0_i32_49 : BitVec 32 := 0#32
  let c1_i32_50 : BitVec 32 := 1#32
  let arg14 : BitVec 32 := Scf.iv c0_i32_49 c1_i32_50 k0_t2
  let c4_i32_126 : BitVec 32 := 4#32
  let v373 : BitVec 32 := Scalar.muli arg14 c4_i32_126
  let c1_i32_127 : BitVec 32 := 1#32
  let v374 : BitVec 32 := Scalar.addi v373 c1_i32_127
  let v496 : Index := Scalar.indexCast v374
  let c304_167 : Index := 304#32
  ![v496.toNat, 304]

def k0_chk51 (v377 : IVec S16 32) (v500 : IVec S16 32) : Prop :=
  (∀ a x, ((![v377, v500] : Fin 2 → IVec S16 32) a x).toNat < S56x512.size a)
theorem k0_idx51_inb : ∀ (v377 : IVec S16 32) (v500 : IVec S16 32) (k0_hw51 : k0_chk51 v377 v500), ∀ a x, ((![v377, v500] : Fin 2 → IVec S16 32) a x).toNat < S56x512.size a := fun v377 v500 k0_hw51 => k0_hw51
def k0_off53 (k0_t2 : Fin k0_t2_loop.trips) : Fin 2 → Nat :=
  let c0_i32_49 : BitVec 32 := 0#32
  let c1_i32_50 : BitVec 32 := 1#32
  let arg14 : BitVec 32 := Scf.iv c0_i32_49 c1_i32_50 k0_t2
  let c4_i32_126 : BitVec 32 := 4#32
  let v373 : BitVec 32 := Scalar.muli arg14 c4_i32_126
  let c1_i32_127 : BitVec 32 := 1#32
  let v374 : BitVec 32 := Scalar.addi v373 c1_i32_127
  let v502 : Index := Scalar.indexCast v374
  let c320_169 : Index := 320#32
  ![v502.toNat, 320]

def k0_chk52 (v377 : IVec S16 32) (v506 : IVec S16 32) : Prop :=
  (∀ a x, ((![v377, v506] : Fin 2 → IVec S16 32) a x).toNat < S56x512.size a)
theorem k0_idx52_inb : ∀ (v377 : IVec S16 32) (v506 : IVec S16 32) (k0_hw52 : k0_chk52 v377 v506), ∀ a x, ((![v377, v506] : Fin 2 → IVec S16 32) a x).toNat < S56x512.size a := fun v377 v506 k0_hw52 => k0_hw52
def k0_off54 (k0_t2 : Fin k0_t2_loop.trips) : Fin 2 → Nat :=
  let c0_i32_49 : BitVec 32 := 0#32
  let c1_i32_50 : BitVec 32 := 1#32
  let arg14 : BitVec 32 := Scf.iv c0_i32_49 c1_i32_50 k0_t2
  let c4_i32_126 : BitVec 32 := 4#32
  let v373 : BitVec 32 := Scalar.muli arg14 c4_i32_126
  let c1_i32_127 : BitVec 32 := 1#32
  let v374 : BitVec 32 := Scalar.addi v373 c1_i32_127
  let v508 : Index := Scalar.indexCast v374
  let c336_171 : Index := 336#32
  ![v508.toNat, 336]

def k0_chk53 (v377 : IVec S16 32) (v512 : IVec S16 32) : Prop :=
  (∀ a x, ((![v377, v512] : Fin 2 → IVec S16 32) a x).toNat < S56x512.size a)
theorem k0_idx53_inb : ∀ (v377 : IVec S16 32) (v512 : IVec S16 32) (k0_hw53 : k0_chk53 v377 v512), ∀ a x, ((![v377, v512] : Fin 2 → IVec S16 32) a x).toNat < S56x512.size a := fun v377 v512 k0_hw53 => k0_hw53
def k0_off55 (k0_t2 : Fin k0_t2_loop.trips) : Fin 2 → Nat :=
  let c0_i32_49 : BitVec 32 := 0#32
  let c1_i32_50 : BitVec 32 := 1#32
  let arg14 : BitVec 32 := Scf.iv c0_i32_49 c1_i32_50 k0_t2
  let c4_i32_126 : BitVec 32 := 4#32
  let v373 : BitVec 32 := Scalar.muli arg14 c4_i32_126
  let c1_i32_127 : BitVec 32 := 1#32
  let v374 : BitVec 32 := Scalar.addi v373 c1_i32_127
  let v514 : Index := Scalar.indexCast v374
  let c352_173 : Index := 352#32
  ![v514.toNat, 352]

def k0_chk54 (v377 : IVec S16 32) (v518 : IVec S16 32) : Prop :=
  (∀ a x, ((![v377, v518] : Fin 2 → IVec S16 32) a x).toNat < S56x512.size a)
theorem k0_idx54_inb : ∀ (v377 : IVec S16 32) (v518 : IVec S16 32) (k0_hw54 : k0_chk54 v377 v518), ∀ a x, ((![v377, v518] : Fin 2 → IVec S16 32) a x).toNat < S56x512.size a := fun v377 v518 k0_hw54 => k0_hw54
def k0_off56 (k0_t2 : Fin k0_t2_loop.trips) : Fin 2 → Nat :=
  let c0_i32_49 : BitVec 32 := 0#32
  let c1_i32_50 : BitVec 32 := 1#32
  let arg14 : BitVec 32 := Scf.iv c0_i32_49 c1_i32_50 k0_t2
  let c4_i32_126 : BitVec 32 := 4#32
  let v373 : BitVec 32 := Scalar.muli arg14 c4_i32_126
  let c1_i32_127 : BitVec 32 := 1#32
  let v374 : BitVec 32 := Scalar.addi v373 c1_i32_127
  let v520 : Index := Scalar.indexCast v374
  let c368_175 : Index := 368#32
  ![v520.toNat, 368]

def k0_chk55 (v377 : IVec S16 32) (v524 : IVec S16 32) : Prop :=
  (∀ a x, ((![v377, v524] : Fin 2 → IVec S16 32) a x).toNat < S56x512.size a)
theorem k0_idx55_inb : ∀ (v377 : IVec S16 32) (v524 : IVec S16 32) (k0_hw55 : k0_chk55 v377 v524), ∀ a x, ((![v377, v524] : Fin 2 → IVec S16 32) a x).toNat < S56x512.size a := fun v377 v524 k0_hw55 => k0_hw55
def k0_off57 (k0_t2 : Fin k0_t2_loop.trips) : Fin 2 → Nat :=
  let c0_i32_49 : BitVec 32 := 0#32
  let c1_i32_50 : BitVec 32 := 1#32
  let arg14 : BitVec 32 := Scf.iv c0_i32_49 c1_i32_50 k0_t2
  let c4_i32_126 : BitVec 32 := 4#32
  let v373 : BitVec 32 := Scalar.muli arg14 c4_i32_126
  let c1_i32_127 : BitVec 32 := 1#32
  let v374 : BitVec 32 := Scalar.addi v373 c1_i32_127
  let v526 : Index := Scalar.indexCast v374
  let c384_177 : Index := 384#32
  ![v526.toNat, 384]

def k0_chk56 (v377 : IVec S16 32) (v530 : IVec S16 32) : Prop :=
  (∀ a x, ((![v377, v530] : Fin 2 → IVec S16 32) a x).toNat < S56x512.size a)
theorem k0_idx56_inb : ∀ (v377 : IVec S16 32) (v530 : IVec S16 32) (k0_hw56 : k0_chk56 v377 v530), ∀ a x, ((![v377, v530] : Fin 2 → IVec S16 32) a x).toNat < S56x512.size a := fun v377 v530 k0_hw56 => k0_hw56
def k0_off58 (k0_t2 : Fin k0_t2_loop.trips) : Fin 2 → Nat :=
  let c0_i32_49 : BitVec 32 := 0#32
  let c1_i32_50 : BitVec 32 := 1#32
  let arg14 : BitVec 32 := Scf.iv c0_i32_49 c1_i32_50 k0_t2
  let c4_i32_126 : BitVec 32 := 4#32
  let v373 : BitVec 32 := Scalar.muli arg14 c4_i32_126
  let c1_i32_127 : BitVec 32 := 1#32
  let v374 : BitVec 32 := Scalar.addi v373 c1_i32_127
  let v532 : Index := Scalar.indexCast v374
  let c400_179 : Index := 400#32
  ![v532.toNat, 400]

def k0_chk57 (v377 : IVec S16 32) (v536 : IVec S16 32) : Prop :=
  (∀ a x, ((![v377, v536] : Fin 2 → IVec S16 32) a x).toNat < S56x512.size a)
theorem k0_idx57_inb : ∀ (v377 : IVec S16 32) (v536 : IVec S16 32) (k0_hw57 : k0_chk57 v377 v536), ∀ a x, ((![v377, v536] : Fin 2 → IVec S16 32) a x).toNat < S56x512.size a := fun v377 v536 k0_hw57 => k0_hw57
def k0_off59 (k0_t2 : Fin k0_t2_loop.trips) : Fin 2 → Nat :=
  let c0_i32_49 : BitVec 32 := 0#32
  let c1_i32_50 : BitVec 32 := 1#32
  let arg14 : BitVec 32 := Scf.iv c0_i32_49 c1_i32_50 k0_t2
  let c4_i32_126 : BitVec 32 := 4#32
  let v373 : BitVec 32 := Scalar.muli arg14 c4_i32_126
  let c1_i32_127 : BitVec 32 := 1#32
  let v374 : BitVec 32 := Scalar.addi v373 c1_i32_127
  let v538 : Index := Scalar.indexCast v374
  let c416_181 : Index := 416#32
  ![v538.toNat, 416]

def k0_chk58 (v377 : IVec S16 32) (v542 : IVec S16 32) : Prop :=
  (∀ a x, ((![v377, v542] : Fin 2 → IVec S16 32) a x).toNat < S56x512.size a)
theorem k0_idx58_inb : ∀ (v377 : IVec S16 32) (v542 : IVec S16 32) (k0_hw58 : k0_chk58 v377 v542), ∀ a x, ((![v377, v542] : Fin 2 → IVec S16 32) a x).toNat < S56x512.size a := fun v377 v542 k0_hw58 => k0_hw58
def k0_off60 (k0_t2 : Fin k0_t2_loop.trips) : Fin 2 → Nat :=
  let c0_i32_49 : BitVec 32 := 0#32
  let c1_i32_50 : BitVec 32 := 1#32
  let arg14 : BitVec 32 := Scf.iv c0_i32_49 c1_i32_50 k0_t2
  let c4_i32_126 : BitVec 32 := 4#32
  let v373 : BitVec 32 := Scalar.muli arg14 c4_i32_126
  let c1_i32_127 : BitVec 32 := 1#32
  let v374 : BitVec 32 := Scalar.addi v373 c1_i32_127
  let v544 : Index := Scalar.indexCast v374
  let c432_183 : Index := 432#32
  ![v544.toNat, 432]

def k0_chk59 (v377 : IVec S16 32) (v548 : IVec S16 32) : Prop :=
  (∀ a x, ((![v377, v548] : Fin 2 → IVec S16 32) a x).toNat < S56x512.size a)
theorem k0_idx59_inb : ∀ (v377 : IVec S16 32) (v548 : IVec S16 32) (k0_hw59 : k0_chk59 v377 v548), ∀ a x, ((![v377, v548] : Fin 2 → IVec S16 32) a x).toNat < S56x512.size a := fun v377 v548 k0_hw59 => k0_hw59
def k0_off61 (k0_t2 : Fin k0_t2_loop.trips) : Fin 2 → Nat :=
  let c0_i32_49 : BitVec 32 := 0#32
  let c1_i32_50 : BitVec 32 := 1#32
  let arg14 : BitVec 32 := Scf.iv c0_i32_49 c1_i32_50 k0_t2
  let c4_i32_126 : BitVec 32 := 4#32
  let v373 : BitVec 32 := Scalar.muli arg14 c4_i32_126
  let c1_i32_127 : BitVec 32 := 1#32
  let v374 : BitVec 32 := Scalar.addi v373 c1_i32_127
  let v550 : Index := Scalar.indexCast v374
  let c448_185 : Index := 448#32
  ![v550.toNat, 448]

def k0_chk60 (v377 : IVec S16 32) (v554 : IVec S16 32) : Prop :=
  (∀ a x, ((![v377, v554] : Fin 2 → IVec S16 32) a x).toNat < S56x512.size a)
theorem k0_idx60_inb : ∀ (v377 : IVec S16 32) (v554 : IVec S16 32) (k0_hw60 : k0_chk60 v377 v554), ∀ a x, ((![v377, v554] : Fin 2 → IVec S16 32) a x).toNat < S56x512.size a := fun v377 v554 k0_hw60 => k0_hw60
def k0_off62 (k0_t2 : Fin k0_t2_loop.trips) : Fin 2 → Nat :=
  let c0_i32_49 : BitVec 32 := 0#32
  let c1_i32_50 : BitVec 32 := 1#32
  let arg14 : BitVec 32 := Scf.iv c0_i32_49 c1_i32_50 k0_t2
  let c4_i32_126 : BitVec 32 := 4#32
  let v373 : BitVec 32 := Scalar.muli arg14 c4_i32_126
  let c1_i32_127 : BitVec 32 := 1#32
  let v374 : BitVec 32 := Scalar.addi v373 c1_i32_127
  let v556 : Index := Scalar.indexCast v374
  let c464_187 : Index := 464#32
  ![v556.toNat, 464]

def k0_chk61 (v562 : IVec S16 32) (v565 : IVec S16 32) : Prop :=
  (∀ a x, ((![v562, v565] : Fin 2 → IVec S16 32) a x).toNat < S56x512.size a)
theorem k0_idx61_inb : ∀ (v562 : IVec S16 32) (v565 : IVec S16 32) (k0_hw61 : k0_chk61 v562 v565), ∀ a x, ((![v562, v565] : Fin 2 → IVec S16 32) a x).toNat < S56x512.size a := fun v562 v565 k0_hw61 => k0_hw61
def k0_off63 (k0_t2 : Fin k0_t2_loop.trips) : Fin 2 → Nat :=
  let c0_i32_49 : BitVec 32 := 0#32
  let c1_i32_50 : BitVec 32 := 1#32
  let arg14 : BitVec 32 := Scf.iv c0_i32_49 c1_i32_50 k0_t2
  let c4_i32_188 : BitVec 32 := 4#32
  let v558 : BitVec 32 := Scalar.muli arg14 c4_i32_188
  let c2_i32_189 : BitVec 32 := 2#32
  let v559 : BitVec 32 := Scalar.addi v558 c2_i32_189
  let v567 : Index := Scalar.indexCast v559
  let c0_191 : Index := 0#32
  ![v567.toNat, 0]

def k0_chk62 (v562 : IVec S16 32) (v571 : IVec S16 32) : Prop :=
  (∀ a x, ((![v562, v571] : Fin 2 → IVec S16 32) a x).toNat < S56x512.size a)
theorem k0_idx62_inb : ∀ (v562 : IVec S16 32) (v571 : IVec S16 32) (k0_hw62 : k0_chk62 v562 v571), ∀ a x, ((![v562, v571] : Fin 2 → IVec S16 32) a x).toNat < S56x512.size a := fun v562 v571 k0_hw62 => k0_hw62
def k0_off64 (k0_t2 : Fin k0_t2_loop.trips) : Fin 2 → Nat :=
  let c0_i32_49 : BitVec 32 := 0#32
  let c1_i32_50 : BitVec 32 := 1#32
  let arg14 : BitVec 32 := Scf.iv c0_i32_49 c1_i32_50 k0_t2
  let c4_i32_188 : BitVec 32 := 4#32
  let v558 : BitVec 32 := Scalar.muli arg14 c4_i32_188
  let c2_i32_189 : BitVec 32 := 2#32
  let v559 : BitVec 32 := Scalar.addi v558 c2_i32_189
  let v573 : Index := Scalar.indexCast v559
  let c16_193 : Index := 16#32
  ![v573.toNat, 16]

def k0_chk63 (v562 : IVec S16 32) (v577 : IVec S16 32) : Prop :=
  (∀ a x, ((![v562, v577] : Fin 2 → IVec S16 32) a x).toNat < S56x512.size a)
theorem k0_idx63_inb : ∀ (v562 : IVec S16 32) (v577 : IVec S16 32) (k0_hw63 : k0_chk63 v562 v577), ∀ a x, ((![v562, v577] : Fin 2 → IVec S16 32) a x).toNat < S56x512.size a := fun v562 v577 k0_hw63 => k0_hw63
def k0_off65 (k0_t2 : Fin k0_t2_loop.trips) : Fin 2 → Nat :=
  let c0_i32_49 : BitVec 32 := 0#32
  let c1_i32_50 : BitVec 32 := 1#32
  let arg14 : BitVec 32 := Scf.iv c0_i32_49 c1_i32_50 k0_t2
  let c4_i32_188 : BitVec 32 := 4#32
  let v558 : BitVec 32 := Scalar.muli arg14 c4_i32_188
  let c2_i32_189 : BitVec 32 := 2#32
  let v559 : BitVec 32 := Scalar.addi v558 c2_i32_189
  let v579 : Index := Scalar.indexCast v559
  let c32_195 : Index := 32#32
  ![v579.toNat, 32]

def k0_chk64 (v562 : IVec S16 32) (v583 : IVec S16 32) : Prop :=
  (∀ a x, ((![v562, v583] : Fin 2 → IVec S16 32) a x).toNat < S56x512.size a)
theorem k0_idx64_inb : ∀ (v562 : IVec S16 32) (v583 : IVec S16 32) (k0_hw64 : k0_chk64 v562 v583), ∀ a x, ((![v562, v583] : Fin 2 → IVec S16 32) a x).toNat < S56x512.size a := fun v562 v583 k0_hw64 => k0_hw64
def k0_off66 (k0_t2 : Fin k0_t2_loop.trips) : Fin 2 → Nat :=
  let c0_i32_49 : BitVec 32 := 0#32
  let c1_i32_50 : BitVec 32 := 1#32
  let arg14 : BitVec 32 := Scf.iv c0_i32_49 c1_i32_50 k0_t2
  let c4_i32_188 : BitVec 32 := 4#32
  let v558 : BitVec 32 := Scalar.muli arg14 c4_i32_188
  let c2_i32_189 : BitVec 32 := 2#32
  let v559 : BitVec 32 := Scalar.addi v558 c2_i32_189
  let v585 : Index := Scalar.indexCast v559
  let c48_197 : Index := 48#32
  ![v585.toNat, 48]

def k0_chk65 (v562 : IVec S16 32) (v589 : IVec S16 32) : Prop :=
  (∀ a x, ((![v562, v589] : Fin 2 → IVec S16 32) a x).toNat < S56x512.size a)
theorem k0_idx65_inb : ∀ (v562 : IVec S16 32) (v589 : IVec S16 32) (k0_hw65 : k0_chk65 v562 v589), ∀ a x, ((![v562, v589] : Fin 2 → IVec S16 32) a x).toNat < S56x512.size a := fun v562 v589 k0_hw65 => k0_hw65
def k0_off67 (k0_t2 : Fin k0_t2_loop.trips) : Fin 2 → Nat :=
  let c0_i32_49 : BitVec 32 := 0#32
  let c1_i32_50 : BitVec 32 := 1#32
  let arg14 : BitVec 32 := Scf.iv c0_i32_49 c1_i32_50 k0_t2
  let c4_i32_188 : BitVec 32 := 4#32
  let v558 : BitVec 32 := Scalar.muli arg14 c4_i32_188
  let c2_i32_189 : BitVec 32 := 2#32
  let v559 : BitVec 32 := Scalar.addi v558 c2_i32_189
  let v591 : Index := Scalar.indexCast v559
  let c64_199 : Index := 64#32
  ![v591.toNat, 64]

def k0_chk66 (v562 : IVec S16 32) (v595 : IVec S16 32) : Prop :=
  (∀ a x, ((![v562, v595] : Fin 2 → IVec S16 32) a x).toNat < S56x512.size a)
theorem k0_idx66_inb : ∀ (v562 : IVec S16 32) (v595 : IVec S16 32) (k0_hw66 : k0_chk66 v562 v595), ∀ a x, ((![v562, v595] : Fin 2 → IVec S16 32) a x).toNat < S56x512.size a := fun v562 v595 k0_hw66 => k0_hw66
def k0_off68 (k0_t2 : Fin k0_t2_loop.trips) : Fin 2 → Nat :=
  let c0_i32_49 : BitVec 32 := 0#32
  let c1_i32_50 : BitVec 32 := 1#32
  let arg14 : BitVec 32 := Scf.iv c0_i32_49 c1_i32_50 k0_t2
  let c4_i32_188 : BitVec 32 := 4#32
  let v558 : BitVec 32 := Scalar.muli arg14 c4_i32_188
  let c2_i32_189 : BitVec 32 := 2#32
  let v559 : BitVec 32 := Scalar.addi v558 c2_i32_189
  let v597 : Index := Scalar.indexCast v559
  let c80_201 : Index := 80#32
  ![v597.toNat, 80]

def k0_chk67 (v562 : IVec S16 32) (v601 : IVec S16 32) : Prop :=
  (∀ a x, ((![v562, v601] : Fin 2 → IVec S16 32) a x).toNat < S56x512.size a)
theorem k0_idx67_inb : ∀ (v562 : IVec S16 32) (v601 : IVec S16 32) (k0_hw67 : k0_chk67 v562 v601), ∀ a x, ((![v562, v601] : Fin 2 → IVec S16 32) a x).toNat < S56x512.size a := fun v562 v601 k0_hw67 => k0_hw67
def k0_off69 (k0_t2 : Fin k0_t2_loop.trips) : Fin 2 → Nat :=
  let c0_i32_49 : BitVec 32 := 0#32
  let c1_i32_50 : BitVec 32 := 1#32
  let arg14 : BitVec 32 := Scf.iv c0_i32_49 c1_i32_50 k0_t2
  let c4_i32_188 : BitVec 32 := 4#32
  let v558 : BitVec 32 := Scalar.muli arg14 c4_i32_188
  let c2_i32_189 : BitVec 32 := 2#32
  let v559 : BitVec 32 := Scalar.addi v558 c2_i32_189
  let v603 : Index := Scalar.indexCast v559
  let c96_203 : Index := 96#32
  ![v603.toNat, 96]

def k0_chk68 (v562 : IVec S16 32) (v607 : IVec S16 32) : Prop :=
  (∀ a x, ((![v562, v607] : Fin 2 → IVec S16 32) a x).toNat < S56x512.size a)
theorem k0_idx68_inb : ∀ (v562 : IVec S16 32) (v607 : IVec S16 32) (k0_hw68 : k0_chk68 v562 v607), ∀ a x, ((![v562, v607] : Fin 2 → IVec S16 32) a x).toNat < S56x512.size a := fun v562 v607 k0_hw68 => k0_hw68
def k0_off70 (k0_t2 : Fin k0_t2_loop.trips) : Fin 2 → Nat :=
  let c0_i32_49 : BitVec 32 := 0#32
  let c1_i32_50 : BitVec 32 := 1#32
  let arg14 : BitVec 32 := Scf.iv c0_i32_49 c1_i32_50 k0_t2
  let c4_i32_188 : BitVec 32 := 4#32
  let v558 : BitVec 32 := Scalar.muli arg14 c4_i32_188
  let c2_i32_189 : BitVec 32 := 2#32
  let v559 : BitVec 32 := Scalar.addi v558 c2_i32_189
  let v609 : Index := Scalar.indexCast v559
  let c112_205 : Index := 112#32
  ![v609.toNat, 112]

def k0_chk69 (v562 : IVec S16 32) (v613 : IVec S16 32) : Prop :=
  (∀ a x, ((![v562, v613] : Fin 2 → IVec S16 32) a x).toNat < S56x512.size a)
theorem k0_idx69_inb : ∀ (v562 : IVec S16 32) (v613 : IVec S16 32) (k0_hw69 : k0_chk69 v562 v613), ∀ a x, ((![v562, v613] : Fin 2 → IVec S16 32) a x).toNat < S56x512.size a := fun v562 v613 k0_hw69 => k0_hw69
def k0_off71 (k0_t2 : Fin k0_t2_loop.trips) : Fin 2 → Nat :=
  let c0_i32_49 : BitVec 32 := 0#32
  let c1_i32_50 : BitVec 32 := 1#32
  let arg14 : BitVec 32 := Scf.iv c0_i32_49 c1_i32_50 k0_t2
  let c4_i32_188 : BitVec 32 := 4#32
  let v558 : BitVec 32 := Scalar.muli arg14 c4_i32_188
  let c2_i32_189 : BitVec 32 := 2#32
  let v559 : BitVec 32 := Scalar.addi v558 c2_i32_189
  let v615 : Index := Scalar.indexCast v559
  let c128_207 : Index := 128#32
  ![v615.toNat, 128]

def k0_chk70 (v562 : IVec S16 32) (v619 : IVec S16 32) : Prop :=
  (∀ a x, ((![v562, v619] : Fin 2 → IVec S16 32) a x).toNat < S56x512.size a)
theorem k0_idx70_inb : ∀ (v562 : IVec S16 32) (v619 : IVec S16 32) (k0_hw70 : k0_chk70 v562 v619), ∀ a x, ((![v562, v619] : Fin 2 → IVec S16 32) a x).toNat < S56x512.size a := fun v562 v619 k0_hw70 => k0_hw70
def k0_off72 (k0_t2 : Fin k0_t2_loop.trips) : Fin 2 → Nat :=
  let c0_i32_49 : BitVec 32 := 0#32
  let c1_i32_50 : BitVec 32 := 1#32
  let arg14 : BitVec 32 := Scf.iv c0_i32_49 c1_i32_50 k0_t2
  let c4_i32_188 : BitVec 32 := 4#32
  let v558 : BitVec 32 := Scalar.muli arg14 c4_i32_188
  let c2_i32_189 : BitVec 32 := 2#32
  let v559 : BitVec 32 := Scalar.addi v558 c2_i32_189
  let v621 : Index := Scalar.indexCast v559
  let c144_209 : Index := 144#32
  ![v621.toNat, 144]

def k0_chk71 (v562 : IVec S16 32) (v625 : IVec S16 32) : Prop :=
  (∀ a x, ((![v562, v625] : Fin 2 → IVec S16 32) a x).toNat < S56x512.size a)
theorem k0_idx71_inb : ∀ (v562 : IVec S16 32) (v625 : IVec S16 32) (k0_hw71 : k0_chk71 v562 v625), ∀ a x, ((![v562, v625] : Fin 2 → IVec S16 32) a x).toNat < S56x512.size a := fun v562 v625 k0_hw71 => k0_hw71
def k0_off73 (k0_t2 : Fin k0_t2_loop.trips) : Fin 2 → Nat :=
  let c0_i32_49 : BitVec 32 := 0#32
  let c1_i32_50 : BitVec 32 := 1#32
  let arg14 : BitVec 32 := Scf.iv c0_i32_49 c1_i32_50 k0_t2
  let c4_i32_188 : BitVec 32 := 4#32
  let v558 : BitVec 32 := Scalar.muli arg14 c4_i32_188
  let c2_i32_189 : BitVec 32 := 2#32
  let v559 : BitVec 32 := Scalar.addi v558 c2_i32_189
  let v627 : Index := Scalar.indexCast v559
  let c160_211 : Index := 160#32
  ![v627.toNat, 160]

def k0_chk72 (v562 : IVec S16 32) (v631 : IVec S16 32) : Prop :=
  (∀ a x, ((![v562, v631] : Fin 2 → IVec S16 32) a x).toNat < S56x512.size a)
theorem k0_idx72_inb : ∀ (v562 : IVec S16 32) (v631 : IVec S16 32) (k0_hw72 : k0_chk72 v562 v631), ∀ a x, ((![v562, v631] : Fin 2 → IVec S16 32) a x).toNat < S56x512.size a := fun v562 v631 k0_hw72 => k0_hw72
def k0_off74 (k0_t2 : Fin k0_t2_loop.trips) : Fin 2 → Nat :=
  let c0_i32_49 : BitVec 32 := 0#32
  let c1_i32_50 : BitVec 32 := 1#32
  let arg14 : BitVec 32 := Scf.iv c0_i32_49 c1_i32_50 k0_t2
  let c4_i32_188 : BitVec 32 := 4#32
  let v558 : BitVec 32 := Scalar.muli arg14 c4_i32_188
  let c2_i32_189 : BitVec 32 := 2#32
  let v559 : BitVec 32 := Scalar.addi v558 c2_i32_189
  let v633 : Index := Scalar.indexCast v559
  let c176_213 : Index := 176#32
  ![v633.toNat, 176]

def k0_chk73 (v562 : IVec S16 32) (v637 : IVec S16 32) : Prop :=
  (∀ a x, ((![v562, v637] : Fin 2 → IVec S16 32) a x).toNat < S56x512.size a)
theorem k0_idx73_inb : ∀ (v562 : IVec S16 32) (v637 : IVec S16 32) (k0_hw73 : k0_chk73 v562 v637), ∀ a x, ((![v562, v637] : Fin 2 → IVec S16 32) a x).toNat < S56x512.size a := fun v562 v637 k0_hw73 => k0_hw73
def k0_off75 (k0_t2 : Fin k0_t2_loop.trips) : Fin 2 → Nat :=
  let c0_i32_49 : BitVec 32 := 0#32
  let c1_i32_50 : BitVec 32 := 1#32
  let arg14 : BitVec 32 := Scf.iv c0_i32_49 c1_i32_50 k0_t2
  let c4_i32_188 : BitVec 32 := 4#32
  let v558 : BitVec 32 := Scalar.muli arg14 c4_i32_188
  let c2_i32_189 : BitVec 32 := 2#32
  let v559 : BitVec 32 := Scalar.addi v558 c2_i32_189
  let v639 : Index := Scalar.indexCast v559
  let c192_215 : Index := 192#32
  ![v639.toNat, 192]

def k0_chk74 (v562 : IVec S16 32) (v643 : IVec S16 32) : Prop :=
  (∀ a x, ((![v562, v643] : Fin 2 → IVec S16 32) a x).toNat < S56x512.size a)
theorem k0_idx74_inb : ∀ (v562 : IVec S16 32) (v643 : IVec S16 32) (k0_hw74 : k0_chk74 v562 v643), ∀ a x, ((![v562, v643] : Fin 2 → IVec S16 32) a x).toNat < S56x512.size a := fun v562 v643 k0_hw74 => k0_hw74
def k0_off76 (k0_t2 : Fin k0_t2_loop.trips) : Fin 2 → Nat :=
  let c0_i32_49 : BitVec 32 := 0#32
  let c1_i32_50 : BitVec 32 := 1#32
  let arg14 : BitVec 32 := Scf.iv c0_i32_49 c1_i32_50 k0_t2
  let c4_i32_188 : BitVec 32 := 4#32
  let v558 : BitVec 32 := Scalar.muli arg14 c4_i32_188
  let c2_i32_189 : BitVec 32 := 2#32
  let v559 : BitVec 32 := Scalar.addi v558 c2_i32_189
  let v645 : Index := Scalar.indexCast v559
  let c208_217 : Index := 208#32
  ![v645.toNat, 208]

def k0_chk75 (v562 : IVec S16 32) (v649 : IVec S16 32) : Prop :=
  (∀ a x, ((![v562, v649] : Fin 2 → IVec S16 32) a x).toNat < S56x512.size a)
theorem k0_idx75_inb : ∀ (v562 : IVec S16 32) (v649 : IVec S16 32) (k0_hw75 : k0_chk75 v562 v649), ∀ a x, ((![v562, v649] : Fin 2 → IVec S16 32) a x).toNat < S56x512.size a := fun v562 v649 k0_hw75 => k0_hw75
def k0_off77 (k0_t2 : Fin k0_t2_loop.trips) : Fin 2 → Nat :=
  let c0_i32_49 : BitVec 32 := 0#32
  let c1_i32_50 : BitVec 32 := 1#32
  let arg14 : BitVec 32 := Scf.iv c0_i32_49 c1_i32_50 k0_t2
  let c4_i32_188 : BitVec 32 := 4#32
  let v558 : BitVec 32 := Scalar.muli arg14 c4_i32_188
  let c2_i32_189 : BitVec 32 := 2#32
  let v559 : BitVec 32 := Scalar.addi v558 c2_i32_189
  let v651 : Index := Scalar.indexCast v559
  let c224_219 : Index := 224#32
  ![v651.toNat, 224]

def k0_chk76 (v562 : IVec S16 32) (v655 : IVec S16 32) : Prop :=
  (∀ a x, ((![v562, v655] : Fin 2 → IVec S16 32) a x).toNat < S56x512.size a)
theorem k0_idx76_inb : ∀ (v562 : IVec S16 32) (v655 : IVec S16 32) (k0_hw76 : k0_chk76 v562 v655), ∀ a x, ((![v562, v655] : Fin 2 → IVec S16 32) a x).toNat < S56x512.size a := fun v562 v655 k0_hw76 => k0_hw76
def k0_off78 (k0_t2 : Fin k0_t2_loop.trips) : Fin 2 → Nat :=
  let c0_i32_49 : BitVec 32 := 0#32
  let c1_i32_50 : BitVec 32 := 1#32
  let arg14 : BitVec 32 := Scf.iv c0_i32_49 c1_i32_50 k0_t2
  let c4_i32_188 : BitVec 32 := 4#32
  let v558 : BitVec 32 := Scalar.muli arg14 c4_i32_188
  let c2_i32_189 : BitVec 32 := 2#32
  let v559 : BitVec 32 := Scalar.addi v558 c2_i32_189
  let v657 : Index := Scalar.indexCast v559
  let c240_221 : Index := 240#32
  ![v657.toNat, 240]

def k0_chk77 (v562 : IVec S16 32) (v661 : IVec S16 32) : Prop :=
  (∀ a x, ((![v562, v661] : Fin 2 → IVec S16 32) a x).toNat < S56x512.size a)
theorem k0_idx77_inb : ∀ (v562 : IVec S16 32) (v661 : IVec S16 32) (k0_hw77 : k0_chk77 v562 v661), ∀ a x, ((![v562, v661] : Fin 2 → IVec S16 32) a x).toNat < S56x512.size a := fun v562 v661 k0_hw77 => k0_hw77
def k0_off79 (k0_t2 : Fin k0_t2_loop.trips) : Fin 2 → Nat :=
  let c0_i32_49 : BitVec 32 := 0#32
  let c1_i32_50 : BitVec 32 := 1#32
  let arg14 : BitVec 32 := Scf.iv c0_i32_49 c1_i32_50 k0_t2
  let c4_i32_188 : BitVec 32 := 4#32
  let v558 : BitVec 32 := Scalar.muli arg14 c4_i32_188
  let c2_i32_189 : BitVec 32 := 2#32
  let v559 : BitVec 32 := Scalar.addi v558 c2_i32_189
  let v663 : Index := Scalar.indexCast v559
  let c256_223 : Index := 256#32
  ![v663.toNat, 256]

def k0_chk78 (v562 : IVec S16 32) (v667 : IVec S16 32) : Prop :=
  (∀ a x, ((![v562, v667] : Fin 2 → IVec S16 32) a x).toNat < S56x512.size a)
theorem k0_idx78_inb : ∀ (v562 : IVec S16 32) (v667 : IVec S16 32) (k0_hw78 : k0_chk78 v562 v667), ∀ a x, ((![v562, v667] : Fin 2 → IVec S16 32) a x).toNat < S56x512.size a := fun v562 v667 k0_hw78 => k0_hw78
def k0_off80 (k0_t2 : Fin k0_t2_loop.trips) : Fin 2 → Nat :=
  let c0_i32_49 : BitVec 32 := 0#32
  let c1_i32_50 : BitVec 32 := 1#32
  let arg14 : BitVec 32 := Scf.iv c0_i32_49 c1_i32_50 k0_t2
  let c4_i32_188 : BitVec 32 := 4#32
  let v558 : BitVec 32 := Scalar.muli arg14 c4_i32_188
  let c2_i32_189 : BitVec 32 := 2#32
  let v559 : BitVec 32 := Scalar.addi v558 c2_i32_189
  let v669 : Index := Scalar.indexCast v559
  let c272_225 : Index := 272#32
  ![v669.toNat, 272]

def k0_chk79 (v562 : IVec S16 32) (v673 : IVec S16 32) : Prop :=
  (∀ a x, ((![v562, v673] : Fin 2 → IVec S16 32) a x).toNat < S56x512.size a)
theorem k0_idx79_inb : ∀ (v562 : IVec S16 32) (v673 : IVec S16 32) (k0_hw79 : k0_chk79 v562 v673), ∀ a x, ((![v562, v673] : Fin 2 → IVec S16 32) a x).toNat < S56x512.size a := fun v562 v673 k0_hw79 => k0_hw79
def k0_off81 (k0_t2 : Fin k0_t2_loop.trips) : Fin 2 → Nat :=
  let c0_i32_49 : BitVec 32 := 0#32
  let c1_i32_50 : BitVec 32 := 1#32
  let arg14 : BitVec 32 := Scf.iv c0_i32_49 c1_i32_50 k0_t2
  let c4_i32_188 : BitVec 32 := 4#32
  let v558 : BitVec 32 := Scalar.muli arg14 c4_i32_188
  let c2_i32_189 : BitVec 32 := 2#32
  let v559 : BitVec 32 := Scalar.addi v558 c2_i32_189
  let v675 : Index := Scalar.indexCast v559
  let c288_227 : Index := 288#32
  ![v675.toNat, 288]

def k0_chk80 (v562 : IVec S16 32) (v679 : IVec S16 32) : Prop :=
  (∀ a x, ((![v562, v679] : Fin 2 → IVec S16 32) a x).toNat < S56x512.size a)
theorem k0_idx80_inb : ∀ (v562 : IVec S16 32) (v679 : IVec S16 32) (k0_hw80 : k0_chk80 v562 v679), ∀ a x, ((![v562, v679] : Fin 2 → IVec S16 32) a x).toNat < S56x512.size a := fun v562 v679 k0_hw80 => k0_hw80
def k0_off82 (k0_t2 : Fin k0_t2_loop.trips) : Fin 2 → Nat :=
  let c0_i32_49 : BitVec 32 := 0#32
  let c1_i32_50 : BitVec 32 := 1#32
  let arg14 : BitVec 32 := Scf.iv c0_i32_49 c1_i32_50 k0_t2
  let c4_i32_188 : BitVec 32 := 4#32
  let v558 : BitVec 32 := Scalar.muli arg14 c4_i32_188
  let c2_i32_189 : BitVec 32 := 2#32
  let v559 : BitVec 32 := Scalar.addi v558 c2_i32_189
  let v681 : Index := Scalar.indexCast v559
  let c304_229 : Index := 304#32
  ![v681.toNat, 304]

def k0_chk81 (v562 : IVec S16 32) (v685 : IVec S16 32) : Prop :=
  (∀ a x, ((![v562, v685] : Fin 2 → IVec S16 32) a x).toNat < S56x512.size a)
theorem k0_idx81_inb : ∀ (v562 : IVec S16 32) (v685 : IVec S16 32) (k0_hw81 : k0_chk81 v562 v685), ∀ a x, ((![v562, v685] : Fin 2 → IVec S16 32) a x).toNat < S56x512.size a := fun v562 v685 k0_hw81 => k0_hw81
def k0_off83 (k0_t2 : Fin k0_t2_loop.trips) : Fin 2 → Nat :=
  let c0_i32_49 : BitVec 32 := 0#32
  let c1_i32_50 : BitVec 32 := 1#32
  let arg14 : BitVec 32 := Scf.iv c0_i32_49 c1_i32_50 k0_t2
  let c4_i32_188 : BitVec 32 := 4#32
  let v558 : BitVec 32 := Scalar.muli arg14 c4_i32_188
  let c2_i32_189 : BitVec 32 := 2#32
  let v559 : BitVec 32 := Scalar.addi v558 c2_i32_189
  let v687 : Index := Scalar.indexCast v559
  let c320_231 : Index := 320#32
  ![v687.toNat, 320]

def k0_chk82 (v562 : IVec S16 32) (v691 : IVec S16 32) : Prop :=
  (∀ a x, ((![v562, v691] : Fin 2 → IVec S16 32) a x).toNat < S56x512.size a)
theorem k0_idx82_inb : ∀ (v562 : IVec S16 32) (v691 : IVec S16 32) (k0_hw82 : k0_chk82 v562 v691), ∀ a x, ((![v562, v691] : Fin 2 → IVec S16 32) a x).toNat < S56x512.size a := fun v562 v691 k0_hw82 => k0_hw82
def k0_off84 (k0_t2 : Fin k0_t2_loop.trips) : Fin 2 → Nat :=
  let c0_i32_49 : BitVec 32 := 0#32
  let c1_i32_50 : BitVec 32 := 1#32
  let arg14 : BitVec 32 := Scf.iv c0_i32_49 c1_i32_50 k0_t2
  let c4_i32_188 : BitVec 32 := 4#32
  let v558 : BitVec 32 := Scalar.muli arg14 c4_i32_188
  let c2_i32_189 : BitVec 32 := 2#32
  let v559 : BitVec 32 := Scalar.addi v558 c2_i32_189
  let v693 : Index := Scalar.indexCast v559
  let c336_233 : Index := 336#32
  ![v693.toNat, 336]

def k0_chk83 (v562 : IVec S16 32) (v697 : IVec S16 32) : Prop :=
  (∀ a x, ((![v562, v697] : Fin 2 → IVec S16 32) a x).toNat < S56x512.size a)
theorem k0_idx83_inb : ∀ (v562 : IVec S16 32) (v697 : IVec S16 32) (k0_hw83 : k0_chk83 v562 v697), ∀ a x, ((![v562, v697] : Fin 2 → IVec S16 32) a x).toNat < S56x512.size a := fun v562 v697 k0_hw83 => k0_hw83
def k0_off85 (k0_t2 : Fin k0_t2_loop.trips) : Fin 2 → Nat :=
  let c0_i32_49 : BitVec 32 := 0#32
  let c1_i32_50 : BitVec 32 := 1#32
  let arg14 : BitVec 32 := Scf.iv c0_i32_49 c1_i32_50 k0_t2
  let c4_i32_188 : BitVec 32 := 4#32
  let v558 : BitVec 32 := Scalar.muli arg14 c4_i32_188
  let c2_i32_189 : BitVec 32 := 2#32
  let v559 : BitVec 32 := Scalar.addi v558 c2_i32_189
  let v699 : Index := Scalar.indexCast v559
  let c352_235 : Index := 352#32
  ![v699.toNat, 352]

def k0_chk84 (v562 : IVec S16 32) (v703 : IVec S16 32) : Prop :=
  (∀ a x, ((![v562, v703] : Fin 2 → IVec S16 32) a x).toNat < S56x512.size a)
theorem k0_idx84_inb : ∀ (v562 : IVec S16 32) (v703 : IVec S16 32) (k0_hw84 : k0_chk84 v562 v703), ∀ a x, ((![v562, v703] : Fin 2 → IVec S16 32) a x).toNat < S56x512.size a := fun v562 v703 k0_hw84 => k0_hw84
def k0_off86 (k0_t2 : Fin k0_t2_loop.trips) : Fin 2 → Nat :=
  let c0_i32_49 : BitVec 32 := 0#32
  let c1_i32_50 : BitVec 32 := 1#32
  let arg14 : BitVec 32 := Scf.iv c0_i32_49 c1_i32_50 k0_t2
  let c4_i32_188 : BitVec 32 := 4#32
  let v558 : BitVec 32 := Scalar.muli arg14 c4_i32_188
  let c2_i32_189 : BitVec 32 := 2#32
  let v559 : BitVec 32 := Scalar.addi v558 c2_i32_189
  let v705 : Index := Scalar.indexCast v559
  let c368_237 : Index := 368#32
  ![v705.toNat, 368]

def k0_chk85 (v562 : IVec S16 32) (v709 : IVec S16 32) : Prop :=
  (∀ a x, ((![v562, v709] : Fin 2 → IVec S16 32) a x).toNat < S56x512.size a)
theorem k0_idx85_inb : ∀ (v562 : IVec S16 32) (v709 : IVec S16 32) (k0_hw85 : k0_chk85 v562 v709), ∀ a x, ((![v562, v709] : Fin 2 → IVec S16 32) a x).toNat < S56x512.size a := fun v562 v709 k0_hw85 => k0_hw85
def k0_off87 (k0_t2 : Fin k0_t2_loop.trips) : Fin 2 → Nat :=
  let c0_i32_49 : BitVec 32 := 0#32
  let c1_i32_50 : BitVec 32 := 1#32
  let arg14 : BitVec 32 := Scf.iv c0_i32_49 c1_i32_50 k0_t2
  let c4_i32_188 : BitVec 32 := 4#32
  let v558 : BitVec 32 := Scalar.muli arg14 c4_i32_188
  let c2_i32_189 : BitVec 32 := 2#32
  let v559 : BitVec 32 := Scalar.addi v558 c2_i32_189
  let v711 : Index := Scalar.indexCast v559
  let c384_239 : Index := 384#32
  ![v711.toNat, 384]

def k0_chk86 (v562 : IVec S16 32) (v715 : IVec S16 32) : Prop :=
  (∀ a x, ((![v562, v715] : Fin 2 → IVec S16 32) a x).toNat < S56x512.size a)
theorem k0_idx86_inb : ∀ (v562 : IVec S16 32) (v715 : IVec S16 32) (k0_hw86 : k0_chk86 v562 v715), ∀ a x, ((![v562, v715] : Fin 2 → IVec S16 32) a x).toNat < S56x512.size a := fun v562 v715 k0_hw86 => k0_hw86
def k0_off88 (k0_t2 : Fin k0_t2_loop.trips) : Fin 2 → Nat :=
  let c0_i32_49 : BitVec 32 := 0#32
  let c1_i32_50 : BitVec 32 := 1#32
  let arg14 : BitVec 32 := Scf.iv c0_i32_49 c1_i32_50 k0_t2
  let c4_i32_188 : BitVec 32 := 4#32
  let v558 : BitVec 32 := Scalar.muli arg14 c4_i32_188
  let c2_i32_189 : BitVec 32 := 2#32
  let v559 : BitVec 32 := Scalar.addi v558 c2_i32_189
  let v717 : Index := Scalar.indexCast v559
  let c400_241 : Index := 400#32
  ![v717.toNat, 400]

def k0_chk87 (v562 : IVec S16 32) (v721 : IVec S16 32) : Prop :=
  (∀ a x, ((![v562, v721] : Fin 2 → IVec S16 32) a x).toNat < S56x512.size a)
theorem k0_idx87_inb : ∀ (v562 : IVec S16 32) (v721 : IVec S16 32) (k0_hw87 : k0_chk87 v562 v721), ∀ a x, ((![v562, v721] : Fin 2 → IVec S16 32) a x).toNat < S56x512.size a := fun v562 v721 k0_hw87 => k0_hw87
def k0_off89 (k0_t2 : Fin k0_t2_loop.trips) : Fin 2 → Nat :=
  let c0_i32_49 : BitVec 32 := 0#32
  let c1_i32_50 : BitVec 32 := 1#32
  let arg14 : BitVec 32 := Scf.iv c0_i32_49 c1_i32_50 k0_t2
  let c4_i32_188 : BitVec 32 := 4#32
  let v558 : BitVec 32 := Scalar.muli arg14 c4_i32_188
  let c2_i32_189 : BitVec 32 := 2#32
  let v559 : BitVec 32 := Scalar.addi v558 c2_i32_189
  let v723 : Index := Scalar.indexCast v559
  let c416_243 : Index := 416#32
  ![v723.toNat, 416]

def k0_chk88 (v562 : IVec S16 32) (v727 : IVec S16 32) : Prop :=
  (∀ a x, ((![v562, v727] : Fin 2 → IVec S16 32) a x).toNat < S56x512.size a)
theorem k0_idx88_inb : ∀ (v562 : IVec S16 32) (v727 : IVec S16 32) (k0_hw88 : k0_chk88 v562 v727), ∀ a x, ((![v562, v727] : Fin 2 → IVec S16 32) a x).toNat < S56x512.size a := fun v562 v727 k0_hw88 => k0_hw88
def k0_off90 (k0_t2 : Fin k0_t2_loop.trips) : Fin 2 → Nat :=
  let c0_i32_49 : BitVec 32 := 0#32
  let c1_i32_50 : BitVec 32 := 1#32
  let arg14 : BitVec 32 := Scf.iv c0_i32_49 c1_i32_50 k0_t2
  let c4_i32_188 : BitVec 32 := 4#32
  let v558 : BitVec 32 := Scalar.muli arg14 c4_i32_188
  let c2_i32_189 : BitVec 32 := 2#32
  let v559 : BitVec 32 := Scalar.addi v558 c2_i32_189
  let v729 : Index := Scalar.indexCast v559
  let c432_245 : Index := 432#32
  ![v729.toNat, 432]

def k0_chk89 (v562 : IVec S16 32) (v733 : IVec S16 32) : Prop :=
  (∀ a x, ((![v562, v733] : Fin 2 → IVec S16 32) a x).toNat < S56x512.size a)
theorem k0_idx89_inb : ∀ (v562 : IVec S16 32) (v733 : IVec S16 32) (k0_hw89 : k0_chk89 v562 v733), ∀ a x, ((![v562, v733] : Fin 2 → IVec S16 32) a x).toNat < S56x512.size a := fun v562 v733 k0_hw89 => k0_hw89
def k0_off91 (k0_t2 : Fin k0_t2_loop.trips) : Fin 2 → Nat :=
  let c0_i32_49 : BitVec 32 := 0#32
  let c1_i32_50 : BitVec 32 := 1#32
  let arg14 : BitVec 32 := Scf.iv c0_i32_49 c1_i32_50 k0_t2
  let c4_i32_188 : BitVec 32 := 4#32
  let v558 : BitVec 32 := Scalar.muli arg14 c4_i32_188
  let c2_i32_189 : BitVec 32 := 2#32
  let v559 : BitVec 32 := Scalar.addi v558 c2_i32_189
  let v735 : Index := Scalar.indexCast v559
  let c448_247 : Index := 448#32
  ![v735.toNat, 448]

def k0_chk90 (v562 : IVec S16 32) (v739 : IVec S16 32) : Prop :=
  (∀ a x, ((![v562, v739] : Fin 2 → IVec S16 32) a x).toNat < S56x512.size a)
theorem k0_idx90_inb : ∀ (v562 : IVec S16 32) (v739 : IVec S16 32) (k0_hw90 : k0_chk90 v562 v739), ∀ a x, ((![v562, v739] : Fin 2 → IVec S16 32) a x).toNat < S56x512.size a := fun v562 v739 k0_hw90 => k0_hw90
def k0_off92 (k0_t2 : Fin k0_t2_loop.trips) : Fin 2 → Nat :=
  let c0_i32_49 : BitVec 32 := 0#32
  let c1_i32_50 : BitVec 32 := 1#32
  let arg14 : BitVec 32 := Scf.iv c0_i32_49 c1_i32_50 k0_t2
  let c4_i32_188 : BitVec 32 := 4#32
  let v558 : BitVec 32 := Scalar.muli arg14 c4_i32_188
  let c2_i32_189 : BitVec 32 := 2#32
  let v559 : BitVec 32 := Scalar.addi v558 c2_i32_189
  let v741 : Index := Scalar.indexCast v559
  let c464_249 : Index := 464#32
  ![v741.toNat, 464]

def k0_chk91 (v747 : IVec S16 32) (v750 : IVec S16 32) : Prop :=
  (∀ a x, ((![v747, v750] : Fin 2 → IVec S16 32) a x).toNat < S56x512.size a)
theorem k0_idx91_inb : ∀ (v747 : IVec S16 32) (v750 : IVec S16 32) (k0_hw91 : k0_chk91 v747 v750), ∀ a x, ((![v747, v750] : Fin 2 → IVec S16 32) a x).toNat < S56x512.size a := fun v747 v750 k0_hw91 => k0_hw91
def k0_off93 (k0_t2 : Fin k0_t2_loop.trips) : Fin 2 → Nat :=
  let c0_i32_49 : BitVec 32 := 0#32
  let c1_i32_50 : BitVec 32 := 1#32
  let arg14 : BitVec 32 := Scf.iv c0_i32_49 c1_i32_50 k0_t2
  let c4_i32_250 : BitVec 32 := 4#32
  let v743 : BitVec 32 := Scalar.muli arg14 c4_i32_250
  let c3_i32_251 : BitVec 32 := 3#32
  let v744 : BitVec 32 := Scalar.addi v743 c3_i32_251
  let v752 : Index := Scalar.indexCast v744
  let c0_253 : Index := 0#32
  ![v752.toNat, 0]

def k0_chk92 (v747 : IVec S16 32) (v756 : IVec S16 32) : Prop :=
  (∀ a x, ((![v747, v756] : Fin 2 → IVec S16 32) a x).toNat < S56x512.size a)
theorem k0_idx92_inb : ∀ (v747 : IVec S16 32) (v756 : IVec S16 32) (k0_hw92 : k0_chk92 v747 v756), ∀ a x, ((![v747, v756] : Fin 2 → IVec S16 32) a x).toNat < S56x512.size a := fun v747 v756 k0_hw92 => k0_hw92
def k0_off94 (k0_t2 : Fin k0_t2_loop.trips) : Fin 2 → Nat :=
  let c0_i32_49 : BitVec 32 := 0#32
  let c1_i32_50 : BitVec 32 := 1#32
  let arg14 : BitVec 32 := Scf.iv c0_i32_49 c1_i32_50 k0_t2
  let c4_i32_250 : BitVec 32 := 4#32
  let v743 : BitVec 32 := Scalar.muli arg14 c4_i32_250
  let c3_i32_251 : BitVec 32 := 3#32
  let v744 : BitVec 32 := Scalar.addi v743 c3_i32_251
  let v758 : Index := Scalar.indexCast v744
  let c16_255 : Index := 16#32
  ![v758.toNat, 16]

def k0_chk93 (v747 : IVec S16 32) (v762 : IVec S16 32) : Prop :=
  (∀ a x, ((![v747, v762] : Fin 2 → IVec S16 32) a x).toNat < S56x512.size a)
theorem k0_idx93_inb : ∀ (v747 : IVec S16 32) (v762 : IVec S16 32) (k0_hw93 : k0_chk93 v747 v762), ∀ a x, ((![v747, v762] : Fin 2 → IVec S16 32) a x).toNat < S56x512.size a := fun v747 v762 k0_hw93 => k0_hw93
def k0_off95 (k0_t2 : Fin k0_t2_loop.trips) : Fin 2 → Nat :=
  let c0_i32_49 : BitVec 32 := 0#32
  let c1_i32_50 : BitVec 32 := 1#32
  let arg14 : BitVec 32 := Scf.iv c0_i32_49 c1_i32_50 k0_t2
  let c4_i32_250 : BitVec 32 := 4#32
  let v743 : BitVec 32 := Scalar.muli arg14 c4_i32_250
  let c3_i32_251 : BitVec 32 := 3#32
  let v744 : BitVec 32 := Scalar.addi v743 c3_i32_251
  let v764 : Index := Scalar.indexCast v744
  let c32_257 : Index := 32#32
  ![v764.toNat, 32]

def k0_chk94 (v747 : IVec S16 32) (v768 : IVec S16 32) : Prop :=
  (∀ a x, ((![v747, v768] : Fin 2 → IVec S16 32) a x).toNat < S56x512.size a)
theorem k0_idx94_inb : ∀ (v747 : IVec S16 32) (v768 : IVec S16 32) (k0_hw94 : k0_chk94 v747 v768), ∀ a x, ((![v747, v768] : Fin 2 → IVec S16 32) a x).toNat < S56x512.size a := fun v747 v768 k0_hw94 => k0_hw94
def k0_off96 (k0_t2 : Fin k0_t2_loop.trips) : Fin 2 → Nat :=
  let c0_i32_49 : BitVec 32 := 0#32
  let c1_i32_50 : BitVec 32 := 1#32
  let arg14 : BitVec 32 := Scf.iv c0_i32_49 c1_i32_50 k0_t2
  let c4_i32_250 : BitVec 32 := 4#32
  let v743 : BitVec 32 := Scalar.muli arg14 c4_i32_250
  let c3_i32_251 : BitVec 32 := 3#32
  let v744 : BitVec 32 := Scalar.addi v743 c3_i32_251
  let v770 : Index := Scalar.indexCast v744
  let c48_259 : Index := 48#32
  ![v770.toNat, 48]

def k0_chk95 (v747 : IVec S16 32) (v774 : IVec S16 32) : Prop :=
  (∀ a x, ((![v747, v774] : Fin 2 → IVec S16 32) a x).toNat < S56x512.size a)
theorem k0_idx95_inb : ∀ (v747 : IVec S16 32) (v774 : IVec S16 32) (k0_hw95 : k0_chk95 v747 v774), ∀ a x, ((![v747, v774] : Fin 2 → IVec S16 32) a x).toNat < S56x512.size a := fun v747 v774 k0_hw95 => k0_hw95
def k0_off97 (k0_t2 : Fin k0_t2_loop.trips) : Fin 2 → Nat :=
  let c0_i32_49 : BitVec 32 := 0#32
  let c1_i32_50 : BitVec 32 := 1#32
  let arg14 : BitVec 32 := Scf.iv c0_i32_49 c1_i32_50 k0_t2
  let c4_i32_250 : BitVec 32 := 4#32
  let v743 : BitVec 32 := Scalar.muli arg14 c4_i32_250
  let c3_i32_251 : BitVec 32 := 3#32
  let v744 : BitVec 32 := Scalar.addi v743 c3_i32_251
  let v776 : Index := Scalar.indexCast v744
  let c64_261 : Index := 64#32
  ![v776.toNat, 64]

def k0_chk96 (v747 : IVec S16 32) (v780 : IVec S16 32) : Prop :=
  (∀ a x, ((![v747, v780] : Fin 2 → IVec S16 32) a x).toNat < S56x512.size a)
theorem k0_idx96_inb : ∀ (v747 : IVec S16 32) (v780 : IVec S16 32) (k0_hw96 : k0_chk96 v747 v780), ∀ a x, ((![v747, v780] : Fin 2 → IVec S16 32) a x).toNat < S56x512.size a := fun v747 v780 k0_hw96 => k0_hw96
def k0_off98 (k0_t2 : Fin k0_t2_loop.trips) : Fin 2 → Nat :=
  let c0_i32_49 : BitVec 32 := 0#32
  let c1_i32_50 : BitVec 32 := 1#32
  let arg14 : BitVec 32 := Scf.iv c0_i32_49 c1_i32_50 k0_t2
  let c4_i32_250 : BitVec 32 := 4#32
  let v743 : BitVec 32 := Scalar.muli arg14 c4_i32_250
  let c3_i32_251 : BitVec 32 := 3#32
  let v744 : BitVec 32 := Scalar.addi v743 c3_i32_251
  let v782 : Index := Scalar.indexCast v744
  let c80_263 : Index := 80#32
  ![v782.toNat, 80]

def k0_chk97 (v747 : IVec S16 32) (v786 : IVec S16 32) : Prop :=
  (∀ a x, ((![v747, v786] : Fin 2 → IVec S16 32) a x).toNat < S56x512.size a)
theorem k0_idx97_inb : ∀ (v747 : IVec S16 32) (v786 : IVec S16 32) (k0_hw97 : k0_chk97 v747 v786), ∀ a x, ((![v747, v786] : Fin 2 → IVec S16 32) a x).toNat < S56x512.size a := fun v747 v786 k0_hw97 => k0_hw97
def k0_off99 (k0_t2 : Fin k0_t2_loop.trips) : Fin 2 → Nat :=
  let c0_i32_49 : BitVec 32 := 0#32
  let c1_i32_50 : BitVec 32 := 1#32
  let arg14 : BitVec 32 := Scf.iv c0_i32_49 c1_i32_50 k0_t2
  let c4_i32_250 : BitVec 32 := 4#32
  let v743 : BitVec 32 := Scalar.muli arg14 c4_i32_250
  let c3_i32_251 : BitVec 32 := 3#32
  let v744 : BitVec 32 := Scalar.addi v743 c3_i32_251
  let v788 : Index := Scalar.indexCast v744
  let c96_265 : Index := 96#32
  ![v788.toNat, 96]

def k0_chk98 (v747 : IVec S16 32) (v792 : IVec S16 32) : Prop :=
  (∀ a x, ((![v747, v792] : Fin 2 → IVec S16 32) a x).toNat < S56x512.size a)
theorem k0_idx98_inb : ∀ (v747 : IVec S16 32) (v792 : IVec S16 32) (k0_hw98 : k0_chk98 v747 v792), ∀ a x, ((![v747, v792] : Fin 2 → IVec S16 32) a x).toNat < S56x512.size a := fun v747 v792 k0_hw98 => k0_hw98
def k0_off100 (k0_t2 : Fin k0_t2_loop.trips) : Fin 2 → Nat :=
  let c0_i32_49 : BitVec 32 := 0#32
  let c1_i32_50 : BitVec 32 := 1#32
  let arg14 : BitVec 32 := Scf.iv c0_i32_49 c1_i32_50 k0_t2
  let c4_i32_250 : BitVec 32 := 4#32
  let v743 : BitVec 32 := Scalar.muli arg14 c4_i32_250
  let c3_i32_251 : BitVec 32 := 3#32
  let v744 : BitVec 32 := Scalar.addi v743 c3_i32_251
  let v794 : Index := Scalar.indexCast v744
  let c112_267 : Index := 112#32
  ![v794.toNat, 112]

def k0_chk99 (v747 : IVec S16 32) (v798 : IVec S16 32) : Prop :=
  (∀ a x, ((![v747, v798] : Fin 2 → IVec S16 32) a x).toNat < S56x512.size a)
theorem k0_idx99_inb : ∀ (v747 : IVec S16 32) (v798 : IVec S16 32) (k0_hw99 : k0_chk99 v747 v798), ∀ a x, ((![v747, v798] : Fin 2 → IVec S16 32) a x).toNat < S56x512.size a := fun v747 v798 k0_hw99 => k0_hw99
def k0_off101 (k0_t2 : Fin k0_t2_loop.trips) : Fin 2 → Nat :=
  let c0_i32_49 : BitVec 32 := 0#32
  let c1_i32_50 : BitVec 32 := 1#32
  let arg14 : BitVec 32 := Scf.iv c0_i32_49 c1_i32_50 k0_t2
  let c4_i32_250 : BitVec 32 := 4#32
  let v743 : BitVec 32 := Scalar.muli arg14 c4_i32_250
  let c3_i32_251 : BitVec 32 := 3#32
  let v744 : BitVec 32 := Scalar.addi v743 c3_i32_251
  let v800 : Index := Scalar.indexCast v744
  let c128_269 : Index := 128#32
  ![v800.toNat, 128]

def k0_chk100 (v747 : IVec S16 32) (v804 : IVec S16 32) : Prop :=
  (∀ a x, ((![v747, v804] : Fin 2 → IVec S16 32) a x).toNat < S56x512.size a)
theorem k0_idx100_inb : ∀ (v747 : IVec S16 32) (v804 : IVec S16 32) (k0_hw100 : k0_chk100 v747 v804), ∀ a x, ((![v747, v804] : Fin 2 → IVec S16 32) a x).toNat < S56x512.size a := fun v747 v804 k0_hw100 => k0_hw100
def k0_off102 (k0_t2 : Fin k0_t2_loop.trips) : Fin 2 → Nat :=
  let c0_i32_49 : BitVec 32 := 0#32
  let c1_i32_50 : BitVec 32 := 1#32
  let arg14 : BitVec 32 := Scf.iv c0_i32_49 c1_i32_50 k0_t2
  let c4_i32_250 : BitVec 32 := 4#32
  let v743 : BitVec 32 := Scalar.muli arg14 c4_i32_250
  let c3_i32_251 : BitVec 32 := 3#32
  let v744 : BitVec 32 := Scalar.addi v743 c3_i32_251
  let v806 : Index := Scalar.indexCast v744
  let c144_271 : Index := 144#32
  ![v806.toNat, 144]

def k0_chk101 (v747 : IVec S16 32) (v810 : IVec S16 32) : Prop :=
  (∀ a x, ((![v747, v810] : Fin 2 → IVec S16 32) a x).toNat < S56x512.size a)
theorem k0_idx101_inb : ∀ (v747 : IVec S16 32) (v810 : IVec S16 32) (k0_hw101 : k0_chk101 v747 v810), ∀ a x, ((![v747, v810] : Fin 2 → IVec S16 32) a x).toNat < S56x512.size a := fun v747 v810 k0_hw101 => k0_hw101
def k0_off103 (k0_t2 : Fin k0_t2_loop.trips) : Fin 2 → Nat :=
  let c0_i32_49 : BitVec 32 := 0#32
  let c1_i32_50 : BitVec 32 := 1#32
  let arg14 : BitVec 32 := Scf.iv c0_i32_49 c1_i32_50 k0_t2
  let c4_i32_250 : BitVec 32 := 4#32
  let v743 : BitVec 32 := Scalar.muli arg14 c4_i32_250
  let c3_i32_251 : BitVec 32 := 3#32
  let v744 : BitVec 32 := Scalar.addi v743 c3_i32_251
  let v812 : Index := Scalar.indexCast v744
  let c160_273 : Index := 160#32
  ![v812.toNat, 160]

def k0_chk102 (v747 : IVec S16 32) (v816 : IVec S16 32) : Prop :=
  (∀ a x, ((![v747, v816] : Fin 2 → IVec S16 32) a x).toNat < S56x512.size a)
theorem k0_idx102_inb : ∀ (v747 : IVec S16 32) (v816 : IVec S16 32) (k0_hw102 : k0_chk102 v747 v816), ∀ a x, ((![v747, v816] : Fin 2 → IVec S16 32) a x).toNat < S56x512.size a := fun v747 v816 k0_hw102 => k0_hw102
def k0_off104 (k0_t2 : Fin k0_t2_loop.trips) : Fin 2 → Nat :=
  let c0_i32_49 : BitVec 32 := 0#32
  let c1_i32_50 : BitVec 32 := 1#32
  let arg14 : BitVec 32 := Scf.iv c0_i32_49 c1_i32_50 k0_t2
  let c4_i32_250 : BitVec 32 := 4#32
  let v743 : BitVec 32 := Scalar.muli arg14 c4_i32_250
  let c3_i32_251 : BitVec 32 := 3#32
  let v744 : BitVec 32 := Scalar.addi v743 c3_i32_251
  let v818 : Index := Scalar.indexCast v744
  let c176_275 : Index := 176#32
  ![v818.toNat, 176]

def k0_chk103 (v747 : IVec S16 32) (v822 : IVec S16 32) : Prop :=
  (∀ a x, ((![v747, v822] : Fin 2 → IVec S16 32) a x).toNat < S56x512.size a)
theorem k0_idx103_inb : ∀ (v747 : IVec S16 32) (v822 : IVec S16 32) (k0_hw103 : k0_chk103 v747 v822), ∀ a x, ((![v747, v822] : Fin 2 → IVec S16 32) a x).toNat < S56x512.size a := fun v747 v822 k0_hw103 => k0_hw103
def k0_off105 (k0_t2 : Fin k0_t2_loop.trips) : Fin 2 → Nat :=
  let c0_i32_49 : BitVec 32 := 0#32
  let c1_i32_50 : BitVec 32 := 1#32
  let arg14 : BitVec 32 := Scf.iv c0_i32_49 c1_i32_50 k0_t2
  let c4_i32_250 : BitVec 32 := 4#32
  let v743 : BitVec 32 := Scalar.muli arg14 c4_i32_250
  let c3_i32_251 : BitVec 32 := 3#32
  let v744 : BitVec 32 := Scalar.addi v743 c3_i32_251
  let v824 : Index := Scalar.indexCast v744
  let c192_277 : Index := 192#32
  ![v824.toNat, 192]

def k0_chk104 (v747 : IVec S16 32) (v828 : IVec S16 32) : Prop :=
  (∀ a x, ((![v747, v828] : Fin 2 → IVec S16 32) a x).toNat < S56x512.size a)
theorem k0_idx104_inb : ∀ (v747 : IVec S16 32) (v828 : IVec S16 32) (k0_hw104 : k0_chk104 v747 v828), ∀ a x, ((![v747, v828] : Fin 2 → IVec S16 32) a x).toNat < S56x512.size a := fun v747 v828 k0_hw104 => k0_hw104
def k0_off106 (k0_t2 : Fin k0_t2_loop.trips) : Fin 2 → Nat :=
  let c0_i32_49 : BitVec 32 := 0#32
  let c1_i32_50 : BitVec 32 := 1#32
  let arg14 : BitVec 32 := Scf.iv c0_i32_49 c1_i32_50 k0_t2
  let c4_i32_250 : BitVec 32 := 4#32
  let v743 : BitVec 32 := Scalar.muli arg14 c4_i32_250
  let c3_i32_251 : BitVec 32 := 3#32
  let v744 : BitVec 32 := Scalar.addi v743 c3_i32_251
  let v830 : Index := Scalar.indexCast v744
  let c208_279 : Index := 208#32
  ![v830.toNat, 208]

def k0_chk105 (v747 : IVec S16 32) (v834 : IVec S16 32) : Prop :=
  (∀ a x, ((![v747, v834] : Fin 2 → IVec S16 32) a x).toNat < S56x512.size a)
theorem k0_idx105_inb : ∀ (v747 : IVec S16 32) (v834 : IVec S16 32) (k0_hw105 : k0_chk105 v747 v834), ∀ a x, ((![v747, v834] : Fin 2 → IVec S16 32) a x).toNat < S56x512.size a := fun v747 v834 k0_hw105 => k0_hw105
def k0_off107 (k0_t2 : Fin k0_t2_loop.trips) : Fin 2 → Nat :=
  let c0_i32_49 : BitVec 32 := 0#32
  let c1_i32_50 : BitVec 32 := 1#32
  let arg14 : BitVec 32 := Scf.iv c0_i32_49 c1_i32_50 k0_t2
  let c4_i32_250 : BitVec 32 := 4#32
  let v743 : BitVec 32 := Scalar.muli arg14 c4_i32_250
  let c3_i32_251 : BitVec 32 := 3#32
  let v744 : BitVec 32 := Scalar.addi v743 c3_i32_251
  let v836 : Index := Scalar.indexCast v744
  let c224_281 : Index := 224#32
  ![v836.toNat, 224]

def k0_chk106 (v747 : IVec S16 32) (v840 : IVec S16 32) : Prop :=
  (∀ a x, ((![v747, v840] : Fin 2 → IVec S16 32) a x).toNat < S56x512.size a)
theorem k0_idx106_inb : ∀ (v747 : IVec S16 32) (v840 : IVec S16 32) (k0_hw106 : k0_chk106 v747 v840), ∀ a x, ((![v747, v840] : Fin 2 → IVec S16 32) a x).toNat < S56x512.size a := fun v747 v840 k0_hw106 => k0_hw106
def k0_off108 (k0_t2 : Fin k0_t2_loop.trips) : Fin 2 → Nat :=
  let c0_i32_49 : BitVec 32 := 0#32
  let c1_i32_50 : BitVec 32 := 1#32
  let arg14 : BitVec 32 := Scf.iv c0_i32_49 c1_i32_50 k0_t2
  let c4_i32_250 : BitVec 32 := 4#32
  let v743 : BitVec 32 := Scalar.muli arg14 c4_i32_250
  let c3_i32_251 : BitVec 32 := 3#32
  let v744 : BitVec 32 := Scalar.addi v743 c3_i32_251
  let v842 : Index := Scalar.indexCast v744
  let c240_283 : Index := 240#32
  ![v842.toNat, 240]

def k0_chk107 (v747 : IVec S16 32) (v846 : IVec S16 32) : Prop :=
  (∀ a x, ((![v747, v846] : Fin 2 → IVec S16 32) a x).toNat < S56x512.size a)
theorem k0_idx107_inb : ∀ (v747 : IVec S16 32) (v846 : IVec S16 32) (k0_hw107 : k0_chk107 v747 v846), ∀ a x, ((![v747, v846] : Fin 2 → IVec S16 32) a x).toNat < S56x512.size a := fun v747 v846 k0_hw107 => k0_hw107
def k0_off109 (k0_t2 : Fin k0_t2_loop.trips) : Fin 2 → Nat :=
  let c0_i32_49 : BitVec 32 := 0#32
  let c1_i32_50 : BitVec 32 := 1#32
  let arg14 : BitVec 32 := Scf.iv c0_i32_49 c1_i32_50 k0_t2
  let c4_i32_250 : BitVec 32 := 4#32
  let v743 : BitVec 32 := Scalar.muli arg14 c4_i32_250
  let c3_i32_251 : BitVec 32 := 3#32
  let v744 : BitVec 32 := Scalar.addi v743 c3_i32_251
  let v848 : Index := Scalar.indexCast v744
  let c256_285 : Index := 256#32
  ![v848.toNat, 256]

def k0_chk108 (v747 : IVec S16 32) (v852 : IVec S16 32) : Prop :=
  (∀ a x, ((![v747, v852] : Fin 2 → IVec S16 32) a x).toNat < S56x512.size a)
theorem k0_idx108_inb : ∀ (v747 : IVec S16 32) (v852 : IVec S16 32) (k0_hw108 : k0_chk108 v747 v852), ∀ a x, ((![v747, v852] : Fin 2 → IVec S16 32) a x).toNat < S56x512.size a := fun v747 v852 k0_hw108 => k0_hw108
def k0_off110 (k0_t2 : Fin k0_t2_loop.trips) : Fin 2 → Nat :=
  let c0_i32_49 : BitVec 32 := 0#32
  let c1_i32_50 : BitVec 32 := 1#32
  let arg14 : BitVec 32 := Scf.iv c0_i32_49 c1_i32_50 k0_t2
  let c4_i32_250 : BitVec 32 := 4#32
  let v743 : BitVec 32 := Scalar.muli arg14 c4_i32_250
  let c3_i32_251 : BitVec 32 := 3#32
  let v744 : BitVec 32 := Scalar.addi v743 c3_i32_251
  let v854 : Index := Scalar.indexCast v744
  let c272_287 : Index := 272#32
  ![v854.toNat, 272]

def k0_chk109 (v747 : IVec S16 32) (v858 : IVec S16 32) : Prop :=
  (∀ a x, ((![v747, v858] : Fin 2 → IVec S16 32) a x).toNat < S56x512.size a)
theorem k0_idx109_inb : ∀ (v747 : IVec S16 32) (v858 : IVec S16 32) (k0_hw109 : k0_chk109 v747 v858), ∀ a x, ((![v747, v858] : Fin 2 → IVec S16 32) a x).toNat < S56x512.size a := fun v747 v858 k0_hw109 => k0_hw109
def k0_off111 (k0_t2 : Fin k0_t2_loop.trips) : Fin 2 → Nat :=
  let c0_i32_49 : BitVec 32 := 0#32
  let c1_i32_50 : BitVec 32 := 1#32
  let arg14 : BitVec 32 := Scf.iv c0_i32_49 c1_i32_50 k0_t2
  let c4_i32_250 : BitVec 32 := 4#32
  let v743 : BitVec 32 := Scalar.muli arg14 c4_i32_250
  let c3_i32_251 : BitVec 32 := 3#32
  let v744 : BitVec 32 := Scalar.addi v743 c3_i32_251
  let v860 : Index := Scalar.indexCast v744
  let c288_289 : Index := 288#32
  ![v860.toNat, 288]

def k0_chk110 (v747 : IVec S16 32) (v864 : IVec S16 32) : Prop :=
  (∀ a x, ((![v747, v864] : Fin 2 → IVec S16 32) a x).toNat < S56x512.size a)
theorem k0_idx110_inb : ∀ (v747 : IVec S16 32) (v864 : IVec S16 32) (k0_hw110 : k0_chk110 v747 v864), ∀ a x, ((![v747, v864] : Fin 2 → IVec S16 32) a x).toNat < S56x512.size a := fun v747 v864 k0_hw110 => k0_hw110
def k0_off112 (k0_t2 : Fin k0_t2_loop.trips) : Fin 2 → Nat :=
  let c0_i32_49 : BitVec 32 := 0#32
  let c1_i32_50 : BitVec 32 := 1#32
  let arg14 : BitVec 32 := Scf.iv c0_i32_49 c1_i32_50 k0_t2
  let c4_i32_250 : BitVec 32 := 4#32
  let v743 : BitVec 32 := Scalar.muli arg14 c4_i32_250
  let c3_i32_251 : BitVec 32 := 3#32
  let v744 : BitVec 32 := Scalar.addi v743 c3_i32_251
  let v866 : Index := Scalar.indexCast v744
  let c304_291 : Index := 304#32
  ![v866.toNat, 304]

def k0_chk111 (v747 : IVec S16 32) (v870 : IVec S16 32) : Prop :=
  (∀ a x, ((![v747, v870] : Fin 2 → IVec S16 32) a x).toNat < S56x512.size a)
theorem k0_idx111_inb : ∀ (v747 : IVec S16 32) (v870 : IVec S16 32) (k0_hw111 : k0_chk111 v747 v870), ∀ a x, ((![v747, v870] : Fin 2 → IVec S16 32) a x).toNat < S56x512.size a := fun v747 v870 k0_hw111 => k0_hw111
def k0_off113 (k0_t2 : Fin k0_t2_loop.trips) : Fin 2 → Nat :=
  let c0_i32_49 : BitVec 32 := 0#32
  let c1_i32_50 : BitVec 32 := 1#32
  let arg14 : BitVec 32 := Scf.iv c0_i32_49 c1_i32_50 k0_t2
  let c4_i32_250 : BitVec 32 := 4#32
  let v743 : BitVec 32 := Scalar.muli arg14 c4_i32_250
  let c3_i32_251 : BitVec 32 := 3#32
  let v744 : BitVec 32 := Scalar.addi v743 c3_i32_251
  let v872 : Index := Scalar.indexCast v744
  let c320_293 : Index := 320#32
  ![v872.toNat, 320]

def k0_chk112 (v747 : IVec S16 32) (v876 : IVec S16 32) : Prop :=
  (∀ a x, ((![v747, v876] : Fin 2 → IVec S16 32) a x).toNat < S56x512.size a)
theorem k0_idx112_inb : ∀ (v747 : IVec S16 32) (v876 : IVec S16 32) (k0_hw112 : k0_chk112 v747 v876), ∀ a x, ((![v747, v876] : Fin 2 → IVec S16 32) a x).toNat < S56x512.size a := fun v747 v876 k0_hw112 => k0_hw112
def k0_off114 (k0_t2 : Fin k0_t2_loop.trips) : Fin 2 → Nat :=
  let c0_i32_49 : BitVec 32 := 0#32
  let c1_i32_50 : BitVec 32 := 1#32
  let arg14 : BitVec 32 := Scf.iv c0_i32_49 c1_i32_50 k0_t2
  let c4_i32_250 : BitVec 32 := 4#32
  let v743 : BitVec 32 := Scalar.muli arg14 c4_i32_250
  let c3_i32_251 : BitVec 32 := 3#32
  let v744 : BitVec 32 := Scalar.addi v743 c3_i32_251
  let v878 : Index := Scalar.indexCast v744
  let c336_295 : Index := 336#32
  ![v878.toNat, 336]

def k0_chk113 (v747 : IVec S16 32) (v882 : IVec S16 32) : Prop :=
  (∀ a x, ((![v747, v882] : Fin 2 → IVec S16 32) a x).toNat < S56x512.size a)
theorem k0_idx113_inb : ∀ (v747 : IVec S16 32) (v882 : IVec S16 32) (k0_hw113 : k0_chk113 v747 v882), ∀ a x, ((![v747, v882] : Fin 2 → IVec S16 32) a x).toNat < S56x512.size a := fun v747 v882 k0_hw113 => k0_hw113
def k0_off115 (k0_t2 : Fin k0_t2_loop.trips) : Fin 2 → Nat :=
  let c0_i32_49 : BitVec 32 := 0#32
  let c1_i32_50 : BitVec 32 := 1#32
  let arg14 : BitVec 32 := Scf.iv c0_i32_49 c1_i32_50 k0_t2
  let c4_i32_250 : BitVec 32 := 4#32
  let v743 : BitVec 32 := Scalar.muli arg14 c4_i32_250
  let c3_i32_251 : BitVec 32 := 3#32
  let v744 : BitVec 32 := Scalar.addi v743 c3_i32_251
  let v884 : Index := Scalar.indexCast v744
  let c352_297 : Index := 352#32
  ![v884.toNat, 352]

def k0_chk114 (v747 : IVec S16 32) (v888 : IVec S16 32) : Prop :=
  (∀ a x, ((![v747, v888] : Fin 2 → IVec S16 32) a x).toNat < S56x512.size a)
theorem k0_idx114_inb : ∀ (v747 : IVec S16 32) (v888 : IVec S16 32) (k0_hw114 : k0_chk114 v747 v888), ∀ a x, ((![v747, v888] : Fin 2 → IVec S16 32) a x).toNat < S56x512.size a := fun v747 v888 k0_hw114 => k0_hw114
def k0_off116 (k0_t2 : Fin k0_t2_loop.trips) : Fin 2 → Nat :=
  let c0_i32_49 : BitVec 32 := 0#32
  let c1_i32_50 : BitVec 32 := 1#32
  let arg14 : BitVec 32 := Scf.iv c0_i32_49 c1_i32_50 k0_t2
  let c4_i32_250 : BitVec 32 := 4#32
  let v743 : BitVec 32 := Scalar.muli arg14 c4_i32_250
  let c3_i32_251 : BitVec 32 := 3#32
  let v744 : BitVec 32 := Scalar.addi v743 c3_i32_251
  let v890 : Index := Scalar.indexCast v744
  let c368_299 : Index := 368#32
  ![v890.toNat, 368]

def k0_chk115 (v747 : IVec S16 32) (v894 : IVec S16 32) : Prop :=
  (∀ a x, ((![v747, v894] : Fin 2 → IVec S16 32) a x).toNat < S56x512.size a)
theorem k0_idx115_inb : ∀ (v747 : IVec S16 32) (v894 : IVec S16 32) (k0_hw115 : k0_chk115 v747 v894), ∀ a x, ((![v747, v894] : Fin 2 → IVec S16 32) a x).toNat < S56x512.size a := fun v747 v894 k0_hw115 => k0_hw115
def k0_off117 (k0_t2 : Fin k0_t2_loop.trips) : Fin 2 → Nat :=
  let c0_i32_49 : BitVec 32 := 0#32
  let c1_i32_50 : BitVec 32 := 1#32
  let arg14 : BitVec 32 := Scf.iv c0_i32_49 c1_i32_50 k0_t2
  let c4_i32_250 : BitVec 32 := 4#32
  let v743 : BitVec 32 := Scalar.muli arg14 c4_i32_250
  let c3_i32_251 : BitVec 32 := 3#32
  let v744 : BitVec 32 := Scalar.addi v743 c3_i32_251
  let v896 : Index := Scalar.indexCast v744
  let c384_301 : Index := 384#32
  ![v896.toNat, 384]

def k0_chk116 (v747 : IVec S16 32) (v900 : IVec S16 32) : Prop :=
  (∀ a x, ((![v747, v900] : Fin 2 → IVec S16 32) a x).toNat < S56x512.size a)
theorem k0_idx116_inb : ∀ (v747 : IVec S16 32) (v900 : IVec S16 32) (k0_hw116 : k0_chk116 v747 v900), ∀ a x, ((![v747, v900] : Fin 2 → IVec S16 32) a x).toNat < S56x512.size a := fun v747 v900 k0_hw116 => k0_hw116
def k0_off118 (k0_t2 : Fin k0_t2_loop.trips) : Fin 2 → Nat :=
  let c0_i32_49 : BitVec 32 := 0#32
  let c1_i32_50 : BitVec 32 := 1#32
  let arg14 : BitVec 32 := Scf.iv c0_i32_49 c1_i32_50 k0_t2
  let c4_i32_250 : BitVec 32 := 4#32
  let v743 : BitVec 32 := Scalar.muli arg14 c4_i32_250
  let c3_i32_251 : BitVec 32 := 3#32
  let v744 : BitVec 32 := Scalar.addi v743 c3_i32_251
  let v902 : Index := Scalar.indexCast v744
  let c400_303 : Index := 400#32
  ![v902.toNat, 400]

def k0_chk117 (v747 : IVec S16 32) (v906 : IVec S16 32) : Prop :=
  (∀ a x, ((![v747, v906] : Fin 2 → IVec S16 32) a x).toNat < S56x512.size a)
theorem k0_idx117_inb : ∀ (v747 : IVec S16 32) (v906 : IVec S16 32) (k0_hw117 : k0_chk117 v747 v906), ∀ a x, ((![v747, v906] : Fin 2 → IVec S16 32) a x).toNat < S56x512.size a := fun v747 v906 k0_hw117 => k0_hw117
def k0_off119 (k0_t2 : Fin k0_t2_loop.trips) : Fin 2 → Nat :=
  let c0_i32_49 : BitVec 32 := 0#32
  let c1_i32_50 : BitVec 32 := 1#32
  let arg14 : BitVec 32 := Scf.iv c0_i32_49 c1_i32_50 k0_t2
  let c4_i32_250 : BitVec 32 := 4#32
  let v743 : BitVec 32 := Scalar.muli arg14 c4_i32_250
  let c3_i32_251 : BitVec 32 := 3#32
  let v744 : BitVec 32 := Scalar.addi v743 c3_i32_251
  let v908 : Index := Scalar.indexCast v744
  let c416_305 : Index := 416#32
  ![v908.toNat, 416]

def k0_chk118 (v747 : IVec S16 32) (v912 : IVec S16 32) : Prop :=
  (∀ a x, ((![v747, v912] : Fin 2 → IVec S16 32) a x).toNat < S56x512.size a)
theorem k0_idx118_inb : ∀ (v747 : IVec S16 32) (v912 : IVec S16 32) (k0_hw118 : k0_chk118 v747 v912), ∀ a x, ((![v747, v912] : Fin 2 → IVec S16 32) a x).toNat < S56x512.size a := fun v747 v912 k0_hw118 => k0_hw118
def k0_off120 (k0_t2 : Fin k0_t2_loop.trips) : Fin 2 → Nat :=
  let c0_i32_49 : BitVec 32 := 0#32
  let c1_i32_50 : BitVec 32 := 1#32
  let arg14 : BitVec 32 := Scf.iv c0_i32_49 c1_i32_50 k0_t2
  let c4_i32_250 : BitVec 32 := 4#32
  let v743 : BitVec 32 := Scalar.muli arg14 c4_i32_250
  let c3_i32_251 : BitVec 32 := 3#32
  let v744 : BitVec 32 := Scalar.addi v743 c3_i32_251
  let v914 : Index := Scalar.indexCast v744
  let c432_307 : Index := 432#32
  ![v914.toNat, 432]

def k0_chk119 (v747 : IVec S16 32) (v918 : IVec S16 32) : Prop :=
  (∀ a x, ((![v747, v918] : Fin 2 → IVec S16 32) a x).toNat < S56x512.size a)
theorem k0_idx119_inb : ∀ (v747 : IVec S16 32) (v918 : IVec S16 32) (k0_hw119 : k0_chk119 v747 v918), ∀ a x, ((![v747, v918] : Fin 2 → IVec S16 32) a x).toNat < S56x512.size a := fun v747 v918 k0_hw119 => k0_hw119
def k0_off121 (k0_t2 : Fin k0_t2_loop.trips) : Fin 2 → Nat :=
  let c0_i32_49 : BitVec 32 := 0#32
  let c1_i32_50 : BitVec 32 := 1#32
  let arg14 : BitVec 32 := Scf.iv c0_i32_49 c1_i32_50 k0_t2
  let c4_i32_250 : BitVec 32 := 4#32
  let v743 : BitVec 32 := Scalar.muli arg14 c4_i32_250
  let c3_i32_251 : BitVec 32 := 3#32
  let v744 : BitVec 32 := Scalar.addi v743 c3_i32_251
  let v920 : Index := Scalar.indexCast v744
  let c448_309 : Index := 448#32
  ![v920.toNat, 448]

def k0_chk120 (v747 : IVec S16 32) (v924 : IVec S16 32) : Prop :=
  (∀ a x, ((![v747, v924] : Fin 2 → IVec S16 32) a x).toNat < S56x512.size a)
theorem k0_idx120_inb : ∀ (v747 : IVec S16 32) (v924 : IVec S16 32) (k0_hw120 : k0_chk120 v747 v924), ∀ a x, ((![v747, v924] : Fin 2 → IVec S16 32) a x).toNat < S56x512.size a := fun v747 v924 k0_hw120 => k0_hw120
def k0_off122 (k0_t2 : Fin k0_t2_loop.trips) : Fin 2 → Nat :=
  let c0_i32_49 : BitVec 32 := 0#32
  let c1_i32_50 : BitVec 32 := 1#32
  let arg14 : BitVec 32 := Scf.iv c0_i32_49 c1_i32_50 k0_t2
  let c4_i32_250 : BitVec 32 := 4#32
  let v743 : BitVec 32 := Scalar.muli arg14 c4_i32_250
  let c3_i32_251 : BitVec 32 := 3#32
  let v744 : BitVec 32 := Scalar.addi v743 c3_i32_251
  let v926 : Index := Scalar.indexCast v744
  let c464_311 : Index := 464#32
  ![v926.toNat, 464]
def k0_off123 (i : grid0.Coords) (k0_t1 : Fin k0_t1_loop.trips) (c0_i32_25 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32 : BitVec 32 := 4#32
  let v2 : BitVec 32 := Scalar.muli v1 c4_i32
  let c0_i32_12 : BitVec 32 := 0#32
  let c1_i32 : BitVec 32 := 1#32
  let arg12 : BitVec 32 := Scf.iv c0_i32_12 c1_i32 k0_t1
  let c2_i32_24 : BitVec 32 := 2#32
  let v28 : BitVec 32 := Scalar.muli arg12 c2_i32_24
  let v29 : BitVec 32 := Scalar.addi v28 c0_i32_25
  let c0_i32_53 : BitVec 32 := 0#32
  let v71 : BitVec 1 := Scalar.cmpi .sgt v29 c0_i32_53
  let v72 : BitVec 32 := Scalar.extui v71
  let c0_i32_54 : BitVec 32 := 0#32
  let v73 : BitVec 1 := Scalar.cmpi .slt v29 c0_i32_54
  let v74 : BitVec 32 := Scalar.extui v73
  let v75 : BitVec 32 := Scalar.subi v72 v74
  let c10_i32_52 : BitVec 32 := 10#32
  let c0_i32_55 : BitVec 32 := 0#32
  let v76 : BitVec 1 := Scalar.cmpi .sgt c10_i32_52 c0_i32_55
  let v77 : BitVec 32 := Scalar.extui v76
  let c0_i32_56 : BitVec 32 := 0#32
  let v78 : BitVec 1 := Scalar.cmpi .slt c10_i32_52 c0_i32_56
  let v79 : BitVec 32 := Scalar.extui v78
  let v80 : BitVec 32 := Scalar.subi v77 v79
  let v81 : BitVec 1 := Scalar.cmpi .ne v75 v80
  let v82 : BitVec 32 := Scalar.remsi v29 c10_i32_52
  let c0_i32_57 : BitVec 32 := 0#32
  let v83 : BitVec 1 := Scalar.cmpi .ne v82 c0_i32_57
  let v84 : BitVec 1 := Scalar.andi v81 v83
  let v70 : BitVec 32 := Scalar.divsi v29 c10_i32_52
  let c1_i32_58 : BitVec 32 := 1#32
  let v85 : BitVec 32 := Scalar.subi v70 c1_i32_58
  let v86 : BitVec 32 := Scalar.select v84 v85 v70
  let v87 : BitVec 32 := Scalar.addi v2 v86
  let c10_i32_61 : BitVec 32 := 10#32
  let c0_i32_62 : BitVec 32 := 0#32
  let v90 : BitVec 1 := Scalar.cmpi .eq c10_i32_61 c0_i32_62
  let c1_i32_63 : BitVec 32 := 1#32
  let v91 : BitVec 32 := Scalar.select v90 c1_i32_63 c10_i32_61
  let v92 : BitVec 32 := Scalar.remsi v29 v91
  let c0_i32_65 : BitVec 32 := 0#32
  let v94 : BitVec 1 := Scalar.cmpi .slt v92 c0_i32_65
  let c0_i32_66 : BitVec 32 := 0#32
  let v95 : BitVec 1 := Scalar.cmpi .slt v91 c0_i32_66
  let v96 : BitVec 1 := Scalar.xori v94 v95
  let c0_i32_64 : BitVec 32 := 0#32
  let v93 : BitVec 1 := Scalar.cmpi .ne v92 c0_i32_64
  let v97 : BitVec 1 := Scalar.andi v96 v93
  let v98 : BitVec 32 := Scalar.addi v92 v91
  let v99 : BitVec 32 := Scalar.select v97 v98 v92
  let c48_i32_67 : BitVec 32 := 48#32
  let v100 : BitVec 32 := Scalar.muli v99 c48_i32_67
  let c0_i32_68 : BitVec 32 := 0#32
  ![v87.toNat, v100.toNat, 0]
def k0_cond2 (k0_t1 : Fin k0_t1_loop.trips) : BitVec 1 :=
  let c0_i32_12 : BitVec 32 := 0#32
  let c1_i32 : BitVec 32 := 1#32
  let arg12 : BitVec 32 := Scf.iv c0_i32_12 c1_i32 k0_t1
  let c19_i32 : BitVec 32 := 19#32
  let v105 : BitVec 1 := Scalar.cmpi .slt arg12 c19_i32
  let v106 : BitVec 32 := Scalar.extui v105
  let c0_i32_70 : BitVec 32 := 0#32
  let v107 : BitVec 1 := Scalar.cmpi .ne v106 c0_i32_70
  v107

def k0_off124 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32 : BitVec 32 := 4#32
  let v2 : BitVec 32 := Scalar.muli v1 c4_i32
  let c0_i32_12 : BitVec 32 := 0#32
  let c1_i32 : BitVec 32 := 1#32
  let arg12 : BitVec 32 := Scf.iv c0_i32_12 c1_i32 k0_t1
  let c2_i32_24 : BitVec 32 := 2#32
  let v28 : BitVec 32 := Scalar.muli arg12 c2_i32_24
  let c0_i32_25 : BitVec 32 := 0#32
  let v29 : BitVec 32 := Scalar.addi v28 c0_i32_25
  let c2_i32_122 : BitVec 32 := 2#32
  let v188 : BitVec 32 := Scalar.addi v29 c2_i32_122
  let c0_i32_124 : BitVec 32 := 0#32
  let v190 : BitVec 1 := Scalar.cmpi .sgt v188 c0_i32_124
  let v191 : BitVec 32 := Scalar.extui v190
  let c0_i32_125 : BitVec 32 := 0#32
  let v192 : BitVec 1 := Scalar.cmpi .slt v188 c0_i32_125
  let v193 : BitVec 32 := Scalar.extui v192
  let v194 : BitVec 32 := Scalar.subi v191 v193
  let c10_i32_123 : BitVec 32 := 10#32
  let c0_i32_126 : BitVec 32 := 0#32
  let v195 : BitVec 1 := Scalar.cmpi .sgt c10_i32_123 c0_i32_126
  let v196 : BitVec 32 := Scalar.extui v195
  let c0_i32_127 : BitVec 32 := 0#32
  let v197 : BitVec 1 := Scalar.cmpi .slt c10_i32_123 c0_i32_127
  let v198 : BitVec 32 := Scalar.extui v197
  let v199 : BitVec 32 := Scalar.subi v196 v198
  let v200 : BitVec 1 := Scalar.cmpi .ne v194 v199
  let v201 : BitVec 32 := Scalar.remsi v188 c10_i32_123
  let c0_i32_128 : BitVec 32 := 0#32
  let v202 : BitVec 1 := Scalar.cmpi .ne v201 c0_i32_128
  let v203 : BitVec 1 := Scalar.andi v200 v202
  let v189 : BitVec 32 := Scalar.divsi v188 c10_i32_123
  let c1_i32_129 : BitVec 32 := 1#32
  let v204 : BitVec 32 := Scalar.subi v189 c1_i32_129
  let v205 : BitVec 32 := Scalar.select v203 v204 v189
  let v206 : BitVec 32 := Scalar.addi v2 v205
  let c10_i32_132 : BitVec 32 := 10#32
  let c0_i32_133 : BitVec 32 := 0#32
  let v209 : BitVec 1 := Scalar.cmpi .eq c10_i32_132 c0_i32_133
  let c1_i32_134 : BitVec 32 := 1#32
  let v210 : BitVec 32 := Scalar.select v209 c1_i32_134 c10_i32_132
  let v211 : BitVec 32 := Scalar.remsi v188 v210
  let c0_i32_136 : BitVec 32 := 0#32
  let v213 : BitVec 1 := Scalar.cmpi .slt v211 c0_i32_136
  let c0_i32_137 : BitVec 32 := 0#32
  let v214 : BitVec 1 := Scalar.cmpi .slt v210 c0_i32_137
  let v215 : BitVec 1 := Scalar.xori v213 v214
  let c0_i32_135 : BitVec 32 := 0#32
  let v212 : BitVec 1 := Scalar.cmpi .ne v211 c0_i32_135
  let v216 : BitVec 1 := Scalar.andi v215 v212
  let v217 : BitVec 32 := Scalar.addi v211 v210
  let v218 : BitVec 32 := Scalar.select v216 v217 v211
  let c48_i32_138 : BitVec 32 := 48#32
  let v219 : BitVec 32 := Scalar.muli v218 c48_i32_138
  let c0_i32_139 : BitVec 32 := 0#32
  ![v206.toNat, v219.toNat, 0]
@[reducible] def k0_t3_loop : Scf.Loop 32 :=
  let c0_i32_97 : BitVec 32 := 0#32
  let c12_i32_98 : BitVec 32 := 12#32
  let v148 : BitVec 32 := Scalar.addi c0_i32_97 c12_i32_98
  let c1_i32_99 : BitVec 32 := 1#32
  ⟨c0_i32_97, v148, c1_i32_99⟩

def k0_chk121 (v192 : IVec S16 32) (v195 : IVec S16 32) : Prop :=
  (∀ a x, ((![v192, v195] : Fin 2 → IVec S16 32) a x).toNat < S56x512.size a)
theorem k0_idx121_inb : ∀ (v192 : IVec S16 32) (v195 : IVec S16 32) (k0_hw121 : k0_chk121 v192 v195), ∀ a x, ((![v192, v195] : Fin 2 → IVec S16 32) a x).toNat < S56x512.size a := fun v192 v195 k0_hw121 => k0_hw121
def k0_off125 (k0_t3 : Fin k0_t3_loop.trips) : Fin 2 → Nat :=
  let c0_i32_97 : BitVec 32 := 0#32
  let c1_i32_99 : BitVec 32 := 1#32
  let arg14 : BitVec 32 := Scf.iv c0_i32_97 c1_i32_99 k0_t3
  let c4_i32_122 : BitVec 32 := 4#32
  let v188 : BitVec 32 := Scalar.muli arg14 c4_i32_122
  let c0_i32_123 : BitVec 32 := 0#32
  let v189 : BitVec 32 := Scalar.addi v188 c0_i32_123
  let v197 : Index := Scalar.indexCast v189
  let c0 : Index := 0#32
  ![v197.toNat, 0]

def k0_chk122 (v192 : IVec S16 32) (v201 : IVec S16 32) : Prop :=
  (∀ a x, ((![v192, v201] : Fin 2 → IVec S16 32) a x).toNat < S56x512.size a)
theorem k0_idx122_inb : ∀ (v192 : IVec S16 32) (v201 : IVec S16 32) (k0_hw122 : k0_chk122 v192 v201), ∀ a x, ((![v192, v201] : Fin 2 → IVec S16 32) a x).toNat < S56x512.size a := fun v192 v201 k0_hw122 => k0_hw122
def k0_off126 (k0_t3 : Fin k0_t3_loop.trips) : Fin 2 → Nat :=
  let c0_i32_97 : BitVec 32 := 0#32
  let c1_i32_99 : BitVec 32 := 1#32
  let arg14 : BitVec 32 := Scf.iv c0_i32_97 c1_i32_99 k0_t3
  let c4_i32_122 : BitVec 32 := 4#32
  let v188 : BitVec 32 := Scalar.muli arg14 c4_i32_122
  let c0_i32_123 : BitVec 32 := 0#32
  let v189 : BitVec 32 := Scalar.addi v188 c0_i32_123
  let v203 : Index := Scalar.indexCast v189
  let c16 : Index := 16#32
  ![v203.toNat, 16]

def k0_chk123 (v192 : IVec S16 32) (v207 : IVec S16 32) : Prop :=
  (∀ a x, ((![v192, v207] : Fin 2 → IVec S16 32) a x).toNat < S56x512.size a)
theorem k0_idx123_inb : ∀ (v192 : IVec S16 32) (v207 : IVec S16 32) (k0_hw123 : k0_chk123 v192 v207), ∀ a x, ((![v192, v207] : Fin 2 → IVec S16 32) a x).toNat < S56x512.size a := fun v192 v207 k0_hw123 => k0_hw123
def k0_off127 (k0_t3 : Fin k0_t3_loop.trips) : Fin 2 → Nat :=
  let c0_i32_97 : BitVec 32 := 0#32
  let c1_i32_99 : BitVec 32 := 1#32
  let arg14 : BitVec 32 := Scf.iv c0_i32_97 c1_i32_99 k0_t3
  let c4_i32_122 : BitVec 32 := 4#32
  let v188 : BitVec 32 := Scalar.muli arg14 c4_i32_122
  let c0_i32_123 : BitVec 32 := 0#32
  let v189 : BitVec 32 := Scalar.addi v188 c0_i32_123
  let v209 : Index := Scalar.indexCast v189
  let c32 : Index := 32#32
  ![v209.toNat, 32]

def k0_chk124 (v192 : IVec S16 32) (v213 : IVec S16 32) : Prop :=
  (∀ a x, ((![v192, v213] : Fin 2 → IVec S16 32) a x).toNat < S56x512.size a)
theorem k0_idx124_inb : ∀ (v192 : IVec S16 32) (v213 : IVec S16 32) (k0_hw124 : k0_chk124 v192 v213), ∀ a x, ((![v192, v213] : Fin 2 → IVec S16 32) a x).toNat < S56x512.size a := fun v192 v213 k0_hw124 => k0_hw124
def k0_off128 (k0_t3 : Fin k0_t3_loop.trips) : Fin 2 → Nat :=
  let c0_i32_97 : BitVec 32 := 0#32
  let c1_i32_99 : BitVec 32 := 1#32
  let arg14 : BitVec 32 := Scf.iv c0_i32_97 c1_i32_99 k0_t3
  let c4_i32_122 : BitVec 32 := 4#32
  let v188 : BitVec 32 := Scalar.muli arg14 c4_i32_122
  let c0_i32_123 : BitVec 32 := 0#32
  let v189 : BitVec 32 := Scalar.addi v188 c0_i32_123
  let v215 : Index := Scalar.indexCast v189
  let c48 : Index := 48#32
  ![v215.toNat, 48]

def k0_chk125 (v192 : IVec S16 32) (v219 : IVec S16 32) : Prop :=
  (∀ a x, ((![v192, v219] : Fin 2 → IVec S16 32) a x).toNat < S56x512.size a)
theorem k0_idx125_inb : ∀ (v192 : IVec S16 32) (v219 : IVec S16 32) (k0_hw125 : k0_chk125 v192 v219), ∀ a x, ((![v192, v219] : Fin 2 → IVec S16 32) a x).toNat < S56x512.size a := fun v192 v219 k0_hw125 => k0_hw125
def k0_off129 (k0_t3 : Fin k0_t3_loop.trips) : Fin 2 → Nat :=
  let c0_i32_97 : BitVec 32 := 0#32
  let c1_i32_99 : BitVec 32 := 1#32
  let arg14 : BitVec 32 := Scf.iv c0_i32_97 c1_i32_99 k0_t3
  let c4_i32_122 : BitVec 32 := 4#32
  let v188 : BitVec 32 := Scalar.muli arg14 c4_i32_122
  let c0_i32_123 : BitVec 32 := 0#32
  let v189 : BitVec 32 := Scalar.addi v188 c0_i32_123
  let v221 : Index := Scalar.indexCast v189
  let c64 : Index := 64#32
  ![v221.toNat, 64]

def k0_chk126 (v192 : IVec S16 32) (v225 : IVec S16 32) : Prop :=
  (∀ a x, ((![v192, v225] : Fin 2 → IVec S16 32) a x).toNat < S56x512.size a)
theorem k0_idx126_inb : ∀ (v192 : IVec S16 32) (v225 : IVec S16 32) (k0_hw126 : k0_chk126 v192 v225), ∀ a x, ((![v192, v225] : Fin 2 → IVec S16 32) a x).toNat < S56x512.size a := fun v192 v225 k0_hw126 => k0_hw126
def k0_off130 (k0_t3 : Fin k0_t3_loop.trips) : Fin 2 → Nat :=
  let c0_i32_97 : BitVec 32 := 0#32
  let c1_i32_99 : BitVec 32 := 1#32
  let arg14 : BitVec 32 := Scf.iv c0_i32_97 c1_i32_99 k0_t3
  let c4_i32_122 : BitVec 32 := 4#32
  let v188 : BitVec 32 := Scalar.muli arg14 c4_i32_122
  let c0_i32_123 : BitVec 32 := 0#32
  let v189 : BitVec 32 := Scalar.addi v188 c0_i32_123
  let v227 : Index := Scalar.indexCast v189
  let c80 : Index := 80#32
  ![v227.toNat, 80]

def k0_chk127 (v192 : IVec S16 32) (v231 : IVec S16 32) : Prop :=
  (∀ a x, ((![v192, v231] : Fin 2 → IVec S16 32) a x).toNat < S56x512.size a)
theorem k0_idx127_inb : ∀ (v192 : IVec S16 32) (v231 : IVec S16 32) (k0_hw127 : k0_chk127 v192 v231), ∀ a x, ((![v192, v231] : Fin 2 → IVec S16 32) a x).toNat < S56x512.size a := fun v192 v231 k0_hw127 => k0_hw127
def k0_off131 (k0_t3 : Fin k0_t3_loop.trips) : Fin 2 → Nat :=
  let c0_i32_97 : BitVec 32 := 0#32
  let c1_i32_99 : BitVec 32 := 1#32
  let arg14 : BitVec 32 := Scf.iv c0_i32_97 c1_i32_99 k0_t3
  let c4_i32_122 : BitVec 32 := 4#32
  let v188 : BitVec 32 := Scalar.muli arg14 c4_i32_122
  let c0_i32_123 : BitVec 32 := 0#32
  let v189 : BitVec 32 := Scalar.addi v188 c0_i32_123
  let v233 : Index := Scalar.indexCast v189
  let c96 : Index := 96#32
  ![v233.toNat, 96]

def k0_chk128 (v192 : IVec S16 32) (v237 : IVec S16 32) : Prop :=
  (∀ a x, ((![v192, v237] : Fin 2 → IVec S16 32) a x).toNat < S56x512.size a)
theorem k0_idx128_inb : ∀ (v192 : IVec S16 32) (v237 : IVec S16 32) (k0_hw128 : k0_chk128 v192 v237), ∀ a x, ((![v192, v237] : Fin 2 → IVec S16 32) a x).toNat < S56x512.size a := fun v192 v237 k0_hw128 => k0_hw128
def k0_off132 (k0_t3 : Fin k0_t3_loop.trips) : Fin 2 → Nat :=
  let c0_i32_97 : BitVec 32 := 0#32
  let c1_i32_99 : BitVec 32 := 1#32
  let arg14 : BitVec 32 := Scf.iv c0_i32_97 c1_i32_99 k0_t3
  let c4_i32_122 : BitVec 32 := 4#32
  let v188 : BitVec 32 := Scalar.muli arg14 c4_i32_122
  let c0_i32_123 : BitVec 32 := 0#32
  let v189 : BitVec 32 := Scalar.addi v188 c0_i32_123
  let v239 : Index := Scalar.indexCast v189
  let c112 : Index := 112#32
  ![v239.toNat, 112]

def k0_chk129 (v192 : IVec S16 32) (v243 : IVec S16 32) : Prop :=
  (∀ a x, ((![v192, v243] : Fin 2 → IVec S16 32) a x).toNat < S56x512.size a)
theorem k0_idx129_inb : ∀ (v192 : IVec S16 32) (v243 : IVec S16 32) (k0_hw129 : k0_chk129 v192 v243), ∀ a x, ((![v192, v243] : Fin 2 → IVec S16 32) a x).toNat < S56x512.size a := fun v192 v243 k0_hw129 => k0_hw129
def k0_off133 (k0_t3 : Fin k0_t3_loop.trips) : Fin 2 → Nat :=
  let c0_i32_97 : BitVec 32 := 0#32
  let c1_i32_99 : BitVec 32 := 1#32
  let arg14 : BitVec 32 := Scf.iv c0_i32_97 c1_i32_99 k0_t3
  let c4_i32_122 : BitVec 32 := 4#32
  let v188 : BitVec 32 := Scalar.muli arg14 c4_i32_122
  let c0_i32_123 : BitVec 32 := 0#32
  let v189 : BitVec 32 := Scalar.addi v188 c0_i32_123
  let v245 : Index := Scalar.indexCast v189
  let c128 : Index := 128#32
  ![v245.toNat, 128]

def k0_chk130 (v192 : IVec S16 32) (v249 : IVec S16 32) : Prop :=
  (∀ a x, ((![v192, v249] : Fin 2 → IVec S16 32) a x).toNat < S56x512.size a)
theorem k0_idx130_inb : ∀ (v192 : IVec S16 32) (v249 : IVec S16 32) (k0_hw130 : k0_chk130 v192 v249), ∀ a x, ((![v192, v249] : Fin 2 → IVec S16 32) a x).toNat < S56x512.size a := fun v192 v249 k0_hw130 => k0_hw130
def k0_off134 (k0_t3 : Fin k0_t3_loop.trips) : Fin 2 → Nat :=
  let c0_i32_97 : BitVec 32 := 0#32
  let c1_i32_99 : BitVec 32 := 1#32
  let arg14 : BitVec 32 := Scf.iv c0_i32_97 c1_i32_99 k0_t3
  let c4_i32_122 : BitVec 32 := 4#32
  let v188 : BitVec 32 := Scalar.muli arg14 c4_i32_122
  let c0_i32_123 : BitVec 32 := 0#32
  let v189 : BitVec 32 := Scalar.addi v188 c0_i32_123
  let v251 : Index := Scalar.indexCast v189
  let c144 : Index := 144#32
  ![v251.toNat, 144]

def k0_chk131 (v192 : IVec S16 32) (v255 : IVec S16 32) : Prop :=
  (∀ a x, ((![v192, v255] : Fin 2 → IVec S16 32) a x).toNat < S56x512.size a)
theorem k0_idx131_inb : ∀ (v192 : IVec S16 32) (v255 : IVec S16 32) (k0_hw131 : k0_chk131 v192 v255), ∀ a x, ((![v192, v255] : Fin 2 → IVec S16 32) a x).toNat < S56x512.size a := fun v192 v255 k0_hw131 => k0_hw131
def k0_off135 (k0_t3 : Fin k0_t3_loop.trips) : Fin 2 → Nat :=
  let c0_i32_97 : BitVec 32 := 0#32
  let c1_i32_99 : BitVec 32 := 1#32
  let arg14 : BitVec 32 := Scf.iv c0_i32_97 c1_i32_99 k0_t3
  let c4_i32_122 : BitVec 32 := 4#32
  let v188 : BitVec 32 := Scalar.muli arg14 c4_i32_122
  let c0_i32_123 : BitVec 32 := 0#32
  let v189 : BitVec 32 := Scalar.addi v188 c0_i32_123
  let v257 : Index := Scalar.indexCast v189
  let c160 : Index := 160#32
  ![v257.toNat, 160]

def k0_chk132 (v192 : IVec S16 32) (v261 : IVec S16 32) : Prop :=
  (∀ a x, ((![v192, v261] : Fin 2 → IVec S16 32) a x).toNat < S56x512.size a)
theorem k0_idx132_inb : ∀ (v192 : IVec S16 32) (v261 : IVec S16 32) (k0_hw132 : k0_chk132 v192 v261), ∀ a x, ((![v192, v261] : Fin 2 → IVec S16 32) a x).toNat < S56x512.size a := fun v192 v261 k0_hw132 => k0_hw132
def k0_off136 (k0_t3 : Fin k0_t3_loop.trips) : Fin 2 → Nat :=
  let c0_i32_97 : BitVec 32 := 0#32
  let c1_i32_99 : BitVec 32 := 1#32
  let arg14 : BitVec 32 := Scf.iv c0_i32_97 c1_i32_99 k0_t3
  let c4_i32_122 : BitVec 32 := 4#32
  let v188 : BitVec 32 := Scalar.muli arg14 c4_i32_122
  let c0_i32_123 : BitVec 32 := 0#32
  let v189 : BitVec 32 := Scalar.addi v188 c0_i32_123
  let v263 : Index := Scalar.indexCast v189
  let c176 : Index := 176#32
  ![v263.toNat, 176]

def k0_chk133 (v192 : IVec S16 32) (v267 : IVec S16 32) : Prop :=
  (∀ a x, ((![v192, v267] : Fin 2 → IVec S16 32) a x).toNat < S56x512.size a)
theorem k0_idx133_inb : ∀ (v192 : IVec S16 32) (v267 : IVec S16 32) (k0_hw133 : k0_chk133 v192 v267), ∀ a x, ((![v192, v267] : Fin 2 → IVec S16 32) a x).toNat < S56x512.size a := fun v192 v267 k0_hw133 => k0_hw133
def k0_off137 (k0_t3 : Fin k0_t3_loop.trips) : Fin 2 → Nat :=
  let c0_i32_97 : BitVec 32 := 0#32
  let c1_i32_99 : BitVec 32 := 1#32
  let arg14 : BitVec 32 := Scf.iv c0_i32_97 c1_i32_99 k0_t3
  let c4_i32_122 : BitVec 32 := 4#32
  let v188 : BitVec 32 := Scalar.muli arg14 c4_i32_122
  let c0_i32_123 : BitVec 32 := 0#32
  let v189 : BitVec 32 := Scalar.addi v188 c0_i32_123
  let v269 : Index := Scalar.indexCast v189
  let c192 : Index := 192#32
  ![v269.toNat, 192]

def k0_chk134 (v192 : IVec S16 32) (v273 : IVec S16 32) : Prop :=
  (∀ a x, ((![v192, v273] : Fin 2 → IVec S16 32) a x).toNat < S56x512.size a)
theorem k0_idx134_inb : ∀ (v192 : IVec S16 32) (v273 : IVec S16 32) (k0_hw134 : k0_chk134 v192 v273), ∀ a x, ((![v192, v273] : Fin 2 → IVec S16 32) a x).toNat < S56x512.size a := fun v192 v273 k0_hw134 => k0_hw134
def k0_off138 (k0_t3 : Fin k0_t3_loop.trips) : Fin 2 → Nat :=
  let c0_i32_97 : BitVec 32 := 0#32
  let c1_i32_99 : BitVec 32 := 1#32
  let arg14 : BitVec 32 := Scf.iv c0_i32_97 c1_i32_99 k0_t3
  let c4_i32_122 : BitVec 32 := 4#32
  let v188 : BitVec 32 := Scalar.muli arg14 c4_i32_122
  let c0_i32_123 : BitVec 32 := 0#32
  let v189 : BitVec 32 := Scalar.addi v188 c0_i32_123
  let v275 : Index := Scalar.indexCast v189
  let c208 : Index := 208#32
  ![v275.toNat, 208]

def k0_chk135 (v192 : IVec S16 32) (v279 : IVec S16 32) : Prop :=
  (∀ a x, ((![v192, v279] : Fin 2 → IVec S16 32) a x).toNat < S56x512.size a)
theorem k0_idx135_inb : ∀ (v192 : IVec S16 32) (v279 : IVec S16 32) (k0_hw135 : k0_chk135 v192 v279), ∀ a x, ((![v192, v279] : Fin 2 → IVec S16 32) a x).toNat < S56x512.size a := fun v192 v279 k0_hw135 => k0_hw135
def k0_off139 (k0_t3 : Fin k0_t3_loop.trips) : Fin 2 → Nat :=
  let c0_i32_97 : BitVec 32 := 0#32
  let c1_i32_99 : BitVec 32 := 1#32
  let arg14 : BitVec 32 := Scf.iv c0_i32_97 c1_i32_99 k0_t3
  let c4_i32_122 : BitVec 32 := 4#32
  let v188 : BitVec 32 := Scalar.muli arg14 c4_i32_122
  let c0_i32_123 : BitVec 32 := 0#32
  let v189 : BitVec 32 := Scalar.addi v188 c0_i32_123
  let v281 : Index := Scalar.indexCast v189
  let c224 : Index := 224#32
  ![v281.toNat, 224]

def k0_chk136 (v192 : IVec S16 32) (v285 : IVec S16 32) : Prop :=
  (∀ a x, ((![v192, v285] : Fin 2 → IVec S16 32) a x).toNat < S56x512.size a)
theorem k0_idx136_inb : ∀ (v192 : IVec S16 32) (v285 : IVec S16 32) (k0_hw136 : k0_chk136 v192 v285), ∀ a x, ((![v192, v285] : Fin 2 → IVec S16 32) a x).toNat < S56x512.size a := fun v192 v285 k0_hw136 => k0_hw136
def k0_off140 (k0_t3 : Fin k0_t3_loop.trips) : Fin 2 → Nat :=
  let c0_i32_97 : BitVec 32 := 0#32
  let c1_i32_99 : BitVec 32 := 1#32
  let arg14 : BitVec 32 := Scf.iv c0_i32_97 c1_i32_99 k0_t3
  let c4_i32_122 : BitVec 32 := 4#32
  let v188 : BitVec 32 := Scalar.muli arg14 c4_i32_122
  let c0_i32_123 : BitVec 32 := 0#32
  let v189 : BitVec 32 := Scalar.addi v188 c0_i32_123
  let v287 : Index := Scalar.indexCast v189
  let c240 : Index := 240#32
  ![v287.toNat, 240]

def k0_chk137 (v192 : IVec S16 32) (v291 : IVec S16 32) : Prop :=
  (∀ a x, ((![v192, v291] : Fin 2 → IVec S16 32) a x).toNat < S56x512.size a)
theorem k0_idx137_inb : ∀ (v192 : IVec S16 32) (v291 : IVec S16 32) (k0_hw137 : k0_chk137 v192 v291), ∀ a x, ((![v192, v291] : Fin 2 → IVec S16 32) a x).toNat < S56x512.size a := fun v192 v291 k0_hw137 => k0_hw137
def k0_off141 (k0_t3 : Fin k0_t3_loop.trips) : Fin 2 → Nat :=
  let c0_i32_97 : BitVec 32 := 0#32
  let c1_i32_99 : BitVec 32 := 1#32
  let arg14 : BitVec 32 := Scf.iv c0_i32_97 c1_i32_99 k0_t3
  let c4_i32_122 : BitVec 32 := 4#32
  let v188 : BitVec 32 := Scalar.muli arg14 c4_i32_122
  let c0_i32_123 : BitVec 32 := 0#32
  let v189 : BitVec 32 := Scalar.addi v188 c0_i32_123
  let v293 : Index := Scalar.indexCast v189
  let c256 : Index := 256#32
  ![v293.toNat, 256]

def k0_chk138 (v192 : IVec S16 32) (v297 : IVec S16 32) : Prop :=
  (∀ a x, ((![v192, v297] : Fin 2 → IVec S16 32) a x).toNat < S56x512.size a)
theorem k0_idx138_inb : ∀ (v192 : IVec S16 32) (v297 : IVec S16 32) (k0_hw138 : k0_chk138 v192 v297), ∀ a x, ((![v192, v297] : Fin 2 → IVec S16 32) a x).toNat < S56x512.size a := fun v192 v297 k0_hw138 => k0_hw138
def k0_off142 (k0_t3 : Fin k0_t3_loop.trips) : Fin 2 → Nat :=
  let c0_i32_97 : BitVec 32 := 0#32
  let c1_i32_99 : BitVec 32 := 1#32
  let arg14 : BitVec 32 := Scf.iv c0_i32_97 c1_i32_99 k0_t3
  let c4_i32_122 : BitVec 32 := 4#32
  let v188 : BitVec 32 := Scalar.muli arg14 c4_i32_122
  let c0_i32_123 : BitVec 32 := 0#32
  let v189 : BitVec 32 := Scalar.addi v188 c0_i32_123
  let v299 : Index := Scalar.indexCast v189
  let c272 : Index := 272#32
  ![v299.toNat, 272]

def k0_chk139 (v192 : IVec S16 32) (v303 : IVec S16 32) : Prop :=
  (∀ a x, ((![v192, v303] : Fin 2 → IVec S16 32) a x).toNat < S56x512.size a)
theorem k0_idx139_inb : ∀ (v192 : IVec S16 32) (v303 : IVec S16 32) (k0_hw139 : k0_chk139 v192 v303), ∀ a x, ((![v192, v303] : Fin 2 → IVec S16 32) a x).toNat < S56x512.size a := fun v192 v303 k0_hw139 => k0_hw139
def k0_off143 (k0_t3 : Fin k0_t3_loop.trips) : Fin 2 → Nat :=
  let c0_i32_97 : BitVec 32 := 0#32
  let c1_i32_99 : BitVec 32 := 1#32
  let arg14 : BitVec 32 := Scf.iv c0_i32_97 c1_i32_99 k0_t3
  let c4_i32_122 : BitVec 32 := 4#32
  let v188 : BitVec 32 := Scalar.muli arg14 c4_i32_122
  let c0_i32_123 : BitVec 32 := 0#32
  let v189 : BitVec 32 := Scalar.addi v188 c0_i32_123
  let v305 : Index := Scalar.indexCast v189
  let c288 : Index := 288#32
  ![v305.toNat, 288]

def k0_chk140 (v192 : IVec S16 32) (v309 : IVec S16 32) : Prop :=
  (∀ a x, ((![v192, v309] : Fin 2 → IVec S16 32) a x).toNat < S56x512.size a)
theorem k0_idx140_inb : ∀ (v192 : IVec S16 32) (v309 : IVec S16 32) (k0_hw140 : k0_chk140 v192 v309), ∀ a x, ((![v192, v309] : Fin 2 → IVec S16 32) a x).toNat < S56x512.size a := fun v192 v309 k0_hw140 => k0_hw140
def k0_off144 (k0_t3 : Fin k0_t3_loop.trips) : Fin 2 → Nat :=
  let c0_i32_97 : BitVec 32 := 0#32
  let c1_i32_99 : BitVec 32 := 1#32
  let arg14 : BitVec 32 := Scf.iv c0_i32_97 c1_i32_99 k0_t3
  let c4_i32_122 : BitVec 32 := 4#32
  let v188 : BitVec 32 := Scalar.muli arg14 c4_i32_122
  let c0_i32_123 : BitVec 32 := 0#32
  let v189 : BitVec 32 := Scalar.addi v188 c0_i32_123
  let v311 : Index := Scalar.indexCast v189
  let c304 : Index := 304#32
  ![v311.toNat, 304]

def k0_chk141 (v192 : IVec S16 32) (v315 : IVec S16 32) : Prop :=
  (∀ a x, ((![v192, v315] : Fin 2 → IVec S16 32) a x).toNat < S56x512.size a)
theorem k0_idx141_inb : ∀ (v192 : IVec S16 32) (v315 : IVec S16 32) (k0_hw141 : k0_chk141 v192 v315), ∀ a x, ((![v192, v315] : Fin 2 → IVec S16 32) a x).toNat < S56x512.size a := fun v192 v315 k0_hw141 => k0_hw141
def k0_off145 (k0_t3 : Fin k0_t3_loop.trips) : Fin 2 → Nat :=
  let c0_i32_97 : BitVec 32 := 0#32
  let c1_i32_99 : BitVec 32 := 1#32
  let arg14 : BitVec 32 := Scf.iv c0_i32_97 c1_i32_99 k0_t3
  let c4_i32_122 : BitVec 32 := 4#32
  let v188 : BitVec 32 := Scalar.muli arg14 c4_i32_122
  let c0_i32_123 : BitVec 32 := 0#32
  let v189 : BitVec 32 := Scalar.addi v188 c0_i32_123
  let v317 : Index := Scalar.indexCast v189
  let c320 : Index := 320#32
  ![v317.toNat, 320]

def k0_chk142 (v192 : IVec S16 32) (v321 : IVec S16 32) : Prop :=
  (∀ a x, ((![v192, v321] : Fin 2 → IVec S16 32) a x).toNat < S56x512.size a)
theorem k0_idx142_inb : ∀ (v192 : IVec S16 32) (v321 : IVec S16 32) (k0_hw142 : k0_chk142 v192 v321), ∀ a x, ((![v192, v321] : Fin 2 → IVec S16 32) a x).toNat < S56x512.size a := fun v192 v321 k0_hw142 => k0_hw142
def k0_off146 (k0_t3 : Fin k0_t3_loop.trips) : Fin 2 → Nat :=
  let c0_i32_97 : BitVec 32 := 0#32
  let c1_i32_99 : BitVec 32 := 1#32
  let arg14 : BitVec 32 := Scf.iv c0_i32_97 c1_i32_99 k0_t3
  let c4_i32_122 : BitVec 32 := 4#32
  let v188 : BitVec 32 := Scalar.muli arg14 c4_i32_122
  let c0_i32_123 : BitVec 32 := 0#32
  let v189 : BitVec 32 := Scalar.addi v188 c0_i32_123
  let v323 : Index := Scalar.indexCast v189
  let c336 : Index := 336#32
  ![v323.toNat, 336]

def k0_chk143 (v192 : IVec S16 32) (v327 : IVec S16 32) : Prop :=
  (∀ a x, ((![v192, v327] : Fin 2 → IVec S16 32) a x).toNat < S56x512.size a)
theorem k0_idx143_inb : ∀ (v192 : IVec S16 32) (v327 : IVec S16 32) (k0_hw143 : k0_chk143 v192 v327), ∀ a x, ((![v192, v327] : Fin 2 → IVec S16 32) a x).toNat < S56x512.size a := fun v192 v327 k0_hw143 => k0_hw143
def k0_off147 (k0_t3 : Fin k0_t3_loop.trips) : Fin 2 → Nat :=
  let c0_i32_97 : BitVec 32 := 0#32
  let c1_i32_99 : BitVec 32 := 1#32
  let arg14 : BitVec 32 := Scf.iv c0_i32_97 c1_i32_99 k0_t3
  let c4_i32_122 : BitVec 32 := 4#32
  let v188 : BitVec 32 := Scalar.muli arg14 c4_i32_122
  let c0_i32_123 : BitVec 32 := 0#32
  let v189 : BitVec 32 := Scalar.addi v188 c0_i32_123
  let v329 : Index := Scalar.indexCast v189
  let c352 : Index := 352#32
  ![v329.toNat, 352]

def k0_chk144 (v192 : IVec S16 32) (v333 : IVec S16 32) : Prop :=
  (∀ a x, ((![v192, v333] : Fin 2 → IVec S16 32) a x).toNat < S56x512.size a)
theorem k0_idx144_inb : ∀ (v192 : IVec S16 32) (v333 : IVec S16 32) (k0_hw144 : k0_chk144 v192 v333), ∀ a x, ((![v192, v333] : Fin 2 → IVec S16 32) a x).toNat < S56x512.size a := fun v192 v333 k0_hw144 => k0_hw144
def k0_off148 (k0_t3 : Fin k0_t3_loop.trips) : Fin 2 → Nat :=
  let c0_i32_97 : BitVec 32 := 0#32
  let c1_i32_99 : BitVec 32 := 1#32
  let arg14 : BitVec 32 := Scf.iv c0_i32_97 c1_i32_99 k0_t3
  let c4_i32_122 : BitVec 32 := 4#32
  let v188 : BitVec 32 := Scalar.muli arg14 c4_i32_122
  let c0_i32_123 : BitVec 32 := 0#32
  let v189 : BitVec 32 := Scalar.addi v188 c0_i32_123
  let v335 : Index := Scalar.indexCast v189
  let c368 : Index := 368#32
  ![v335.toNat, 368]

def k0_chk145 (v192 : IVec S16 32) (v339 : IVec S16 32) : Prop :=
  (∀ a x, ((![v192, v339] : Fin 2 → IVec S16 32) a x).toNat < S56x512.size a)
theorem k0_idx145_inb : ∀ (v192 : IVec S16 32) (v339 : IVec S16 32) (k0_hw145 : k0_chk145 v192 v339), ∀ a x, ((![v192, v339] : Fin 2 → IVec S16 32) a x).toNat < S56x512.size a := fun v192 v339 k0_hw145 => k0_hw145
def k0_off149 (k0_t3 : Fin k0_t3_loop.trips) : Fin 2 → Nat :=
  let c0_i32_97 : BitVec 32 := 0#32
  let c1_i32_99 : BitVec 32 := 1#32
  let arg14 : BitVec 32 := Scf.iv c0_i32_97 c1_i32_99 k0_t3
  let c4_i32_122 : BitVec 32 := 4#32
  let v188 : BitVec 32 := Scalar.muli arg14 c4_i32_122
  let c0_i32_123 : BitVec 32 := 0#32
  let v189 : BitVec 32 := Scalar.addi v188 c0_i32_123
  let v341 : Index := Scalar.indexCast v189
  let c384 : Index := 384#32
  ![v341.toNat, 384]

def k0_chk146 (v192 : IVec S16 32) (v345 : IVec S16 32) : Prop :=
  (∀ a x, ((![v192, v345] : Fin 2 → IVec S16 32) a x).toNat < S56x512.size a)
theorem k0_idx146_inb : ∀ (v192 : IVec S16 32) (v345 : IVec S16 32) (k0_hw146 : k0_chk146 v192 v345), ∀ a x, ((![v192, v345] : Fin 2 → IVec S16 32) a x).toNat < S56x512.size a := fun v192 v345 k0_hw146 => k0_hw146
def k0_off150 (k0_t3 : Fin k0_t3_loop.trips) : Fin 2 → Nat :=
  let c0_i32_97 : BitVec 32 := 0#32
  let c1_i32_99 : BitVec 32 := 1#32
  let arg14 : BitVec 32 := Scf.iv c0_i32_97 c1_i32_99 k0_t3
  let c4_i32_122 : BitVec 32 := 4#32
  let v188 : BitVec 32 := Scalar.muli arg14 c4_i32_122
  let c0_i32_123 : BitVec 32 := 0#32
  let v189 : BitVec 32 := Scalar.addi v188 c0_i32_123
  let v347 : Index := Scalar.indexCast v189
  let c400 : Index := 400#32
  ![v347.toNat, 400]

def k0_chk147 (v192 : IVec S16 32) (v351 : IVec S16 32) : Prop :=
  (∀ a x, ((![v192, v351] : Fin 2 → IVec S16 32) a x).toNat < S56x512.size a)
theorem k0_idx147_inb : ∀ (v192 : IVec S16 32) (v351 : IVec S16 32) (k0_hw147 : k0_chk147 v192 v351), ∀ a x, ((![v192, v351] : Fin 2 → IVec S16 32) a x).toNat < S56x512.size a := fun v192 v351 k0_hw147 => k0_hw147
def k0_off151 (k0_t3 : Fin k0_t3_loop.trips) : Fin 2 → Nat :=
  let c0_i32_97 : BitVec 32 := 0#32
  let c1_i32_99 : BitVec 32 := 1#32
  let arg14 : BitVec 32 := Scf.iv c0_i32_97 c1_i32_99 k0_t3
  let c4_i32_122 : BitVec 32 := 4#32
  let v188 : BitVec 32 := Scalar.muli arg14 c4_i32_122
  let c0_i32_123 : BitVec 32 := 0#32
  let v189 : BitVec 32 := Scalar.addi v188 c0_i32_123
  let v353 : Index := Scalar.indexCast v189
  let c416 : Index := 416#32
  ![v353.toNat, 416]

def k0_chk148 (v192 : IVec S16 32) (v357 : IVec S16 32) : Prop :=
  (∀ a x, ((![v192, v357] : Fin 2 → IVec S16 32) a x).toNat < S56x512.size a)
theorem k0_idx148_inb : ∀ (v192 : IVec S16 32) (v357 : IVec S16 32) (k0_hw148 : k0_chk148 v192 v357), ∀ a x, ((![v192, v357] : Fin 2 → IVec S16 32) a x).toNat < S56x512.size a := fun v192 v357 k0_hw148 => k0_hw148
def k0_off152 (k0_t3 : Fin k0_t3_loop.trips) : Fin 2 → Nat :=
  let c0_i32_97 : BitVec 32 := 0#32
  let c1_i32_99 : BitVec 32 := 1#32
  let arg14 : BitVec 32 := Scf.iv c0_i32_97 c1_i32_99 k0_t3
  let c4_i32_122 : BitVec 32 := 4#32
  let v188 : BitVec 32 := Scalar.muli arg14 c4_i32_122
  let c0_i32_123 : BitVec 32 := 0#32
  let v189 : BitVec 32 := Scalar.addi v188 c0_i32_123
  let v359 : Index := Scalar.indexCast v189
  let c432 : Index := 432#32
  ![v359.toNat, 432]

def k0_chk149 (v192 : IVec S16 32) (v363 : IVec S16 32) : Prop :=
  (∀ a x, ((![v192, v363] : Fin 2 → IVec S16 32) a x).toNat < S56x512.size a)
theorem k0_idx149_inb : ∀ (v192 : IVec S16 32) (v363 : IVec S16 32) (k0_hw149 : k0_chk149 v192 v363), ∀ a x, ((![v192, v363] : Fin 2 → IVec S16 32) a x).toNat < S56x512.size a := fun v192 v363 k0_hw149 => k0_hw149
def k0_off153 (k0_t3 : Fin k0_t3_loop.trips) : Fin 2 → Nat :=
  let c0_i32_97 : BitVec 32 := 0#32
  let c1_i32_99 : BitVec 32 := 1#32
  let arg14 : BitVec 32 := Scf.iv c0_i32_97 c1_i32_99 k0_t3
  let c4_i32_122 : BitVec 32 := 4#32
  let v188 : BitVec 32 := Scalar.muli arg14 c4_i32_122
  let c0_i32_123 : BitVec 32 := 0#32
  let v189 : BitVec 32 := Scalar.addi v188 c0_i32_123
  let v365 : Index := Scalar.indexCast v189
  let c448 : Index := 448#32
  ![v365.toNat, 448]

def k0_chk150 (v192 : IVec S16 32) (v369 : IVec S16 32) : Prop :=
  (∀ a x, ((![v192, v369] : Fin 2 → IVec S16 32) a x).toNat < S56x512.size a)
theorem k0_idx150_inb : ∀ (v192 : IVec S16 32) (v369 : IVec S16 32) (k0_hw150 : k0_chk150 v192 v369), ∀ a x, ((![v192, v369] : Fin 2 → IVec S16 32) a x).toNat < S56x512.size a := fun v192 v369 k0_hw150 => k0_hw150
def k0_off154 (k0_t3 : Fin k0_t3_loop.trips) : Fin 2 → Nat :=
  let c0_i32_97 : BitVec 32 := 0#32
  let c1_i32_99 : BitVec 32 := 1#32
  let arg14 : BitVec 32 := Scf.iv c0_i32_97 c1_i32_99 k0_t3
  let c4_i32_122 : BitVec 32 := 4#32
  let v188 : BitVec 32 := Scalar.muli arg14 c4_i32_122
  let c0_i32_123 : BitVec 32 := 0#32
  let v189 : BitVec 32 := Scalar.addi v188 c0_i32_123
  let v371 : Index := Scalar.indexCast v189
  let c464 : Index := 464#32
  ![v371.toNat, 464]

def k0_chk151 (v377 : IVec S16 32) (v380 : IVec S16 32) : Prop :=
  (∀ a x, ((![v377, v380] : Fin 2 → IVec S16 32) a x).toNat < S56x512.size a)
theorem k0_idx151_inb : ∀ (v377 : IVec S16 32) (v380 : IVec S16 32) (k0_hw151 : k0_chk151 v377 v380), ∀ a x, ((![v377, v380] : Fin 2 → IVec S16 32) a x).toNat < S56x512.size a := fun v377 v380 k0_hw151 => k0_hw151
def k0_off155 (k0_t3 : Fin k0_t3_loop.trips) : Fin 2 → Nat :=
  let c0_i32_97 : BitVec 32 := 0#32
  let c1_i32_99 : BitVec 32 := 1#32
  let arg14 : BitVec 32 := Scf.iv c0_i32_97 c1_i32_99 k0_t3
  let c4_i32_126 : BitVec 32 := 4#32
  let v373 : BitVec 32 := Scalar.muli arg14 c4_i32_126
  let c1_i32_127 : BitVec 32 := 1#32
  let v374 : BitVec 32 := Scalar.addi v373 c1_i32_127
  let v382 : Index := Scalar.indexCast v374
  let c0_129 : Index := 0#32
  ![v382.toNat, 0]

def k0_chk152 (v377 : IVec S16 32) (v386 : IVec S16 32) : Prop :=
  (∀ a x, ((![v377, v386] : Fin 2 → IVec S16 32) a x).toNat < S56x512.size a)
theorem k0_idx152_inb : ∀ (v377 : IVec S16 32) (v386 : IVec S16 32) (k0_hw152 : k0_chk152 v377 v386), ∀ a x, ((![v377, v386] : Fin 2 → IVec S16 32) a x).toNat < S56x512.size a := fun v377 v386 k0_hw152 => k0_hw152
def k0_off156 (k0_t3 : Fin k0_t3_loop.trips) : Fin 2 → Nat :=
  let c0_i32_97 : BitVec 32 := 0#32
  let c1_i32_99 : BitVec 32 := 1#32
  let arg14 : BitVec 32 := Scf.iv c0_i32_97 c1_i32_99 k0_t3
  let c4_i32_126 : BitVec 32 := 4#32
  let v373 : BitVec 32 := Scalar.muli arg14 c4_i32_126
  let c1_i32_127 : BitVec 32 := 1#32
  let v374 : BitVec 32 := Scalar.addi v373 c1_i32_127
  let v388 : Index := Scalar.indexCast v374
  let c16_131 : Index := 16#32
  ![v388.toNat, 16]

def k0_chk153 (v377 : IVec S16 32) (v392 : IVec S16 32) : Prop :=
  (∀ a x, ((![v377, v392] : Fin 2 → IVec S16 32) a x).toNat < S56x512.size a)
theorem k0_idx153_inb : ∀ (v377 : IVec S16 32) (v392 : IVec S16 32) (k0_hw153 : k0_chk153 v377 v392), ∀ a x, ((![v377, v392] : Fin 2 → IVec S16 32) a x).toNat < S56x512.size a := fun v377 v392 k0_hw153 => k0_hw153
def k0_off157 (k0_t3 : Fin k0_t3_loop.trips) : Fin 2 → Nat :=
  let c0_i32_97 : BitVec 32 := 0#32
  let c1_i32_99 : BitVec 32 := 1#32
  let arg14 : BitVec 32 := Scf.iv c0_i32_97 c1_i32_99 k0_t3
  let c4_i32_126 : BitVec 32 := 4#32
  let v373 : BitVec 32 := Scalar.muli arg14 c4_i32_126
  let c1_i32_127 : BitVec 32 := 1#32
  let v374 : BitVec 32 := Scalar.addi v373 c1_i32_127
  let v394 : Index := Scalar.indexCast v374
  let c32_133 : Index := 32#32
  ![v394.toNat, 32]

def k0_chk154 (v377 : IVec S16 32) (v398 : IVec S16 32) : Prop :=
  (∀ a x, ((![v377, v398] : Fin 2 → IVec S16 32) a x).toNat < S56x512.size a)
theorem k0_idx154_inb : ∀ (v377 : IVec S16 32) (v398 : IVec S16 32) (k0_hw154 : k0_chk154 v377 v398), ∀ a x, ((![v377, v398] : Fin 2 → IVec S16 32) a x).toNat < S56x512.size a := fun v377 v398 k0_hw154 => k0_hw154
def k0_off158 (k0_t3 : Fin k0_t3_loop.trips) : Fin 2 → Nat :=
  let c0_i32_97 : BitVec 32 := 0#32
  let c1_i32_99 : BitVec 32 := 1#32
  let arg14 : BitVec 32 := Scf.iv c0_i32_97 c1_i32_99 k0_t3
  let c4_i32_126 : BitVec 32 := 4#32
  let v373 : BitVec 32 := Scalar.muli arg14 c4_i32_126
  let c1_i32_127 : BitVec 32 := 1#32
  let v374 : BitVec 32 := Scalar.addi v373 c1_i32_127
  let v400 : Index := Scalar.indexCast v374
  let c48_135 : Index := 48#32
  ![v400.toNat, 48]

def k0_chk155 (v377 : IVec S16 32) (v404 : IVec S16 32) : Prop :=
  (∀ a x, ((![v377, v404] : Fin 2 → IVec S16 32) a x).toNat < S56x512.size a)
theorem k0_idx155_inb : ∀ (v377 : IVec S16 32) (v404 : IVec S16 32) (k0_hw155 : k0_chk155 v377 v404), ∀ a x, ((![v377, v404] : Fin 2 → IVec S16 32) a x).toNat < S56x512.size a := fun v377 v404 k0_hw155 => k0_hw155
def k0_off159 (k0_t3 : Fin k0_t3_loop.trips) : Fin 2 → Nat :=
  let c0_i32_97 : BitVec 32 := 0#32
  let c1_i32_99 : BitVec 32 := 1#32
  let arg14 : BitVec 32 := Scf.iv c0_i32_97 c1_i32_99 k0_t3
  let c4_i32_126 : BitVec 32 := 4#32
  let v373 : BitVec 32 := Scalar.muli arg14 c4_i32_126
  let c1_i32_127 : BitVec 32 := 1#32
  let v374 : BitVec 32 := Scalar.addi v373 c1_i32_127
  let v406 : Index := Scalar.indexCast v374
  let c64_137 : Index := 64#32
  ![v406.toNat, 64]

def k0_chk156 (v377 : IVec S16 32) (v410 : IVec S16 32) : Prop :=
  (∀ a x, ((![v377, v410] : Fin 2 → IVec S16 32) a x).toNat < S56x512.size a)
theorem k0_idx156_inb : ∀ (v377 : IVec S16 32) (v410 : IVec S16 32) (k0_hw156 : k0_chk156 v377 v410), ∀ a x, ((![v377, v410] : Fin 2 → IVec S16 32) a x).toNat < S56x512.size a := fun v377 v410 k0_hw156 => k0_hw156
def k0_off160 (k0_t3 : Fin k0_t3_loop.trips) : Fin 2 → Nat :=
  let c0_i32_97 : BitVec 32 := 0#32
  let c1_i32_99 : BitVec 32 := 1#32
  let arg14 : BitVec 32 := Scf.iv c0_i32_97 c1_i32_99 k0_t3
  let c4_i32_126 : BitVec 32 := 4#32
  let v373 : BitVec 32 := Scalar.muli arg14 c4_i32_126
  let c1_i32_127 : BitVec 32 := 1#32
  let v374 : BitVec 32 := Scalar.addi v373 c1_i32_127
  let v412 : Index := Scalar.indexCast v374
  let c80_139 : Index := 80#32
  ![v412.toNat, 80]

def k0_chk157 (v377 : IVec S16 32) (v416 : IVec S16 32) : Prop :=
  (∀ a x, ((![v377, v416] : Fin 2 → IVec S16 32) a x).toNat < S56x512.size a)
theorem k0_idx157_inb : ∀ (v377 : IVec S16 32) (v416 : IVec S16 32) (k0_hw157 : k0_chk157 v377 v416), ∀ a x, ((![v377, v416] : Fin 2 → IVec S16 32) a x).toNat < S56x512.size a := fun v377 v416 k0_hw157 => k0_hw157
def k0_off161 (k0_t3 : Fin k0_t3_loop.trips) : Fin 2 → Nat :=
  let c0_i32_97 : BitVec 32 := 0#32
  let c1_i32_99 : BitVec 32 := 1#32
  let arg14 : BitVec 32 := Scf.iv c0_i32_97 c1_i32_99 k0_t3
  let c4_i32_126 : BitVec 32 := 4#32
  let v373 : BitVec 32 := Scalar.muli arg14 c4_i32_126
  let c1_i32_127 : BitVec 32 := 1#32
  let v374 : BitVec 32 := Scalar.addi v373 c1_i32_127
  let v418 : Index := Scalar.indexCast v374
  let c96_141 : Index := 96#32
  ![v418.toNat, 96]

def k0_chk158 (v377 : IVec S16 32) (v422 : IVec S16 32) : Prop :=
  (∀ a x, ((![v377, v422] : Fin 2 → IVec S16 32) a x).toNat < S56x512.size a)
theorem k0_idx158_inb : ∀ (v377 : IVec S16 32) (v422 : IVec S16 32) (k0_hw158 : k0_chk158 v377 v422), ∀ a x, ((![v377, v422] : Fin 2 → IVec S16 32) a x).toNat < S56x512.size a := fun v377 v422 k0_hw158 => k0_hw158
def k0_off162 (k0_t3 : Fin k0_t3_loop.trips) : Fin 2 → Nat :=
  let c0_i32_97 : BitVec 32 := 0#32
  let c1_i32_99 : BitVec 32 := 1#32
  let arg14 : BitVec 32 := Scf.iv c0_i32_97 c1_i32_99 k0_t3
  let c4_i32_126 : BitVec 32 := 4#32
  let v373 : BitVec 32 := Scalar.muli arg14 c4_i32_126
  let c1_i32_127 : BitVec 32 := 1#32
  let v374 : BitVec 32 := Scalar.addi v373 c1_i32_127
  let v424 : Index := Scalar.indexCast v374
  let c112_143 : Index := 112#32
  ![v424.toNat, 112]

def k0_chk159 (v377 : IVec S16 32) (v428 : IVec S16 32) : Prop :=
  (∀ a x, ((![v377, v428] : Fin 2 → IVec S16 32) a x).toNat < S56x512.size a)
theorem k0_idx159_inb : ∀ (v377 : IVec S16 32) (v428 : IVec S16 32) (k0_hw159 : k0_chk159 v377 v428), ∀ a x, ((![v377, v428] : Fin 2 → IVec S16 32) a x).toNat < S56x512.size a := fun v377 v428 k0_hw159 => k0_hw159
def k0_off163 (k0_t3 : Fin k0_t3_loop.trips) : Fin 2 → Nat :=
  let c0_i32_97 : BitVec 32 := 0#32
  let c1_i32_99 : BitVec 32 := 1#32
  let arg14 : BitVec 32 := Scf.iv c0_i32_97 c1_i32_99 k0_t3
  let c4_i32_126 : BitVec 32 := 4#32
  let v373 : BitVec 32 := Scalar.muli arg14 c4_i32_126
  let c1_i32_127 : BitVec 32 := 1#32
  let v374 : BitVec 32 := Scalar.addi v373 c1_i32_127
  let v430 : Index := Scalar.indexCast v374
  let c128_145 : Index := 128#32
  ![v430.toNat, 128]

def k0_chk160 (v377 : IVec S16 32) (v434 : IVec S16 32) : Prop :=
  (∀ a x, ((![v377, v434] : Fin 2 → IVec S16 32) a x).toNat < S56x512.size a)
theorem k0_idx160_inb : ∀ (v377 : IVec S16 32) (v434 : IVec S16 32) (k0_hw160 : k0_chk160 v377 v434), ∀ a x, ((![v377, v434] : Fin 2 → IVec S16 32) a x).toNat < S56x512.size a := fun v377 v434 k0_hw160 => k0_hw160
def k0_off164 (k0_t3 : Fin k0_t3_loop.trips) : Fin 2 → Nat :=
  let c0_i32_97 : BitVec 32 := 0#32
  let c1_i32_99 : BitVec 32 := 1#32
  let arg14 : BitVec 32 := Scf.iv c0_i32_97 c1_i32_99 k0_t3
  let c4_i32_126 : BitVec 32 := 4#32
  let v373 : BitVec 32 := Scalar.muli arg14 c4_i32_126
  let c1_i32_127 : BitVec 32 := 1#32
  let v374 : BitVec 32 := Scalar.addi v373 c1_i32_127
  let v436 : Index := Scalar.indexCast v374
  let c144_147 : Index := 144#32
  ![v436.toNat, 144]

def k0_chk161 (v377 : IVec S16 32) (v440 : IVec S16 32) : Prop :=
  (∀ a x, ((![v377, v440] : Fin 2 → IVec S16 32) a x).toNat < S56x512.size a)
theorem k0_idx161_inb : ∀ (v377 : IVec S16 32) (v440 : IVec S16 32) (k0_hw161 : k0_chk161 v377 v440), ∀ a x, ((![v377, v440] : Fin 2 → IVec S16 32) a x).toNat < S56x512.size a := fun v377 v440 k0_hw161 => k0_hw161
def k0_off165 (k0_t3 : Fin k0_t3_loop.trips) : Fin 2 → Nat :=
  let c0_i32_97 : BitVec 32 := 0#32
  let c1_i32_99 : BitVec 32 := 1#32
  let arg14 : BitVec 32 := Scf.iv c0_i32_97 c1_i32_99 k0_t3
  let c4_i32_126 : BitVec 32 := 4#32
  let v373 : BitVec 32 := Scalar.muli arg14 c4_i32_126
  let c1_i32_127 : BitVec 32 := 1#32
  let v374 : BitVec 32 := Scalar.addi v373 c1_i32_127
  let v442 : Index := Scalar.indexCast v374
  let c160_149 : Index := 160#32
  ![v442.toNat, 160]

def k0_chk162 (v377 : IVec S16 32) (v446 : IVec S16 32) : Prop :=
  (∀ a x, ((![v377, v446] : Fin 2 → IVec S16 32) a x).toNat < S56x512.size a)
theorem k0_idx162_inb : ∀ (v377 : IVec S16 32) (v446 : IVec S16 32) (k0_hw162 : k0_chk162 v377 v446), ∀ a x, ((![v377, v446] : Fin 2 → IVec S16 32) a x).toNat < S56x512.size a := fun v377 v446 k0_hw162 => k0_hw162
def k0_off166 (k0_t3 : Fin k0_t3_loop.trips) : Fin 2 → Nat :=
  let c0_i32_97 : BitVec 32 := 0#32
  let c1_i32_99 : BitVec 32 := 1#32
  let arg14 : BitVec 32 := Scf.iv c0_i32_97 c1_i32_99 k0_t3
  let c4_i32_126 : BitVec 32 := 4#32
  let v373 : BitVec 32 := Scalar.muli arg14 c4_i32_126
  let c1_i32_127 : BitVec 32 := 1#32
  let v374 : BitVec 32 := Scalar.addi v373 c1_i32_127
  let v448 : Index := Scalar.indexCast v374
  let c176_151 : Index := 176#32
  ![v448.toNat, 176]

def k0_chk163 (v377 : IVec S16 32) (v452 : IVec S16 32) : Prop :=
  (∀ a x, ((![v377, v452] : Fin 2 → IVec S16 32) a x).toNat < S56x512.size a)
theorem k0_idx163_inb : ∀ (v377 : IVec S16 32) (v452 : IVec S16 32) (k0_hw163 : k0_chk163 v377 v452), ∀ a x, ((![v377, v452] : Fin 2 → IVec S16 32) a x).toNat < S56x512.size a := fun v377 v452 k0_hw163 => k0_hw163
def k0_off167 (k0_t3 : Fin k0_t3_loop.trips) : Fin 2 → Nat :=
  let c0_i32_97 : BitVec 32 := 0#32
  let c1_i32_99 : BitVec 32 := 1#32
  let arg14 : BitVec 32 := Scf.iv c0_i32_97 c1_i32_99 k0_t3
  let c4_i32_126 : BitVec 32 := 4#32
  let v373 : BitVec 32 := Scalar.muli arg14 c4_i32_126
  let c1_i32_127 : BitVec 32 := 1#32
  let v374 : BitVec 32 := Scalar.addi v373 c1_i32_127
  let v454 : Index := Scalar.indexCast v374
  let c192_153 : Index := 192#32
  ![v454.toNat, 192]

def k0_chk164 (v377 : IVec S16 32) (v458 : IVec S16 32) : Prop :=
  (∀ a x, ((![v377, v458] : Fin 2 → IVec S16 32) a x).toNat < S56x512.size a)
theorem k0_idx164_inb : ∀ (v377 : IVec S16 32) (v458 : IVec S16 32) (k0_hw164 : k0_chk164 v377 v458), ∀ a x, ((![v377, v458] : Fin 2 → IVec S16 32) a x).toNat < S56x512.size a := fun v377 v458 k0_hw164 => k0_hw164
def k0_off168 (k0_t3 : Fin k0_t3_loop.trips) : Fin 2 → Nat :=
  let c0_i32_97 : BitVec 32 := 0#32
  let c1_i32_99 : BitVec 32 := 1#32
  let arg14 : BitVec 32 := Scf.iv c0_i32_97 c1_i32_99 k0_t3
  let c4_i32_126 : BitVec 32 := 4#32
  let v373 : BitVec 32 := Scalar.muli arg14 c4_i32_126
  let c1_i32_127 : BitVec 32 := 1#32
  let v374 : BitVec 32 := Scalar.addi v373 c1_i32_127
  let v460 : Index := Scalar.indexCast v374
  let c208_155 : Index := 208#32
  ![v460.toNat, 208]

def k0_chk165 (v377 : IVec S16 32) (v464 : IVec S16 32) : Prop :=
  (∀ a x, ((![v377, v464] : Fin 2 → IVec S16 32) a x).toNat < S56x512.size a)
theorem k0_idx165_inb : ∀ (v377 : IVec S16 32) (v464 : IVec S16 32) (k0_hw165 : k0_chk165 v377 v464), ∀ a x, ((![v377, v464] : Fin 2 → IVec S16 32) a x).toNat < S56x512.size a := fun v377 v464 k0_hw165 => k0_hw165
def k0_off169 (k0_t3 : Fin k0_t3_loop.trips) : Fin 2 → Nat :=
  let c0_i32_97 : BitVec 32 := 0#32
  let c1_i32_99 : BitVec 32 := 1#32
  let arg14 : BitVec 32 := Scf.iv c0_i32_97 c1_i32_99 k0_t3
  let c4_i32_126 : BitVec 32 := 4#32
  let v373 : BitVec 32 := Scalar.muli arg14 c4_i32_126
  let c1_i32_127 : BitVec 32 := 1#32
  let v374 : BitVec 32 := Scalar.addi v373 c1_i32_127
  let v466 : Index := Scalar.indexCast v374
  let c224_157 : Index := 224#32
  ![v466.toNat, 224]

def k0_chk166 (v377 : IVec S16 32) (v470 : IVec S16 32) : Prop :=
  (∀ a x, ((![v377, v470] : Fin 2 → IVec S16 32) a x).toNat < S56x512.size a)
theorem k0_idx166_inb : ∀ (v377 : IVec S16 32) (v470 : IVec S16 32) (k0_hw166 : k0_chk166 v377 v470), ∀ a x, ((![v377, v470] : Fin 2 → IVec S16 32) a x).toNat < S56x512.size a := fun v377 v470 k0_hw166 => k0_hw166
def k0_off170 (k0_t3 : Fin k0_t3_loop.trips) : Fin 2 → Nat :=
  let c0_i32_97 : BitVec 32 := 0#32
  let c1_i32_99 : BitVec 32 := 1#32
  let arg14 : BitVec 32 := Scf.iv c0_i32_97 c1_i32_99 k0_t3
  let c4_i32_126 : BitVec 32 := 4#32
  let v373 : BitVec 32 := Scalar.muli arg14 c4_i32_126
  let c1_i32_127 : BitVec 32 := 1#32
  let v374 : BitVec 32 := Scalar.addi v373 c1_i32_127
  let v472 : Index := Scalar.indexCast v374
  let c240_159 : Index := 240#32
  ![v472.toNat, 240]

def k0_chk167 (v377 : IVec S16 32) (v476 : IVec S16 32) : Prop :=
  (∀ a x, ((![v377, v476] : Fin 2 → IVec S16 32) a x).toNat < S56x512.size a)
theorem k0_idx167_inb : ∀ (v377 : IVec S16 32) (v476 : IVec S16 32) (k0_hw167 : k0_chk167 v377 v476), ∀ a x, ((![v377, v476] : Fin 2 → IVec S16 32) a x).toNat < S56x512.size a := fun v377 v476 k0_hw167 => k0_hw167
def k0_off171 (k0_t3 : Fin k0_t3_loop.trips) : Fin 2 → Nat :=
  let c0_i32_97 : BitVec 32 := 0#32
  let c1_i32_99 : BitVec 32 := 1#32
  let arg14 : BitVec 32 := Scf.iv c0_i32_97 c1_i32_99 k0_t3
  let c4_i32_126 : BitVec 32 := 4#32
  let v373 : BitVec 32 := Scalar.muli arg14 c4_i32_126
  let c1_i32_127 : BitVec 32 := 1#32
  let v374 : BitVec 32 := Scalar.addi v373 c1_i32_127
  let v478 : Index := Scalar.indexCast v374
  let c256_161 : Index := 256#32
  ![v478.toNat, 256]

def k0_chk168 (v377 : IVec S16 32) (v482 : IVec S16 32) : Prop :=
  (∀ a x, ((![v377, v482] : Fin 2 → IVec S16 32) a x).toNat < S56x512.size a)
theorem k0_idx168_inb : ∀ (v377 : IVec S16 32) (v482 : IVec S16 32) (k0_hw168 : k0_chk168 v377 v482), ∀ a x, ((![v377, v482] : Fin 2 → IVec S16 32) a x).toNat < S56x512.size a := fun v377 v482 k0_hw168 => k0_hw168
def k0_off172 (k0_t3 : Fin k0_t3_loop.trips) : Fin 2 → Nat :=
  let c0_i32_97 : BitVec 32 := 0#32
  let c1_i32_99 : BitVec 32 := 1#32
  let arg14 : BitVec 32 := Scf.iv c0_i32_97 c1_i32_99 k0_t3
  let c4_i32_126 : BitVec 32 := 4#32
  let v373 : BitVec 32 := Scalar.muli arg14 c4_i32_126
  let c1_i32_127 : BitVec 32 := 1#32
  let v374 : BitVec 32 := Scalar.addi v373 c1_i32_127
  let v484 : Index := Scalar.indexCast v374
  let c272_163 : Index := 272#32
  ![v484.toNat, 272]

def k0_chk169 (v377 : IVec S16 32) (v488 : IVec S16 32) : Prop :=
  (∀ a x, ((![v377, v488] : Fin 2 → IVec S16 32) a x).toNat < S56x512.size a)
theorem k0_idx169_inb : ∀ (v377 : IVec S16 32) (v488 : IVec S16 32) (k0_hw169 : k0_chk169 v377 v488), ∀ a x, ((![v377, v488] : Fin 2 → IVec S16 32) a x).toNat < S56x512.size a := fun v377 v488 k0_hw169 => k0_hw169
def k0_off173 (k0_t3 : Fin k0_t3_loop.trips) : Fin 2 → Nat :=
  let c0_i32_97 : BitVec 32 := 0#32
  let c1_i32_99 : BitVec 32 := 1#32
  let arg14 : BitVec 32 := Scf.iv c0_i32_97 c1_i32_99 k0_t3
  let c4_i32_126 : BitVec 32 := 4#32
  let v373 : BitVec 32 := Scalar.muli arg14 c4_i32_126
  let c1_i32_127 : BitVec 32 := 1#32
  let v374 : BitVec 32 := Scalar.addi v373 c1_i32_127
  let v490 : Index := Scalar.indexCast v374
  let c288_165 : Index := 288#32
  ![v490.toNat, 288]

def k0_chk170 (v377 : IVec S16 32) (v494 : IVec S16 32) : Prop :=
  (∀ a x, ((![v377, v494] : Fin 2 → IVec S16 32) a x).toNat < S56x512.size a)
theorem k0_idx170_inb : ∀ (v377 : IVec S16 32) (v494 : IVec S16 32) (k0_hw170 : k0_chk170 v377 v494), ∀ a x, ((![v377, v494] : Fin 2 → IVec S16 32) a x).toNat < S56x512.size a := fun v377 v494 k0_hw170 => k0_hw170
def k0_off174 (k0_t3 : Fin k0_t3_loop.trips) : Fin 2 → Nat :=
  let c0_i32_97 : BitVec 32 := 0#32
  let c1_i32_99 : BitVec 32 := 1#32
  let arg14 : BitVec 32 := Scf.iv c0_i32_97 c1_i32_99 k0_t3
  let c4_i32_126 : BitVec 32 := 4#32
  let v373 : BitVec 32 := Scalar.muli arg14 c4_i32_126
  let c1_i32_127 : BitVec 32 := 1#32
  let v374 : BitVec 32 := Scalar.addi v373 c1_i32_127
  let v496 : Index := Scalar.indexCast v374
  let c304_167 : Index := 304#32
  ![v496.toNat, 304]

def k0_chk171 (v377 : IVec S16 32) (v500 : IVec S16 32) : Prop :=
  (∀ a x, ((![v377, v500] : Fin 2 → IVec S16 32) a x).toNat < S56x512.size a)
theorem k0_idx171_inb : ∀ (v377 : IVec S16 32) (v500 : IVec S16 32) (k0_hw171 : k0_chk171 v377 v500), ∀ a x, ((![v377, v500] : Fin 2 → IVec S16 32) a x).toNat < S56x512.size a := fun v377 v500 k0_hw171 => k0_hw171
def k0_off175 (k0_t3 : Fin k0_t3_loop.trips) : Fin 2 → Nat :=
  let c0_i32_97 : BitVec 32 := 0#32
  let c1_i32_99 : BitVec 32 := 1#32
  let arg14 : BitVec 32 := Scf.iv c0_i32_97 c1_i32_99 k0_t3
  let c4_i32_126 : BitVec 32 := 4#32
  let v373 : BitVec 32 := Scalar.muli arg14 c4_i32_126
  let c1_i32_127 : BitVec 32 := 1#32
  let v374 : BitVec 32 := Scalar.addi v373 c1_i32_127
  let v502 : Index := Scalar.indexCast v374
  let c320_169 : Index := 320#32
  ![v502.toNat, 320]

def k0_chk172 (v377 : IVec S16 32) (v506 : IVec S16 32) : Prop :=
  (∀ a x, ((![v377, v506] : Fin 2 → IVec S16 32) a x).toNat < S56x512.size a)
theorem k0_idx172_inb : ∀ (v377 : IVec S16 32) (v506 : IVec S16 32) (k0_hw172 : k0_chk172 v377 v506), ∀ a x, ((![v377, v506] : Fin 2 → IVec S16 32) a x).toNat < S56x512.size a := fun v377 v506 k0_hw172 => k0_hw172
def k0_off176 (k0_t3 : Fin k0_t3_loop.trips) : Fin 2 → Nat :=
  let c0_i32_97 : BitVec 32 := 0#32
  let c1_i32_99 : BitVec 32 := 1#32
  let arg14 : BitVec 32 := Scf.iv c0_i32_97 c1_i32_99 k0_t3
  let c4_i32_126 : BitVec 32 := 4#32
  let v373 : BitVec 32 := Scalar.muli arg14 c4_i32_126
  let c1_i32_127 : BitVec 32 := 1#32
  let v374 : BitVec 32 := Scalar.addi v373 c1_i32_127
  let v508 : Index := Scalar.indexCast v374
  let c336_171 : Index := 336#32
  ![v508.toNat, 336]

def k0_chk173 (v377 : IVec S16 32) (v512 : IVec S16 32) : Prop :=
  (∀ a x, ((![v377, v512] : Fin 2 → IVec S16 32) a x).toNat < S56x512.size a)
theorem k0_idx173_inb : ∀ (v377 : IVec S16 32) (v512 : IVec S16 32) (k0_hw173 : k0_chk173 v377 v512), ∀ a x, ((![v377, v512] : Fin 2 → IVec S16 32) a x).toNat < S56x512.size a := fun v377 v512 k0_hw173 => k0_hw173
def k0_off177 (k0_t3 : Fin k0_t3_loop.trips) : Fin 2 → Nat :=
  let c0_i32_97 : BitVec 32 := 0#32
  let c1_i32_99 : BitVec 32 := 1#32
  let arg14 : BitVec 32 := Scf.iv c0_i32_97 c1_i32_99 k0_t3
  let c4_i32_126 : BitVec 32 := 4#32
  let v373 : BitVec 32 := Scalar.muli arg14 c4_i32_126
  let c1_i32_127 : BitVec 32 := 1#32
  let v374 : BitVec 32 := Scalar.addi v373 c1_i32_127
  let v514 : Index := Scalar.indexCast v374
  let c352_173 : Index := 352#32
  ![v514.toNat, 352]

def k0_chk174 (v377 : IVec S16 32) (v518 : IVec S16 32) : Prop :=
  (∀ a x, ((![v377, v518] : Fin 2 → IVec S16 32) a x).toNat < S56x512.size a)
theorem k0_idx174_inb : ∀ (v377 : IVec S16 32) (v518 : IVec S16 32) (k0_hw174 : k0_chk174 v377 v518), ∀ a x, ((![v377, v518] : Fin 2 → IVec S16 32) a x).toNat < S56x512.size a := fun v377 v518 k0_hw174 => k0_hw174
def k0_off178 (k0_t3 : Fin k0_t3_loop.trips) : Fin 2 → Nat :=
  let c0_i32_97 : BitVec 32 := 0#32
  let c1_i32_99 : BitVec 32 := 1#32
  let arg14 : BitVec 32 := Scf.iv c0_i32_97 c1_i32_99 k0_t3
  let c4_i32_126 : BitVec 32 := 4#32
  let v373 : BitVec 32 := Scalar.muli arg14 c4_i32_126
  let c1_i32_127 : BitVec 32 := 1#32
  let v374 : BitVec 32 := Scalar.addi v373 c1_i32_127
  let v520 : Index := Scalar.indexCast v374
  let c368_175 : Index := 368#32
  ![v520.toNat, 368]

def k0_chk175 (v377 : IVec S16 32) (v524 : IVec S16 32) : Prop :=
  (∀ a x, ((![v377, v524] : Fin 2 → IVec S16 32) a x).toNat < S56x512.size a)
theorem k0_idx175_inb : ∀ (v377 : IVec S16 32) (v524 : IVec S16 32) (k0_hw175 : k0_chk175 v377 v524), ∀ a x, ((![v377, v524] : Fin 2 → IVec S16 32) a x).toNat < S56x512.size a := fun v377 v524 k0_hw175 => k0_hw175
def k0_off179 (k0_t3 : Fin k0_t3_loop.trips) : Fin 2 → Nat :=
  let c0_i32_97 : BitVec 32 := 0#32
  let c1_i32_99 : BitVec 32 := 1#32
  let arg14 : BitVec 32 := Scf.iv c0_i32_97 c1_i32_99 k0_t3
  let c4_i32_126 : BitVec 32 := 4#32
  let v373 : BitVec 32 := Scalar.muli arg14 c4_i32_126
  let c1_i32_127 : BitVec 32 := 1#32
  let v374 : BitVec 32 := Scalar.addi v373 c1_i32_127
  let v526 : Index := Scalar.indexCast v374
  let c384_177 : Index := 384#32
  ![v526.toNat, 384]

def k0_chk176 (v377 : IVec S16 32) (v530 : IVec S16 32) : Prop :=
  (∀ a x, ((![v377, v530] : Fin 2 → IVec S16 32) a x).toNat < S56x512.size a)
theorem k0_idx176_inb : ∀ (v377 : IVec S16 32) (v530 : IVec S16 32) (k0_hw176 : k0_chk176 v377 v530), ∀ a x, ((![v377, v530] : Fin 2 → IVec S16 32) a x).toNat < S56x512.size a := fun v377 v530 k0_hw176 => k0_hw176
def k0_off180 (k0_t3 : Fin k0_t3_loop.trips) : Fin 2 → Nat :=
  let c0_i32_97 : BitVec 32 := 0#32
  let c1_i32_99 : BitVec 32 := 1#32
  let arg14 : BitVec 32 := Scf.iv c0_i32_97 c1_i32_99 k0_t3
  let c4_i32_126 : BitVec 32 := 4#32
  let v373 : BitVec 32 := Scalar.muli arg14 c4_i32_126
  let c1_i32_127 : BitVec 32 := 1#32
  let v374 : BitVec 32 := Scalar.addi v373 c1_i32_127
  let v532 : Index := Scalar.indexCast v374
  let c400_179 : Index := 400#32
  ![v532.toNat, 400]

def k0_chk177 (v377 : IVec S16 32) (v536 : IVec S16 32) : Prop :=
  (∀ a x, ((![v377, v536] : Fin 2 → IVec S16 32) a x).toNat < S56x512.size a)
theorem k0_idx177_inb : ∀ (v377 : IVec S16 32) (v536 : IVec S16 32) (k0_hw177 : k0_chk177 v377 v536), ∀ a x, ((![v377, v536] : Fin 2 → IVec S16 32) a x).toNat < S56x512.size a := fun v377 v536 k0_hw177 => k0_hw177
def k0_off181 (k0_t3 : Fin k0_t3_loop.trips) : Fin 2 → Nat :=
  let c0_i32_97 : BitVec 32 := 0#32
  let c1_i32_99 : BitVec 32 := 1#32
  let arg14 : BitVec 32 := Scf.iv c0_i32_97 c1_i32_99 k0_t3
  let c4_i32_126 : BitVec 32 := 4#32
  let v373 : BitVec 32 := Scalar.muli arg14 c4_i32_126
  let c1_i32_127 : BitVec 32 := 1#32
  let v374 : BitVec 32 := Scalar.addi v373 c1_i32_127
  let v538 : Index := Scalar.indexCast v374
  let c416_181 : Index := 416#32
  ![v538.toNat, 416]

def k0_chk178 (v377 : IVec S16 32) (v542 : IVec S16 32) : Prop :=
  (∀ a x, ((![v377, v542] : Fin 2 → IVec S16 32) a x).toNat < S56x512.size a)
theorem k0_idx178_inb : ∀ (v377 : IVec S16 32) (v542 : IVec S16 32) (k0_hw178 : k0_chk178 v377 v542), ∀ a x, ((![v377, v542] : Fin 2 → IVec S16 32) a x).toNat < S56x512.size a := fun v377 v542 k0_hw178 => k0_hw178
def k0_off182 (k0_t3 : Fin k0_t3_loop.trips) : Fin 2 → Nat :=
  let c0_i32_97 : BitVec 32 := 0#32
  let c1_i32_99 : BitVec 32 := 1#32
  let arg14 : BitVec 32 := Scf.iv c0_i32_97 c1_i32_99 k0_t3
  let c4_i32_126 : BitVec 32 := 4#32
  let v373 : BitVec 32 := Scalar.muli arg14 c4_i32_126
  let c1_i32_127 : BitVec 32 := 1#32
  let v374 : BitVec 32 := Scalar.addi v373 c1_i32_127
  let v544 : Index := Scalar.indexCast v374
  let c432_183 : Index := 432#32
  ![v544.toNat, 432]

def k0_chk179 (v377 : IVec S16 32) (v548 : IVec S16 32) : Prop :=
  (∀ a x, ((![v377, v548] : Fin 2 → IVec S16 32) a x).toNat < S56x512.size a)
theorem k0_idx179_inb : ∀ (v377 : IVec S16 32) (v548 : IVec S16 32) (k0_hw179 : k0_chk179 v377 v548), ∀ a x, ((![v377, v548] : Fin 2 → IVec S16 32) a x).toNat < S56x512.size a := fun v377 v548 k0_hw179 => k0_hw179
def k0_off183 (k0_t3 : Fin k0_t3_loop.trips) : Fin 2 → Nat :=
  let c0_i32_97 : BitVec 32 := 0#32
  let c1_i32_99 : BitVec 32 := 1#32
  let arg14 : BitVec 32 := Scf.iv c0_i32_97 c1_i32_99 k0_t3
  let c4_i32_126 : BitVec 32 := 4#32
  let v373 : BitVec 32 := Scalar.muli arg14 c4_i32_126
  let c1_i32_127 : BitVec 32 := 1#32
  let v374 : BitVec 32 := Scalar.addi v373 c1_i32_127
  let v550 : Index := Scalar.indexCast v374
  let c448_185 : Index := 448#32
  ![v550.toNat, 448]

def k0_chk180 (v377 : IVec S16 32) (v554 : IVec S16 32) : Prop :=
  (∀ a x, ((![v377, v554] : Fin 2 → IVec S16 32) a x).toNat < S56x512.size a)
theorem k0_idx180_inb : ∀ (v377 : IVec S16 32) (v554 : IVec S16 32) (k0_hw180 : k0_chk180 v377 v554), ∀ a x, ((![v377, v554] : Fin 2 → IVec S16 32) a x).toNat < S56x512.size a := fun v377 v554 k0_hw180 => k0_hw180
def k0_off184 (k0_t3 : Fin k0_t3_loop.trips) : Fin 2 → Nat :=
  let c0_i32_97 : BitVec 32 := 0#32
  let c1_i32_99 : BitVec 32 := 1#32
  let arg14 : BitVec 32 := Scf.iv c0_i32_97 c1_i32_99 k0_t3
  let c4_i32_126 : BitVec 32 := 4#32
  let v373 : BitVec 32 := Scalar.muli arg14 c4_i32_126
  let c1_i32_127 : BitVec 32 := 1#32
  let v374 : BitVec 32 := Scalar.addi v373 c1_i32_127
  let v556 : Index := Scalar.indexCast v374
  let c464_187 : Index := 464#32
  ![v556.toNat, 464]

def k0_chk181 (v562 : IVec S16 32) (v565 : IVec S16 32) : Prop :=
  (∀ a x, ((![v562, v565] : Fin 2 → IVec S16 32) a x).toNat < S56x512.size a)
theorem k0_idx181_inb : ∀ (v562 : IVec S16 32) (v565 : IVec S16 32) (k0_hw181 : k0_chk181 v562 v565), ∀ a x, ((![v562, v565] : Fin 2 → IVec S16 32) a x).toNat < S56x512.size a := fun v562 v565 k0_hw181 => k0_hw181
def k0_off185 (k0_t3 : Fin k0_t3_loop.trips) : Fin 2 → Nat :=
  let c0_i32_97 : BitVec 32 := 0#32
  let c1_i32_99 : BitVec 32 := 1#32
  let arg14 : BitVec 32 := Scf.iv c0_i32_97 c1_i32_99 k0_t3
  let c4_i32_188 : BitVec 32 := 4#32
  let v558 : BitVec 32 := Scalar.muli arg14 c4_i32_188
  let c2_i32_189 : BitVec 32 := 2#32
  let v559 : BitVec 32 := Scalar.addi v558 c2_i32_189
  let v567 : Index := Scalar.indexCast v559
  let c0_191 : Index := 0#32
  ![v567.toNat, 0]

def k0_chk182 (v562 : IVec S16 32) (v571 : IVec S16 32) : Prop :=
  (∀ a x, ((![v562, v571] : Fin 2 → IVec S16 32) a x).toNat < S56x512.size a)
theorem k0_idx182_inb : ∀ (v562 : IVec S16 32) (v571 : IVec S16 32) (k0_hw182 : k0_chk182 v562 v571), ∀ a x, ((![v562, v571] : Fin 2 → IVec S16 32) a x).toNat < S56x512.size a := fun v562 v571 k0_hw182 => k0_hw182
def k0_off186 (k0_t3 : Fin k0_t3_loop.trips) : Fin 2 → Nat :=
  let c0_i32_97 : BitVec 32 := 0#32
  let c1_i32_99 : BitVec 32 := 1#32
  let arg14 : BitVec 32 := Scf.iv c0_i32_97 c1_i32_99 k0_t3
  let c4_i32_188 : BitVec 32 := 4#32
  let v558 : BitVec 32 := Scalar.muli arg14 c4_i32_188
  let c2_i32_189 : BitVec 32 := 2#32
  let v559 : BitVec 32 := Scalar.addi v558 c2_i32_189
  let v573 : Index := Scalar.indexCast v559
  let c16_193 : Index := 16#32
  ![v573.toNat, 16]

def k0_chk183 (v562 : IVec S16 32) (v577 : IVec S16 32) : Prop :=
  (∀ a x, ((![v562, v577] : Fin 2 → IVec S16 32) a x).toNat < S56x512.size a)
theorem k0_idx183_inb : ∀ (v562 : IVec S16 32) (v577 : IVec S16 32) (k0_hw183 : k0_chk183 v562 v577), ∀ a x, ((![v562, v577] : Fin 2 → IVec S16 32) a x).toNat < S56x512.size a := fun v562 v577 k0_hw183 => k0_hw183
def k0_off187 (k0_t3 : Fin k0_t3_loop.trips) : Fin 2 → Nat :=
  let c0_i32_97 : BitVec 32 := 0#32
  let c1_i32_99 : BitVec 32 := 1#32
  let arg14 : BitVec 32 := Scf.iv c0_i32_97 c1_i32_99 k0_t3
  let c4_i32_188 : BitVec 32 := 4#32
  let v558 : BitVec 32 := Scalar.muli arg14 c4_i32_188
  let c2_i32_189 : BitVec 32 := 2#32
  let v559 : BitVec 32 := Scalar.addi v558 c2_i32_189
  let v579 : Index := Scalar.indexCast v559
  let c32_195 : Index := 32#32
  ![v579.toNat, 32]

def k0_chk184 (v562 : IVec S16 32) (v583 : IVec S16 32) : Prop :=
  (∀ a x, ((![v562, v583] : Fin 2 → IVec S16 32) a x).toNat < S56x512.size a)
theorem k0_idx184_inb : ∀ (v562 : IVec S16 32) (v583 : IVec S16 32) (k0_hw184 : k0_chk184 v562 v583), ∀ a x, ((![v562, v583] : Fin 2 → IVec S16 32) a x).toNat < S56x512.size a := fun v562 v583 k0_hw184 => k0_hw184
def k0_off188 (k0_t3 : Fin k0_t3_loop.trips) : Fin 2 → Nat :=
  let c0_i32_97 : BitVec 32 := 0#32
  let c1_i32_99 : BitVec 32 := 1#32
  let arg14 : BitVec 32 := Scf.iv c0_i32_97 c1_i32_99 k0_t3
  let c4_i32_188 : BitVec 32 := 4#32
  let v558 : BitVec 32 := Scalar.muli arg14 c4_i32_188
  let c2_i32_189 : BitVec 32 := 2#32
  let v559 : BitVec 32 := Scalar.addi v558 c2_i32_189
  let v585 : Index := Scalar.indexCast v559
  let c48_197 : Index := 48#32
  ![v585.toNat, 48]

def k0_chk185 (v562 : IVec S16 32) (v589 : IVec S16 32) : Prop :=
  (∀ a x, ((![v562, v589] : Fin 2 → IVec S16 32) a x).toNat < S56x512.size a)
theorem k0_idx185_inb : ∀ (v562 : IVec S16 32) (v589 : IVec S16 32) (k0_hw185 : k0_chk185 v562 v589), ∀ a x, ((![v562, v589] : Fin 2 → IVec S16 32) a x).toNat < S56x512.size a := fun v562 v589 k0_hw185 => k0_hw185
def k0_off189 (k0_t3 : Fin k0_t3_loop.trips) : Fin 2 → Nat :=
  let c0_i32_97 : BitVec 32 := 0#32
  let c1_i32_99 : BitVec 32 := 1#32
  let arg14 : BitVec 32 := Scf.iv c0_i32_97 c1_i32_99 k0_t3
  let c4_i32_188 : BitVec 32 := 4#32
  let v558 : BitVec 32 := Scalar.muli arg14 c4_i32_188
  let c2_i32_189 : BitVec 32 := 2#32
  let v559 : BitVec 32 := Scalar.addi v558 c2_i32_189
  let v591 : Index := Scalar.indexCast v559
  let c64_199 : Index := 64#32
  ![v591.toNat, 64]

def k0_chk186 (v562 : IVec S16 32) (v595 : IVec S16 32) : Prop :=
  (∀ a x, ((![v562, v595] : Fin 2 → IVec S16 32) a x).toNat < S56x512.size a)
theorem k0_idx186_inb : ∀ (v562 : IVec S16 32) (v595 : IVec S16 32) (k0_hw186 : k0_chk186 v562 v595), ∀ a x, ((![v562, v595] : Fin 2 → IVec S16 32) a x).toNat < S56x512.size a := fun v562 v595 k0_hw186 => k0_hw186
def k0_off190 (k0_t3 : Fin k0_t3_loop.trips) : Fin 2 → Nat :=
  let c0_i32_97 : BitVec 32 := 0#32
  let c1_i32_99 : BitVec 32 := 1#32
  let arg14 : BitVec 32 := Scf.iv c0_i32_97 c1_i32_99 k0_t3
  let c4_i32_188 : BitVec 32 := 4#32
  let v558 : BitVec 32 := Scalar.muli arg14 c4_i32_188
  let c2_i32_189 : BitVec 32 := 2#32
  let v559 : BitVec 32 := Scalar.addi v558 c2_i32_189
  let v597 : Index := Scalar.indexCast v559
  let c80_201 : Index := 80#32
  ![v597.toNat, 80]

def k0_chk187 (v562 : IVec S16 32) (v601 : IVec S16 32) : Prop :=
  (∀ a x, ((![v562, v601] : Fin 2 → IVec S16 32) a x).toNat < S56x512.size a)
theorem k0_idx187_inb : ∀ (v562 : IVec S16 32) (v601 : IVec S16 32) (k0_hw187 : k0_chk187 v562 v601), ∀ a x, ((![v562, v601] : Fin 2 → IVec S16 32) a x).toNat < S56x512.size a := fun v562 v601 k0_hw187 => k0_hw187
def k0_off191 (k0_t3 : Fin k0_t3_loop.trips) : Fin 2 → Nat :=
  let c0_i32_97 : BitVec 32 := 0#32
  let c1_i32_99 : BitVec 32 := 1#32
  let arg14 : BitVec 32 := Scf.iv c0_i32_97 c1_i32_99 k0_t3
  let c4_i32_188 : BitVec 32 := 4#32
  let v558 : BitVec 32 := Scalar.muli arg14 c4_i32_188
  let c2_i32_189 : BitVec 32 := 2#32
  let v559 : BitVec 32 := Scalar.addi v558 c2_i32_189
  let v603 : Index := Scalar.indexCast v559
  let c96_203 : Index := 96#32
  ![v603.toNat, 96]

def k0_chk188 (v562 : IVec S16 32) (v607 : IVec S16 32) : Prop :=
  (∀ a x, ((![v562, v607] : Fin 2 → IVec S16 32) a x).toNat < S56x512.size a)
theorem k0_idx188_inb : ∀ (v562 : IVec S16 32) (v607 : IVec S16 32) (k0_hw188 : k0_chk188 v562 v607), ∀ a x, ((![v562, v607] : Fin 2 → IVec S16 32) a x).toNat < S56x512.size a := fun v562 v607 k0_hw188 => k0_hw188
def k0_off192 (k0_t3 : Fin k0_t3_loop.trips) : Fin 2 → Nat :=
  let c0_i32_97 : BitVec 32 := 0#32
  let c1_i32_99 : BitVec 32 := 1#32
  let arg14 : BitVec 32 := Scf.iv c0_i32_97 c1_i32_99 k0_t3
  let c4_i32_188 : BitVec 32 := 4#32
  let v558 : BitVec 32 := Scalar.muli arg14 c4_i32_188
  let c2_i32_189 : BitVec 32 := 2#32
  let v559 : BitVec 32 := Scalar.addi v558 c2_i32_189
  let v609 : Index := Scalar.indexCast v559
  let c112_205 : Index := 112#32
  ![v609.toNat, 112]

def k0_chk189 (v562 : IVec S16 32) (v613 : IVec S16 32) : Prop :=
  (∀ a x, ((![v562, v613] : Fin 2 → IVec S16 32) a x).toNat < S56x512.size a)
theorem k0_idx189_inb : ∀ (v562 : IVec S16 32) (v613 : IVec S16 32) (k0_hw189 : k0_chk189 v562 v613), ∀ a x, ((![v562, v613] : Fin 2 → IVec S16 32) a x).toNat < S56x512.size a := fun v562 v613 k0_hw189 => k0_hw189
def k0_off193 (k0_t3 : Fin k0_t3_loop.trips) : Fin 2 → Nat :=
  let c0_i32_97 : BitVec 32 := 0#32
  let c1_i32_99 : BitVec 32 := 1#32
  let arg14 : BitVec 32 := Scf.iv c0_i32_97 c1_i32_99 k0_t3
  let c4_i32_188 : BitVec 32 := 4#32
  let v558 : BitVec 32 := Scalar.muli arg14 c4_i32_188
  let c2_i32_189 : BitVec 32 := 2#32
  let v559 : BitVec 32 := Scalar.addi v558 c2_i32_189
  let v615 : Index := Scalar.indexCast v559
  let c128_207 : Index := 128#32
  ![v615.toNat, 128]

def k0_chk190 (v562 : IVec S16 32) (v619 : IVec S16 32) : Prop :=
  (∀ a x, ((![v562, v619] : Fin 2 → IVec S16 32) a x).toNat < S56x512.size a)
theorem k0_idx190_inb : ∀ (v562 : IVec S16 32) (v619 : IVec S16 32) (k0_hw190 : k0_chk190 v562 v619), ∀ a x, ((![v562, v619] : Fin 2 → IVec S16 32) a x).toNat < S56x512.size a := fun v562 v619 k0_hw190 => k0_hw190
def k0_off194 (k0_t3 : Fin k0_t3_loop.trips) : Fin 2 → Nat :=
  let c0_i32_97 : BitVec 32 := 0#32
  let c1_i32_99 : BitVec 32 := 1#32
  let arg14 : BitVec 32 := Scf.iv c0_i32_97 c1_i32_99 k0_t3
  let c4_i32_188 : BitVec 32 := 4#32
  let v558 : BitVec 32 := Scalar.muli arg14 c4_i32_188
  let c2_i32_189 : BitVec 32 := 2#32
  let v559 : BitVec 32 := Scalar.addi v558 c2_i32_189
  let v621 : Index := Scalar.indexCast v559
  let c144_209 : Index := 144#32
  ![v621.toNat, 144]

def k0_chk191 (v562 : IVec S16 32) (v625 : IVec S16 32) : Prop :=
  (∀ a x, ((![v562, v625] : Fin 2 → IVec S16 32) a x).toNat < S56x512.size a)
theorem k0_idx191_inb : ∀ (v562 : IVec S16 32) (v625 : IVec S16 32) (k0_hw191 : k0_chk191 v562 v625), ∀ a x, ((![v562, v625] : Fin 2 → IVec S16 32) a x).toNat < S56x512.size a := fun v562 v625 k0_hw191 => k0_hw191
def k0_off195 (k0_t3 : Fin k0_t3_loop.trips) : Fin 2 → Nat :=
  let c0_i32_97 : BitVec 32 := 0#32
  let c1_i32_99 : BitVec 32 := 1#32
  let arg14 : BitVec 32 := Scf.iv c0_i32_97 c1_i32_99 k0_t3
  let c4_i32_188 : BitVec 32 := 4#32
  let v558 : BitVec 32 := Scalar.muli arg14 c4_i32_188
  let c2_i32_189 : BitVec 32 := 2#32
  let v559 : BitVec 32 := Scalar.addi v558 c2_i32_189
  let v627 : Index := Scalar.indexCast v559
  let c160_211 : Index := 160#32
  ![v627.toNat, 160]

def k0_chk192 (v562 : IVec S16 32) (v631 : IVec S16 32) : Prop :=
  (∀ a x, ((![v562, v631] : Fin 2 → IVec S16 32) a x).toNat < S56x512.size a)
theorem k0_idx192_inb : ∀ (v562 : IVec S16 32) (v631 : IVec S16 32) (k0_hw192 : k0_chk192 v562 v631), ∀ a x, ((![v562, v631] : Fin 2 → IVec S16 32) a x).toNat < S56x512.size a := fun v562 v631 k0_hw192 => k0_hw192
def k0_off196 (k0_t3 : Fin k0_t3_loop.trips) : Fin 2 → Nat :=
  let c0_i32_97 : BitVec 32 := 0#32
  let c1_i32_99 : BitVec 32 := 1#32
  let arg14 : BitVec 32 := Scf.iv c0_i32_97 c1_i32_99 k0_t3
  let c4_i32_188 : BitVec 32 := 4#32
  let v558 : BitVec 32 := Scalar.muli arg14 c4_i32_188
  let c2_i32_189 : BitVec 32 := 2#32
  let v559 : BitVec 32 := Scalar.addi v558 c2_i32_189
  let v633 : Index := Scalar.indexCast v559
  let c176_213 : Index := 176#32
  ![v633.toNat, 176]

def k0_chk193 (v562 : IVec S16 32) (v637 : IVec S16 32) : Prop :=
  (∀ a x, ((![v562, v637] : Fin 2 → IVec S16 32) a x).toNat < S56x512.size a)
theorem k0_idx193_inb : ∀ (v562 : IVec S16 32) (v637 : IVec S16 32) (k0_hw193 : k0_chk193 v562 v637), ∀ a x, ((![v562, v637] : Fin 2 → IVec S16 32) a x).toNat < S56x512.size a := fun v562 v637 k0_hw193 => k0_hw193
def k0_off197 (k0_t3 : Fin k0_t3_loop.trips) : Fin 2 → Nat :=
  let c0_i32_97 : BitVec 32 := 0#32
  let c1_i32_99 : BitVec 32 := 1#32
  let arg14 : BitVec 32 := Scf.iv c0_i32_97 c1_i32_99 k0_t3
  let c4_i32_188 : BitVec 32 := 4#32
  let v558 : BitVec 32 := Scalar.muli arg14 c4_i32_188
  let c2_i32_189 : BitVec 32 := 2#32
  let v559 : BitVec 32 := Scalar.addi v558 c2_i32_189
  let v639 : Index := Scalar.indexCast v559
  let c192_215 : Index := 192#32
  ![v639.toNat, 192]

def k0_chk194 (v562 : IVec S16 32) (v643 : IVec S16 32) : Prop :=
  (∀ a x, ((![v562, v643] : Fin 2 → IVec S16 32) a x).toNat < S56x512.size a)
theorem k0_idx194_inb : ∀ (v562 : IVec S16 32) (v643 : IVec S16 32) (k0_hw194 : k0_chk194 v562 v643), ∀ a x, ((![v562, v643] : Fin 2 → IVec S16 32) a x).toNat < S56x512.size a := fun v562 v643 k0_hw194 => k0_hw194
def k0_off198 (k0_t3 : Fin k0_t3_loop.trips) : Fin 2 → Nat :=
  let c0_i32_97 : BitVec 32 := 0#32
  let c1_i32_99 : BitVec 32 := 1#32
  let arg14 : BitVec 32 := Scf.iv c0_i32_97 c1_i32_99 k0_t3
  let c4_i32_188 : BitVec 32 := 4#32
  let v558 : BitVec 32 := Scalar.muli arg14 c4_i32_188
  let c2_i32_189 : BitVec 32 := 2#32
  let v559 : BitVec 32 := Scalar.addi v558 c2_i32_189
  let v645 : Index := Scalar.indexCast v559
  let c208_217 : Index := 208#32
  ![v645.toNat, 208]

def k0_chk195 (v562 : IVec S16 32) (v649 : IVec S16 32) : Prop :=
  (∀ a x, ((![v562, v649] : Fin 2 → IVec S16 32) a x).toNat < S56x512.size a)
theorem k0_idx195_inb : ∀ (v562 : IVec S16 32) (v649 : IVec S16 32) (k0_hw195 : k0_chk195 v562 v649), ∀ a x, ((![v562, v649] : Fin 2 → IVec S16 32) a x).toNat < S56x512.size a := fun v562 v649 k0_hw195 => k0_hw195
def k0_off199 (k0_t3 : Fin k0_t3_loop.trips) : Fin 2 → Nat :=
  let c0_i32_97 : BitVec 32 := 0#32
  let c1_i32_99 : BitVec 32 := 1#32
  let arg14 : BitVec 32 := Scf.iv c0_i32_97 c1_i32_99 k0_t3
  let c4_i32_188 : BitVec 32 := 4#32
  let v558 : BitVec 32 := Scalar.muli arg14 c4_i32_188
  let c2_i32_189 : BitVec 32 := 2#32
  let v559 : BitVec 32 := Scalar.addi v558 c2_i32_189
  let v651 : Index := Scalar.indexCast v559
  let c224_219 : Index := 224#32
  ![v651.toNat, 224]

def k0_chk196 (v562 : IVec S16 32) (v655 : IVec S16 32) : Prop :=
  (∀ a x, ((![v562, v655] : Fin 2 → IVec S16 32) a x).toNat < S56x512.size a)
theorem k0_idx196_inb : ∀ (v562 : IVec S16 32) (v655 : IVec S16 32) (k0_hw196 : k0_chk196 v562 v655), ∀ a x, ((![v562, v655] : Fin 2 → IVec S16 32) a x).toNat < S56x512.size a := fun v562 v655 k0_hw196 => k0_hw196
def k0_off200 (k0_t3 : Fin k0_t3_loop.trips) : Fin 2 → Nat :=
  let c0_i32_97 : BitVec 32 := 0#32
  let c1_i32_99 : BitVec 32 := 1#32
  let arg14 : BitVec 32 := Scf.iv c0_i32_97 c1_i32_99 k0_t3
  let c4_i32_188 : BitVec 32 := 4#32
  let v558 : BitVec 32 := Scalar.muli arg14 c4_i32_188
  let c2_i32_189 : BitVec 32 := 2#32
  let v559 : BitVec 32 := Scalar.addi v558 c2_i32_189
  let v657 : Index := Scalar.indexCast v559
  let c240_221 : Index := 240#32
  ![v657.toNat, 240]

def k0_chk197 (v562 : IVec S16 32) (v661 : IVec S16 32) : Prop :=
  (∀ a x, ((![v562, v661] : Fin 2 → IVec S16 32) a x).toNat < S56x512.size a)
theorem k0_idx197_inb : ∀ (v562 : IVec S16 32) (v661 : IVec S16 32) (k0_hw197 : k0_chk197 v562 v661), ∀ a x, ((![v562, v661] : Fin 2 → IVec S16 32) a x).toNat < S56x512.size a := fun v562 v661 k0_hw197 => k0_hw197
def k0_off201 (k0_t3 : Fin k0_t3_loop.trips) : Fin 2 → Nat :=
  let c0_i32_97 : BitVec 32 := 0#32
  let c1_i32_99 : BitVec 32 := 1#32
  let arg14 : BitVec 32 := Scf.iv c0_i32_97 c1_i32_99 k0_t3
  let c4_i32_188 : BitVec 32 := 4#32
  let v558 : BitVec 32 := Scalar.muli arg14 c4_i32_188
  let c2_i32_189 : BitVec 32 := 2#32
  let v559 : BitVec 32 := Scalar.addi v558 c2_i32_189
  let v663 : Index := Scalar.indexCast v559
  let c256_223 : Index := 256#32
  ![v663.toNat, 256]

def k0_chk198 (v562 : IVec S16 32) (v667 : IVec S16 32) : Prop :=
  (∀ a x, ((![v562, v667] : Fin 2 → IVec S16 32) a x).toNat < S56x512.size a)
theorem k0_idx198_inb : ∀ (v562 : IVec S16 32) (v667 : IVec S16 32) (k0_hw198 : k0_chk198 v562 v667), ∀ a x, ((![v562, v667] : Fin 2 → IVec S16 32) a x).toNat < S56x512.size a := fun v562 v667 k0_hw198 => k0_hw198
def k0_off202 (k0_t3 : Fin k0_t3_loop.trips) : Fin 2 → Nat :=
  let c0_i32_97 : BitVec 32 := 0#32
  let c1_i32_99 : BitVec 32 := 1#32
  let arg14 : BitVec 32 := Scf.iv c0_i32_97 c1_i32_99 k0_t3
  let c4_i32_188 : BitVec 32 := 4#32
  let v558 : BitVec 32 := Scalar.muli arg14 c4_i32_188
  let c2_i32_189 : BitVec 32 := 2#32
  let v559 : BitVec 32 := Scalar.addi v558 c2_i32_189
  let v669 : Index := Scalar.indexCast v559
  let c272_225 : Index := 272#32
  ![v669.toNat, 272]

def k0_chk199 (v562 : IVec S16 32) (v673 : IVec S16 32) : Prop :=
  (∀ a x, ((![v562, v673] : Fin 2 → IVec S16 32) a x).toNat < S56x512.size a)
theorem k0_idx199_inb : ∀ (v562 : IVec S16 32) (v673 : IVec S16 32) (k0_hw199 : k0_chk199 v562 v673), ∀ a x, ((![v562, v673] : Fin 2 → IVec S16 32) a x).toNat < S56x512.size a := fun v562 v673 k0_hw199 => k0_hw199
def k0_off203 (k0_t3 : Fin k0_t3_loop.trips) : Fin 2 → Nat :=
  let c0_i32_97 : BitVec 32 := 0#32
  let c1_i32_99 : BitVec 32 := 1#32
  let arg14 : BitVec 32 := Scf.iv c0_i32_97 c1_i32_99 k0_t3
  let c4_i32_188 : BitVec 32 := 4#32
  let v558 : BitVec 32 := Scalar.muli arg14 c4_i32_188
  let c2_i32_189 : BitVec 32 := 2#32
  let v559 : BitVec 32 := Scalar.addi v558 c2_i32_189
  let v675 : Index := Scalar.indexCast v559
  let c288_227 : Index := 288#32
  ![v675.toNat, 288]

def k0_chk200 (v562 : IVec S16 32) (v679 : IVec S16 32) : Prop :=
  (∀ a x, ((![v562, v679] : Fin 2 → IVec S16 32) a x).toNat < S56x512.size a)
theorem k0_idx200_inb : ∀ (v562 : IVec S16 32) (v679 : IVec S16 32) (k0_hw200 : k0_chk200 v562 v679), ∀ a x, ((![v562, v679] : Fin 2 → IVec S16 32) a x).toNat < S56x512.size a := fun v562 v679 k0_hw200 => k0_hw200
def k0_off204 (k0_t3 : Fin k0_t3_loop.trips) : Fin 2 → Nat :=
  let c0_i32_97 : BitVec 32 := 0#32
  let c1_i32_99 : BitVec 32 := 1#32
  let arg14 : BitVec 32 := Scf.iv c0_i32_97 c1_i32_99 k0_t3
  let c4_i32_188 : BitVec 32 := 4#32
  let v558 : BitVec 32 := Scalar.muli arg14 c4_i32_188
  let c2_i32_189 : BitVec 32 := 2#32
  let v559 : BitVec 32 := Scalar.addi v558 c2_i32_189
  let v681 : Index := Scalar.indexCast v559
  let c304_229 : Index := 304#32
  ![v681.toNat, 304]

def k0_chk201 (v562 : IVec S16 32) (v685 : IVec S16 32) : Prop :=
  (∀ a x, ((![v562, v685] : Fin 2 → IVec S16 32) a x).toNat < S56x512.size a)
theorem k0_idx201_inb : ∀ (v562 : IVec S16 32) (v685 : IVec S16 32) (k0_hw201 : k0_chk201 v562 v685), ∀ a x, ((![v562, v685] : Fin 2 → IVec S16 32) a x).toNat < S56x512.size a := fun v562 v685 k0_hw201 => k0_hw201
def k0_off205 (k0_t3 : Fin k0_t3_loop.trips) : Fin 2 → Nat :=
  let c0_i32_97 : BitVec 32 := 0#32
  let c1_i32_99 : BitVec 32 := 1#32
  let arg14 : BitVec 32 := Scf.iv c0_i32_97 c1_i32_99 k0_t3
  let c4_i32_188 : BitVec 32 := 4#32
  let v558 : BitVec 32 := Scalar.muli arg14 c4_i32_188
  let c2_i32_189 : BitVec 32 := 2#32
  let v559 : BitVec 32 := Scalar.addi v558 c2_i32_189
  let v687 : Index := Scalar.indexCast v559
  let c320_231 : Index := 320#32
  ![v687.toNat, 320]

def k0_chk202 (v562 : IVec S16 32) (v691 : IVec S16 32) : Prop :=
  (∀ a x, ((![v562, v691] : Fin 2 → IVec S16 32) a x).toNat < S56x512.size a)
theorem k0_idx202_inb : ∀ (v562 : IVec S16 32) (v691 : IVec S16 32) (k0_hw202 : k0_chk202 v562 v691), ∀ a x, ((![v562, v691] : Fin 2 → IVec S16 32) a x).toNat < S56x512.size a := fun v562 v691 k0_hw202 => k0_hw202
def k0_off206 (k0_t3 : Fin k0_t3_loop.trips) : Fin 2 → Nat :=
  let c0_i32_97 : BitVec 32 := 0#32
  let c1_i32_99 : BitVec 32 := 1#32
  let arg14 : BitVec 32 := Scf.iv c0_i32_97 c1_i32_99 k0_t3
  let c4_i32_188 : BitVec 32 := 4#32
  let v558 : BitVec 32 := Scalar.muli arg14 c4_i32_188
  let c2_i32_189 : BitVec 32 := 2#32
  let v559 : BitVec 32 := Scalar.addi v558 c2_i32_189
  let v693 : Index := Scalar.indexCast v559
  let c336_233 : Index := 336#32
  ![v693.toNat, 336]

def k0_chk203 (v562 : IVec S16 32) (v697 : IVec S16 32) : Prop :=
  (∀ a x, ((![v562, v697] : Fin 2 → IVec S16 32) a x).toNat < S56x512.size a)
theorem k0_idx203_inb : ∀ (v562 : IVec S16 32) (v697 : IVec S16 32) (k0_hw203 : k0_chk203 v562 v697), ∀ a x, ((![v562, v697] : Fin 2 → IVec S16 32) a x).toNat < S56x512.size a := fun v562 v697 k0_hw203 => k0_hw203
def k0_off207 (k0_t3 : Fin k0_t3_loop.trips) : Fin 2 → Nat :=
  let c0_i32_97 : BitVec 32 := 0#32
  let c1_i32_99 : BitVec 32 := 1#32
  let arg14 : BitVec 32 := Scf.iv c0_i32_97 c1_i32_99 k0_t3
  let c4_i32_188 : BitVec 32 := 4#32
  let v558 : BitVec 32 := Scalar.muli arg14 c4_i32_188
  let c2_i32_189 : BitVec 32 := 2#32
  let v559 : BitVec 32 := Scalar.addi v558 c2_i32_189
  let v699 : Index := Scalar.indexCast v559
  let c352_235 : Index := 352#32
  ![v699.toNat, 352]

def k0_chk204 (v562 : IVec S16 32) (v703 : IVec S16 32) : Prop :=
  (∀ a x, ((![v562, v703] : Fin 2 → IVec S16 32) a x).toNat < S56x512.size a)
theorem k0_idx204_inb : ∀ (v562 : IVec S16 32) (v703 : IVec S16 32) (k0_hw204 : k0_chk204 v562 v703), ∀ a x, ((![v562, v703] : Fin 2 → IVec S16 32) a x).toNat < S56x512.size a := fun v562 v703 k0_hw204 => k0_hw204
def k0_off208 (k0_t3 : Fin k0_t3_loop.trips) : Fin 2 → Nat :=
  let c0_i32_97 : BitVec 32 := 0#32
  let c1_i32_99 : BitVec 32 := 1#32
  let arg14 : BitVec 32 := Scf.iv c0_i32_97 c1_i32_99 k0_t3
  let c4_i32_188 : BitVec 32 := 4#32
  let v558 : BitVec 32 := Scalar.muli arg14 c4_i32_188
  let c2_i32_189 : BitVec 32 := 2#32
  let v559 : BitVec 32 := Scalar.addi v558 c2_i32_189
  let v705 : Index := Scalar.indexCast v559
  let c368_237 : Index := 368#32
  ![v705.toNat, 368]

def k0_chk205 (v562 : IVec S16 32) (v709 : IVec S16 32) : Prop :=
  (∀ a x, ((![v562, v709] : Fin 2 → IVec S16 32) a x).toNat < S56x512.size a)
theorem k0_idx205_inb : ∀ (v562 : IVec S16 32) (v709 : IVec S16 32) (k0_hw205 : k0_chk205 v562 v709), ∀ a x, ((![v562, v709] : Fin 2 → IVec S16 32) a x).toNat < S56x512.size a := fun v562 v709 k0_hw205 => k0_hw205
def k0_off209 (k0_t3 : Fin k0_t3_loop.trips) : Fin 2 → Nat :=
  let c0_i32_97 : BitVec 32 := 0#32
  let c1_i32_99 : BitVec 32 := 1#32
  let arg14 : BitVec 32 := Scf.iv c0_i32_97 c1_i32_99 k0_t3
  let c4_i32_188 : BitVec 32 := 4#32
  let v558 : BitVec 32 := Scalar.muli arg14 c4_i32_188
  let c2_i32_189 : BitVec 32 := 2#32
  let v559 : BitVec 32 := Scalar.addi v558 c2_i32_189
  let v711 : Index := Scalar.indexCast v559
  let c384_239 : Index := 384#32
  ![v711.toNat, 384]

def k0_chk206 (v562 : IVec S16 32) (v715 : IVec S16 32) : Prop :=
  (∀ a x, ((![v562, v715] : Fin 2 → IVec S16 32) a x).toNat < S56x512.size a)
theorem k0_idx206_inb : ∀ (v562 : IVec S16 32) (v715 : IVec S16 32) (k0_hw206 : k0_chk206 v562 v715), ∀ a x, ((![v562, v715] : Fin 2 → IVec S16 32) a x).toNat < S56x512.size a := fun v562 v715 k0_hw206 => k0_hw206
def k0_off210 (k0_t3 : Fin k0_t3_loop.trips) : Fin 2 → Nat :=
  let c0_i32_97 : BitVec 32 := 0#32
  let c1_i32_99 : BitVec 32 := 1#32
  let arg14 : BitVec 32 := Scf.iv c0_i32_97 c1_i32_99 k0_t3
  let c4_i32_188 : BitVec 32 := 4#32
  let v558 : BitVec 32 := Scalar.muli arg14 c4_i32_188
  let c2_i32_189 : BitVec 32 := 2#32
  let v559 : BitVec 32 := Scalar.addi v558 c2_i32_189
  let v717 : Index := Scalar.indexCast v559
  let c400_241 : Index := 400#32
  ![v717.toNat, 400]

def k0_chk207 (v562 : IVec S16 32) (v721 : IVec S16 32) : Prop :=
  (∀ a x, ((![v562, v721] : Fin 2 → IVec S16 32) a x).toNat < S56x512.size a)
theorem k0_idx207_inb : ∀ (v562 : IVec S16 32) (v721 : IVec S16 32) (k0_hw207 : k0_chk207 v562 v721), ∀ a x, ((![v562, v721] : Fin 2 → IVec S16 32) a x).toNat < S56x512.size a := fun v562 v721 k0_hw207 => k0_hw207
def k0_off211 (k0_t3 : Fin k0_t3_loop.trips) : Fin 2 → Nat :=
  let c0_i32_97 : BitVec 32 := 0#32
  let c1_i32_99 : BitVec 32 := 1#32
  let arg14 : BitVec 32 := Scf.iv c0_i32_97 c1_i32_99 k0_t3
  let c4_i32_188 : BitVec 32 := 4#32
  let v558 : BitVec 32 := Scalar.muli arg14 c4_i32_188
  let c2_i32_189 : BitVec 32 := 2#32
  let v559 : BitVec 32 := Scalar.addi v558 c2_i32_189
  let v723 : Index := Scalar.indexCast v559
  let c416_243 : Index := 416#32
  ![v723.toNat, 416]

def k0_chk208 (v562 : IVec S16 32) (v727 : IVec S16 32) : Prop :=
  (∀ a x, ((![v562, v727] : Fin 2 → IVec S16 32) a x).toNat < S56x512.size a)
theorem k0_idx208_inb : ∀ (v562 : IVec S16 32) (v727 : IVec S16 32) (k0_hw208 : k0_chk208 v562 v727), ∀ a x, ((![v562, v727] : Fin 2 → IVec S16 32) a x).toNat < S56x512.size a := fun v562 v727 k0_hw208 => k0_hw208
def k0_off212 (k0_t3 : Fin k0_t3_loop.trips) : Fin 2 → Nat :=
  let c0_i32_97 : BitVec 32 := 0#32
  let c1_i32_99 : BitVec 32 := 1#32
  let arg14 : BitVec 32 := Scf.iv c0_i32_97 c1_i32_99 k0_t3
  let c4_i32_188 : BitVec 32 := 4#32
  let v558 : BitVec 32 := Scalar.muli arg14 c4_i32_188
  let c2_i32_189 : BitVec 32 := 2#32
  let v559 : BitVec 32 := Scalar.addi v558 c2_i32_189
  let v729 : Index := Scalar.indexCast v559
  let c432_245 : Index := 432#32
  ![v729.toNat, 432]

def k0_chk209 (v562 : IVec S16 32) (v733 : IVec S16 32) : Prop :=
  (∀ a x, ((![v562, v733] : Fin 2 → IVec S16 32) a x).toNat < S56x512.size a)
theorem k0_idx209_inb : ∀ (v562 : IVec S16 32) (v733 : IVec S16 32) (k0_hw209 : k0_chk209 v562 v733), ∀ a x, ((![v562, v733] : Fin 2 → IVec S16 32) a x).toNat < S56x512.size a := fun v562 v733 k0_hw209 => k0_hw209
def k0_off213 (k0_t3 : Fin k0_t3_loop.trips) : Fin 2 → Nat :=
  let c0_i32_97 : BitVec 32 := 0#32
  let c1_i32_99 : BitVec 32 := 1#32
  let arg14 : BitVec 32 := Scf.iv c0_i32_97 c1_i32_99 k0_t3
  let c4_i32_188 : BitVec 32 := 4#32
  let v558 : BitVec 32 := Scalar.muli arg14 c4_i32_188
  let c2_i32_189 : BitVec 32 := 2#32
  let v559 : BitVec 32 := Scalar.addi v558 c2_i32_189
  let v735 : Index := Scalar.indexCast v559
  let c448_247 : Index := 448#32
  ![v735.toNat, 448]

def k0_chk210 (v562 : IVec S16 32) (v739 : IVec S16 32) : Prop :=
  (∀ a x, ((![v562, v739] : Fin 2 → IVec S16 32) a x).toNat < S56x512.size a)
theorem k0_idx210_inb : ∀ (v562 : IVec S16 32) (v739 : IVec S16 32) (k0_hw210 : k0_chk210 v562 v739), ∀ a x, ((![v562, v739] : Fin 2 → IVec S16 32) a x).toNat < S56x512.size a := fun v562 v739 k0_hw210 => k0_hw210
def k0_off214 (k0_t3 : Fin k0_t3_loop.trips) : Fin 2 → Nat :=
  let c0_i32_97 : BitVec 32 := 0#32
  let c1_i32_99 : BitVec 32 := 1#32
  let arg14 : BitVec 32 := Scf.iv c0_i32_97 c1_i32_99 k0_t3
  let c4_i32_188 : BitVec 32 := 4#32
  let v558 : BitVec 32 := Scalar.muli arg14 c4_i32_188
  let c2_i32_189 : BitVec 32 := 2#32
  let v559 : BitVec 32 := Scalar.addi v558 c2_i32_189
  let v741 : Index := Scalar.indexCast v559
  let c464_249 : Index := 464#32
  ![v741.toNat, 464]

def k0_chk211 (v747 : IVec S16 32) (v750 : IVec S16 32) : Prop :=
  (∀ a x, ((![v747, v750] : Fin 2 → IVec S16 32) a x).toNat < S56x512.size a)
theorem k0_idx211_inb : ∀ (v747 : IVec S16 32) (v750 : IVec S16 32) (k0_hw211 : k0_chk211 v747 v750), ∀ a x, ((![v747, v750] : Fin 2 → IVec S16 32) a x).toNat < S56x512.size a := fun v747 v750 k0_hw211 => k0_hw211
def k0_off215 (k0_t3 : Fin k0_t3_loop.trips) : Fin 2 → Nat :=
  let c0_i32_97 : BitVec 32 := 0#32
  let c1_i32_99 : BitVec 32 := 1#32
  let arg14 : BitVec 32 := Scf.iv c0_i32_97 c1_i32_99 k0_t3
  let c4_i32_250 : BitVec 32 := 4#32
  let v743 : BitVec 32 := Scalar.muli arg14 c4_i32_250
  let c3_i32_251 : BitVec 32 := 3#32
  let v744 : BitVec 32 := Scalar.addi v743 c3_i32_251
  let v752 : Index := Scalar.indexCast v744
  let c0_253 : Index := 0#32
  ![v752.toNat, 0]

def k0_chk212 (v747 : IVec S16 32) (v756 : IVec S16 32) : Prop :=
  (∀ a x, ((![v747, v756] : Fin 2 → IVec S16 32) a x).toNat < S56x512.size a)
theorem k0_idx212_inb : ∀ (v747 : IVec S16 32) (v756 : IVec S16 32) (k0_hw212 : k0_chk212 v747 v756), ∀ a x, ((![v747, v756] : Fin 2 → IVec S16 32) a x).toNat < S56x512.size a := fun v747 v756 k0_hw212 => k0_hw212
def k0_off216 (k0_t3 : Fin k0_t3_loop.trips) : Fin 2 → Nat :=
  let c0_i32_97 : BitVec 32 := 0#32
  let c1_i32_99 : BitVec 32 := 1#32
  let arg14 : BitVec 32 := Scf.iv c0_i32_97 c1_i32_99 k0_t3
  let c4_i32_250 : BitVec 32 := 4#32
  let v743 : BitVec 32 := Scalar.muli arg14 c4_i32_250
  let c3_i32_251 : BitVec 32 := 3#32
  let v744 : BitVec 32 := Scalar.addi v743 c3_i32_251
  let v758 : Index := Scalar.indexCast v744
  let c16_255 : Index := 16#32
  ![v758.toNat, 16]

def k0_chk213 (v747 : IVec S16 32) (v762 : IVec S16 32) : Prop :=
  (∀ a x, ((![v747, v762] : Fin 2 → IVec S16 32) a x).toNat < S56x512.size a)
theorem k0_idx213_inb : ∀ (v747 : IVec S16 32) (v762 : IVec S16 32) (k0_hw213 : k0_chk213 v747 v762), ∀ a x, ((![v747, v762] : Fin 2 → IVec S16 32) a x).toNat < S56x512.size a := fun v747 v762 k0_hw213 => k0_hw213
def k0_off217 (k0_t3 : Fin k0_t3_loop.trips) : Fin 2 → Nat :=
  let c0_i32_97 : BitVec 32 := 0#32
  let c1_i32_99 : BitVec 32 := 1#32
  let arg14 : BitVec 32 := Scf.iv c0_i32_97 c1_i32_99 k0_t3
  let c4_i32_250 : BitVec 32 := 4#32
  let v743 : BitVec 32 := Scalar.muli arg14 c4_i32_250
  let c3_i32_251 : BitVec 32 := 3#32
  let v744 : BitVec 32 := Scalar.addi v743 c3_i32_251
  let v764 : Index := Scalar.indexCast v744
  let c32_257 : Index := 32#32
  ![v764.toNat, 32]

def k0_chk214 (v747 : IVec S16 32) (v768 : IVec S16 32) : Prop :=
  (∀ a x, ((![v747, v768] : Fin 2 → IVec S16 32) a x).toNat < S56x512.size a)
theorem k0_idx214_inb : ∀ (v747 : IVec S16 32) (v768 : IVec S16 32) (k0_hw214 : k0_chk214 v747 v768), ∀ a x, ((![v747, v768] : Fin 2 → IVec S16 32) a x).toNat < S56x512.size a := fun v747 v768 k0_hw214 => k0_hw214
def k0_off218 (k0_t3 : Fin k0_t3_loop.trips) : Fin 2 → Nat :=
  let c0_i32_97 : BitVec 32 := 0#32
  let c1_i32_99 : BitVec 32 := 1#32
  let arg14 : BitVec 32 := Scf.iv c0_i32_97 c1_i32_99 k0_t3
  let c4_i32_250 : BitVec 32 := 4#32
  let v743 : BitVec 32 := Scalar.muli arg14 c4_i32_250
  let c3_i32_251 : BitVec 32 := 3#32
  let v744 : BitVec 32 := Scalar.addi v743 c3_i32_251
  let v770 : Index := Scalar.indexCast v744
  let c48_259 : Index := 48#32
  ![v770.toNat, 48]

def k0_chk215 (v747 : IVec S16 32) (v774 : IVec S16 32) : Prop :=
  (∀ a x, ((![v747, v774] : Fin 2 → IVec S16 32) a x).toNat < S56x512.size a)
theorem k0_idx215_inb : ∀ (v747 : IVec S16 32) (v774 : IVec S16 32) (k0_hw215 : k0_chk215 v747 v774), ∀ a x, ((![v747, v774] : Fin 2 → IVec S16 32) a x).toNat < S56x512.size a := fun v747 v774 k0_hw215 => k0_hw215
def k0_off219 (k0_t3 : Fin k0_t3_loop.trips) : Fin 2 → Nat :=
  let c0_i32_97 : BitVec 32 := 0#32
  let c1_i32_99 : BitVec 32 := 1#32
  let arg14 : BitVec 32 := Scf.iv c0_i32_97 c1_i32_99 k0_t3
  let c4_i32_250 : BitVec 32 := 4#32
  let v743 : BitVec 32 := Scalar.muli arg14 c4_i32_250
  let c3_i32_251 : BitVec 32 := 3#32
  let v744 : BitVec 32 := Scalar.addi v743 c3_i32_251
  let v776 : Index := Scalar.indexCast v744
  let c64_261 : Index := 64#32
  ![v776.toNat, 64]

def k0_chk216 (v747 : IVec S16 32) (v780 : IVec S16 32) : Prop :=
  (∀ a x, ((![v747, v780] : Fin 2 → IVec S16 32) a x).toNat < S56x512.size a)
theorem k0_idx216_inb : ∀ (v747 : IVec S16 32) (v780 : IVec S16 32) (k0_hw216 : k0_chk216 v747 v780), ∀ a x, ((![v747, v780] : Fin 2 → IVec S16 32) a x).toNat < S56x512.size a := fun v747 v780 k0_hw216 => k0_hw216
def k0_off220 (k0_t3 : Fin k0_t3_loop.trips) : Fin 2 → Nat :=
  let c0_i32_97 : BitVec 32 := 0#32
  let c1_i32_99 : BitVec 32 := 1#32
  let arg14 : BitVec 32 := Scf.iv c0_i32_97 c1_i32_99 k0_t3
  let c4_i32_250 : BitVec 32 := 4#32
  let v743 : BitVec 32 := Scalar.muli arg14 c4_i32_250
  let c3_i32_251 : BitVec 32 := 3#32
  let v744 : BitVec 32 := Scalar.addi v743 c3_i32_251
  let v782 : Index := Scalar.indexCast v744
  let c80_263 : Index := 80#32
  ![v782.toNat, 80]

def k0_chk217 (v747 : IVec S16 32) (v786 : IVec S16 32) : Prop :=
  (∀ a x, ((![v747, v786] : Fin 2 → IVec S16 32) a x).toNat < S56x512.size a)
theorem k0_idx217_inb : ∀ (v747 : IVec S16 32) (v786 : IVec S16 32) (k0_hw217 : k0_chk217 v747 v786), ∀ a x, ((![v747, v786] : Fin 2 → IVec S16 32) a x).toNat < S56x512.size a := fun v747 v786 k0_hw217 => k0_hw217
def k0_off221 (k0_t3 : Fin k0_t3_loop.trips) : Fin 2 → Nat :=
  let c0_i32_97 : BitVec 32 := 0#32
  let c1_i32_99 : BitVec 32 := 1#32
  let arg14 : BitVec 32 := Scf.iv c0_i32_97 c1_i32_99 k0_t3
  let c4_i32_250 : BitVec 32 := 4#32
  let v743 : BitVec 32 := Scalar.muli arg14 c4_i32_250
  let c3_i32_251 : BitVec 32 := 3#32
  let v744 : BitVec 32 := Scalar.addi v743 c3_i32_251
  let v788 : Index := Scalar.indexCast v744
  let c96_265 : Index := 96#32
  ![v788.toNat, 96]

def k0_chk218 (v747 : IVec S16 32) (v792 : IVec S16 32) : Prop :=
  (∀ a x, ((![v747, v792] : Fin 2 → IVec S16 32) a x).toNat < S56x512.size a)
theorem k0_idx218_inb : ∀ (v747 : IVec S16 32) (v792 : IVec S16 32) (k0_hw218 : k0_chk218 v747 v792), ∀ a x, ((![v747, v792] : Fin 2 → IVec S16 32) a x).toNat < S56x512.size a := fun v747 v792 k0_hw218 => k0_hw218
def k0_off222 (k0_t3 : Fin k0_t3_loop.trips) : Fin 2 → Nat :=
  let c0_i32_97 : BitVec 32 := 0#32
  let c1_i32_99 : BitVec 32 := 1#32
  let arg14 : BitVec 32 := Scf.iv c0_i32_97 c1_i32_99 k0_t3
  let c4_i32_250 : BitVec 32 := 4#32
  let v743 : BitVec 32 := Scalar.muli arg14 c4_i32_250
  let c3_i32_251 : BitVec 32 := 3#32
  let v744 : BitVec 32 := Scalar.addi v743 c3_i32_251
  let v794 : Index := Scalar.indexCast v744
  let c112_267 : Index := 112#32
  ![v794.toNat, 112]

def k0_chk219 (v747 : IVec S16 32) (v798 : IVec S16 32) : Prop :=
  (∀ a x, ((![v747, v798] : Fin 2 → IVec S16 32) a x).toNat < S56x512.size a)
theorem k0_idx219_inb : ∀ (v747 : IVec S16 32) (v798 : IVec S16 32) (k0_hw219 : k0_chk219 v747 v798), ∀ a x, ((![v747, v798] : Fin 2 → IVec S16 32) a x).toNat < S56x512.size a := fun v747 v798 k0_hw219 => k0_hw219
def k0_off223 (k0_t3 : Fin k0_t3_loop.trips) : Fin 2 → Nat :=
  let c0_i32_97 : BitVec 32 := 0#32
  let c1_i32_99 : BitVec 32 := 1#32
  let arg14 : BitVec 32 := Scf.iv c0_i32_97 c1_i32_99 k0_t3
  let c4_i32_250 : BitVec 32 := 4#32
  let v743 : BitVec 32 := Scalar.muli arg14 c4_i32_250
  let c3_i32_251 : BitVec 32 := 3#32
  let v744 : BitVec 32 := Scalar.addi v743 c3_i32_251
  let v800 : Index := Scalar.indexCast v744
  let c128_269 : Index := 128#32
  ![v800.toNat, 128]

def k0_chk220 (v747 : IVec S16 32) (v804 : IVec S16 32) : Prop :=
  (∀ a x, ((![v747, v804] : Fin 2 → IVec S16 32) a x).toNat < S56x512.size a)
theorem k0_idx220_inb : ∀ (v747 : IVec S16 32) (v804 : IVec S16 32) (k0_hw220 : k0_chk220 v747 v804), ∀ a x, ((![v747, v804] : Fin 2 → IVec S16 32) a x).toNat < S56x512.size a := fun v747 v804 k0_hw220 => k0_hw220
def k0_off224 (k0_t3 : Fin k0_t3_loop.trips) : Fin 2 → Nat :=
  let c0_i32_97 : BitVec 32 := 0#32
  let c1_i32_99 : BitVec 32 := 1#32
  let arg14 : BitVec 32 := Scf.iv c0_i32_97 c1_i32_99 k0_t3
  let c4_i32_250 : BitVec 32 := 4#32
  let v743 : BitVec 32 := Scalar.muli arg14 c4_i32_250
  let c3_i32_251 : BitVec 32 := 3#32
  let v744 : BitVec 32 := Scalar.addi v743 c3_i32_251
  let v806 : Index := Scalar.indexCast v744
  let c144_271 : Index := 144#32
  ![v806.toNat, 144]

def k0_chk221 (v747 : IVec S16 32) (v810 : IVec S16 32) : Prop :=
  (∀ a x, ((![v747, v810] : Fin 2 → IVec S16 32) a x).toNat < S56x512.size a)
theorem k0_idx221_inb : ∀ (v747 : IVec S16 32) (v810 : IVec S16 32) (k0_hw221 : k0_chk221 v747 v810), ∀ a x, ((![v747, v810] : Fin 2 → IVec S16 32) a x).toNat < S56x512.size a := fun v747 v810 k0_hw221 => k0_hw221
def k0_off225 (k0_t3 : Fin k0_t3_loop.trips) : Fin 2 → Nat :=
  let c0_i32_97 : BitVec 32 := 0#32
  let c1_i32_99 : BitVec 32 := 1#32
  let arg14 : BitVec 32 := Scf.iv c0_i32_97 c1_i32_99 k0_t3
  let c4_i32_250 : BitVec 32 := 4#32
  let v743 : BitVec 32 := Scalar.muli arg14 c4_i32_250
  let c3_i32_251 : BitVec 32 := 3#32
  let v744 : BitVec 32 := Scalar.addi v743 c3_i32_251
  let v812 : Index := Scalar.indexCast v744
  let c160_273 : Index := 160#32
  ![v812.toNat, 160]

def k0_chk222 (v747 : IVec S16 32) (v816 : IVec S16 32) : Prop :=
  (∀ a x, ((![v747, v816] : Fin 2 → IVec S16 32) a x).toNat < S56x512.size a)
theorem k0_idx222_inb : ∀ (v747 : IVec S16 32) (v816 : IVec S16 32) (k0_hw222 : k0_chk222 v747 v816), ∀ a x, ((![v747, v816] : Fin 2 → IVec S16 32) a x).toNat < S56x512.size a := fun v747 v816 k0_hw222 => k0_hw222
def k0_off226 (k0_t3 : Fin k0_t3_loop.trips) : Fin 2 → Nat :=
  let c0_i32_97 : BitVec 32 := 0#32
  let c1_i32_99 : BitVec 32 := 1#32
  let arg14 : BitVec 32 := Scf.iv c0_i32_97 c1_i32_99 k0_t3
  let c4_i32_250 : BitVec 32 := 4#32
  let v743 : BitVec 32 := Scalar.muli arg14 c4_i32_250
  let c3_i32_251 : BitVec 32 := 3#32
  let v744 : BitVec 32 := Scalar.addi v743 c3_i32_251
  let v818 : Index := Scalar.indexCast v744
  let c176_275 : Index := 176#32
  ![v818.toNat, 176]

def k0_chk223 (v747 : IVec S16 32) (v822 : IVec S16 32) : Prop :=
  (∀ a x, ((![v747, v822] : Fin 2 → IVec S16 32) a x).toNat < S56x512.size a)
theorem k0_idx223_inb : ∀ (v747 : IVec S16 32) (v822 : IVec S16 32) (k0_hw223 : k0_chk223 v747 v822), ∀ a x, ((![v747, v822] : Fin 2 → IVec S16 32) a x).toNat < S56x512.size a := fun v747 v822 k0_hw223 => k0_hw223
def k0_off227 (k0_t3 : Fin k0_t3_loop.trips) : Fin 2 → Nat :=
  let c0_i32_97 : BitVec 32 := 0#32
  let c1_i32_99 : BitVec 32 := 1#32
  let arg14 : BitVec 32 := Scf.iv c0_i32_97 c1_i32_99 k0_t3
  let c4_i32_250 : BitVec 32 := 4#32
  let v743 : BitVec 32 := Scalar.muli arg14 c4_i32_250
  let c3_i32_251 : BitVec 32 := 3#32
  let v744 : BitVec 32 := Scalar.addi v743 c3_i32_251
  let v824 : Index := Scalar.indexCast v744
  let c192_277 : Index := 192#32
  ![v824.toNat, 192]

def k0_chk224 (v747 : IVec S16 32) (v828 : IVec S16 32) : Prop :=
  (∀ a x, ((![v747, v828] : Fin 2 → IVec S16 32) a x).toNat < S56x512.size a)
theorem k0_idx224_inb : ∀ (v747 : IVec S16 32) (v828 : IVec S16 32) (k0_hw224 : k0_chk224 v747 v828), ∀ a x, ((![v747, v828] : Fin 2 → IVec S16 32) a x).toNat < S56x512.size a := fun v747 v828 k0_hw224 => k0_hw224
def k0_off228 (k0_t3 : Fin k0_t3_loop.trips) : Fin 2 → Nat :=
  let c0_i32_97 : BitVec 32 := 0#32
  let c1_i32_99 : BitVec 32 := 1#32
  let arg14 : BitVec 32 := Scf.iv c0_i32_97 c1_i32_99 k0_t3
  let c4_i32_250 : BitVec 32 := 4#32
  let v743 : BitVec 32 := Scalar.muli arg14 c4_i32_250
  let c3_i32_251 : BitVec 32 := 3#32
  let v744 : BitVec 32 := Scalar.addi v743 c3_i32_251
  let v830 : Index := Scalar.indexCast v744
  let c208_279 : Index := 208#32
  ![v830.toNat, 208]

def k0_chk225 (v747 : IVec S16 32) (v834 : IVec S16 32) : Prop :=
  (∀ a x, ((![v747, v834] : Fin 2 → IVec S16 32) a x).toNat < S56x512.size a)
theorem k0_idx225_inb : ∀ (v747 : IVec S16 32) (v834 : IVec S16 32) (k0_hw225 : k0_chk225 v747 v834), ∀ a x, ((![v747, v834] : Fin 2 → IVec S16 32) a x).toNat < S56x512.size a := fun v747 v834 k0_hw225 => k0_hw225
def k0_off229 (k0_t3 : Fin k0_t3_loop.trips) : Fin 2 → Nat :=
  let c0_i32_97 : BitVec 32 := 0#32
  let c1_i32_99 : BitVec 32 := 1#32
  let arg14 : BitVec 32 := Scf.iv c0_i32_97 c1_i32_99 k0_t3
  let c4_i32_250 : BitVec 32 := 4#32
  let v743 : BitVec 32 := Scalar.muli arg14 c4_i32_250
  let c3_i32_251 : BitVec 32 := 3#32
  let v744 : BitVec 32 := Scalar.addi v743 c3_i32_251
  let v836 : Index := Scalar.indexCast v744
  let c224_281 : Index := 224#32
  ![v836.toNat, 224]

def k0_chk226 (v747 : IVec S16 32) (v840 : IVec S16 32) : Prop :=
  (∀ a x, ((![v747, v840] : Fin 2 → IVec S16 32) a x).toNat < S56x512.size a)
theorem k0_idx226_inb : ∀ (v747 : IVec S16 32) (v840 : IVec S16 32) (k0_hw226 : k0_chk226 v747 v840), ∀ a x, ((![v747, v840] : Fin 2 → IVec S16 32) a x).toNat < S56x512.size a := fun v747 v840 k0_hw226 => k0_hw226
def k0_off230 (k0_t3 : Fin k0_t3_loop.trips) : Fin 2 → Nat :=
  let c0_i32_97 : BitVec 32 := 0#32
  let c1_i32_99 : BitVec 32 := 1#32
  let arg14 : BitVec 32 := Scf.iv c0_i32_97 c1_i32_99 k0_t3
  let c4_i32_250 : BitVec 32 := 4#32
  let v743 : BitVec 32 := Scalar.muli arg14 c4_i32_250
  let c3_i32_251 : BitVec 32 := 3#32
  let v744 : BitVec 32 := Scalar.addi v743 c3_i32_251
  let v842 : Index := Scalar.indexCast v744
  let c240_283 : Index := 240#32
  ![v842.toNat, 240]

def k0_chk227 (v747 : IVec S16 32) (v846 : IVec S16 32) : Prop :=
  (∀ a x, ((![v747, v846] : Fin 2 → IVec S16 32) a x).toNat < S56x512.size a)
theorem k0_idx227_inb : ∀ (v747 : IVec S16 32) (v846 : IVec S16 32) (k0_hw227 : k0_chk227 v747 v846), ∀ a x, ((![v747, v846] : Fin 2 → IVec S16 32) a x).toNat < S56x512.size a := fun v747 v846 k0_hw227 => k0_hw227
def k0_off231 (k0_t3 : Fin k0_t3_loop.trips) : Fin 2 → Nat :=
  let c0_i32_97 : BitVec 32 := 0#32
  let c1_i32_99 : BitVec 32 := 1#32
  let arg14 : BitVec 32 := Scf.iv c0_i32_97 c1_i32_99 k0_t3
  let c4_i32_250 : BitVec 32 := 4#32
  let v743 : BitVec 32 := Scalar.muli arg14 c4_i32_250
  let c3_i32_251 : BitVec 32 := 3#32
  let v744 : BitVec 32 := Scalar.addi v743 c3_i32_251
  let v848 : Index := Scalar.indexCast v744
  let c256_285 : Index := 256#32
  ![v848.toNat, 256]

def k0_chk228 (v747 : IVec S16 32) (v852 : IVec S16 32) : Prop :=
  (∀ a x, ((![v747, v852] : Fin 2 → IVec S16 32) a x).toNat < S56x512.size a)
theorem k0_idx228_inb : ∀ (v747 : IVec S16 32) (v852 : IVec S16 32) (k0_hw228 : k0_chk228 v747 v852), ∀ a x, ((![v747, v852] : Fin 2 → IVec S16 32) a x).toNat < S56x512.size a := fun v747 v852 k0_hw228 => k0_hw228
def k0_off232 (k0_t3 : Fin k0_t3_loop.trips) : Fin 2 → Nat :=
  let c0_i32_97 : BitVec 32 := 0#32
  let c1_i32_99 : BitVec 32 := 1#32
  let arg14 : BitVec 32 := Scf.iv c0_i32_97 c1_i32_99 k0_t3
  let c4_i32_250 : BitVec 32 := 4#32
  let v743 : BitVec 32 := Scalar.muli arg14 c4_i32_250
  let c3_i32_251 : BitVec 32 := 3#32
  let v744 : BitVec 32 := Scalar.addi v743 c3_i32_251
  let v854 : Index := Scalar.indexCast v744
  let c272_287 : Index := 272#32
  ![v854.toNat, 272]

def k0_chk229 (v747 : IVec S16 32) (v858 : IVec S16 32) : Prop :=
  (∀ a x, ((![v747, v858] : Fin 2 → IVec S16 32) a x).toNat < S56x512.size a)
theorem k0_idx229_inb : ∀ (v747 : IVec S16 32) (v858 : IVec S16 32) (k0_hw229 : k0_chk229 v747 v858), ∀ a x, ((![v747, v858] : Fin 2 → IVec S16 32) a x).toNat < S56x512.size a := fun v747 v858 k0_hw229 => k0_hw229
def k0_off233 (k0_t3 : Fin k0_t3_loop.trips) : Fin 2 → Nat :=
  let c0_i32_97 : BitVec 32 := 0#32
  let c1_i32_99 : BitVec 32 := 1#32
  let arg14 : BitVec 32 := Scf.iv c0_i32_97 c1_i32_99 k0_t3
  let c4_i32_250 : BitVec 32 := 4#32
  let v743 : BitVec 32 := Scalar.muli arg14 c4_i32_250
  let c3_i32_251 : BitVec 32 := 3#32
  let v744 : BitVec 32 := Scalar.addi v743 c3_i32_251
  let v860 : Index := Scalar.indexCast v744
  let c288_289 : Index := 288#32
  ![v860.toNat, 288]

def k0_chk230 (v747 : IVec S16 32) (v864 : IVec S16 32) : Prop :=
  (∀ a x, ((![v747, v864] : Fin 2 → IVec S16 32) a x).toNat < S56x512.size a)
theorem k0_idx230_inb : ∀ (v747 : IVec S16 32) (v864 : IVec S16 32) (k0_hw230 : k0_chk230 v747 v864), ∀ a x, ((![v747, v864] : Fin 2 → IVec S16 32) a x).toNat < S56x512.size a := fun v747 v864 k0_hw230 => k0_hw230
def k0_off234 (k0_t3 : Fin k0_t3_loop.trips) : Fin 2 → Nat :=
  let c0_i32_97 : BitVec 32 := 0#32
  let c1_i32_99 : BitVec 32 := 1#32
  let arg14 : BitVec 32 := Scf.iv c0_i32_97 c1_i32_99 k0_t3
  let c4_i32_250 : BitVec 32 := 4#32
  let v743 : BitVec 32 := Scalar.muli arg14 c4_i32_250
  let c3_i32_251 : BitVec 32 := 3#32
  let v744 : BitVec 32 := Scalar.addi v743 c3_i32_251
  let v866 : Index := Scalar.indexCast v744
  let c304_291 : Index := 304#32
  ![v866.toNat, 304]

def k0_chk231 (v747 : IVec S16 32) (v870 : IVec S16 32) : Prop :=
  (∀ a x, ((![v747, v870] : Fin 2 → IVec S16 32) a x).toNat < S56x512.size a)
theorem k0_idx231_inb : ∀ (v747 : IVec S16 32) (v870 : IVec S16 32) (k0_hw231 : k0_chk231 v747 v870), ∀ a x, ((![v747, v870] : Fin 2 → IVec S16 32) a x).toNat < S56x512.size a := fun v747 v870 k0_hw231 => k0_hw231
def k0_off235 (k0_t3 : Fin k0_t3_loop.trips) : Fin 2 → Nat :=
  let c0_i32_97 : BitVec 32 := 0#32
  let c1_i32_99 : BitVec 32 := 1#32
  let arg14 : BitVec 32 := Scf.iv c0_i32_97 c1_i32_99 k0_t3
  let c4_i32_250 : BitVec 32 := 4#32
  let v743 : BitVec 32 := Scalar.muli arg14 c4_i32_250
  let c3_i32_251 : BitVec 32 := 3#32
  let v744 : BitVec 32 := Scalar.addi v743 c3_i32_251
  let v872 : Index := Scalar.indexCast v744
  let c320_293 : Index := 320#32
  ![v872.toNat, 320]

def k0_chk232 (v747 : IVec S16 32) (v876 : IVec S16 32) : Prop :=
  (∀ a x, ((![v747, v876] : Fin 2 → IVec S16 32) a x).toNat < S56x512.size a)
theorem k0_idx232_inb : ∀ (v747 : IVec S16 32) (v876 : IVec S16 32) (k0_hw232 : k0_chk232 v747 v876), ∀ a x, ((![v747, v876] : Fin 2 → IVec S16 32) a x).toNat < S56x512.size a := fun v747 v876 k0_hw232 => k0_hw232
def k0_off236 (k0_t3 : Fin k0_t3_loop.trips) : Fin 2 → Nat :=
  let c0_i32_97 : BitVec 32 := 0#32
  let c1_i32_99 : BitVec 32 := 1#32
  let arg14 : BitVec 32 := Scf.iv c0_i32_97 c1_i32_99 k0_t3
  let c4_i32_250 : BitVec 32 := 4#32
  let v743 : BitVec 32 := Scalar.muli arg14 c4_i32_250
  let c3_i32_251 : BitVec 32 := 3#32
  let v744 : BitVec 32 := Scalar.addi v743 c3_i32_251
  let v878 : Index := Scalar.indexCast v744
  let c336_295 : Index := 336#32
  ![v878.toNat, 336]

def k0_chk233 (v747 : IVec S16 32) (v882 : IVec S16 32) : Prop :=
  (∀ a x, ((![v747, v882] : Fin 2 → IVec S16 32) a x).toNat < S56x512.size a)
theorem k0_idx233_inb : ∀ (v747 : IVec S16 32) (v882 : IVec S16 32) (k0_hw233 : k0_chk233 v747 v882), ∀ a x, ((![v747, v882] : Fin 2 → IVec S16 32) a x).toNat < S56x512.size a := fun v747 v882 k0_hw233 => k0_hw233
def k0_off237 (k0_t3 : Fin k0_t3_loop.trips) : Fin 2 → Nat :=
  let c0_i32_97 : BitVec 32 := 0#32
  let c1_i32_99 : BitVec 32 := 1#32
  let arg14 : BitVec 32 := Scf.iv c0_i32_97 c1_i32_99 k0_t3
  let c4_i32_250 : BitVec 32 := 4#32
  let v743 : BitVec 32 := Scalar.muli arg14 c4_i32_250
  let c3_i32_251 : BitVec 32 := 3#32
  let v744 : BitVec 32 := Scalar.addi v743 c3_i32_251
  let v884 : Index := Scalar.indexCast v744
  let c352_297 : Index := 352#32
  ![v884.toNat, 352]

def k0_chk234 (v747 : IVec S16 32) (v888 : IVec S16 32) : Prop :=
  (∀ a x, ((![v747, v888] : Fin 2 → IVec S16 32) a x).toNat < S56x512.size a)
theorem k0_idx234_inb : ∀ (v747 : IVec S16 32) (v888 : IVec S16 32) (k0_hw234 : k0_chk234 v747 v888), ∀ a x, ((![v747, v888] : Fin 2 → IVec S16 32) a x).toNat < S56x512.size a := fun v747 v888 k0_hw234 => k0_hw234
def k0_off238 (k0_t3 : Fin k0_t3_loop.trips) : Fin 2 → Nat :=
  let c0_i32_97 : BitVec 32 := 0#32
  let c1_i32_99 : BitVec 32 := 1#32
  let arg14 : BitVec 32 := Scf.iv c0_i32_97 c1_i32_99 k0_t3
  let c4_i32_250 : BitVec 32 := 4#32
  let v743 : BitVec 32 := Scalar.muli arg14 c4_i32_250
  let c3_i32_251 : BitVec 32 := 3#32
  let v744 : BitVec 32 := Scalar.addi v743 c3_i32_251
  let v890 : Index := Scalar.indexCast v744
  let c368_299 : Index := 368#32
  ![v890.toNat, 368]

def k0_chk235 (v747 : IVec S16 32) (v894 : IVec S16 32) : Prop :=
  (∀ a x, ((![v747, v894] : Fin 2 → IVec S16 32) a x).toNat < S56x512.size a)
theorem k0_idx235_inb : ∀ (v747 : IVec S16 32) (v894 : IVec S16 32) (k0_hw235 : k0_chk235 v747 v894), ∀ a x, ((![v747, v894] : Fin 2 → IVec S16 32) a x).toNat < S56x512.size a := fun v747 v894 k0_hw235 => k0_hw235
def k0_off239 (k0_t3 : Fin k0_t3_loop.trips) : Fin 2 → Nat :=
  let c0_i32_97 : BitVec 32 := 0#32
  let c1_i32_99 : BitVec 32 := 1#32
  let arg14 : BitVec 32 := Scf.iv c0_i32_97 c1_i32_99 k0_t3
  let c4_i32_250 : BitVec 32 := 4#32
  let v743 : BitVec 32 := Scalar.muli arg14 c4_i32_250
  let c3_i32_251 : BitVec 32 := 3#32
  let v744 : BitVec 32 := Scalar.addi v743 c3_i32_251
  let v896 : Index := Scalar.indexCast v744
  let c384_301 : Index := 384#32
  ![v896.toNat, 384]

def k0_chk236 (v747 : IVec S16 32) (v900 : IVec S16 32) : Prop :=
  (∀ a x, ((![v747, v900] : Fin 2 → IVec S16 32) a x).toNat < S56x512.size a)
theorem k0_idx236_inb : ∀ (v747 : IVec S16 32) (v900 : IVec S16 32) (k0_hw236 : k0_chk236 v747 v900), ∀ a x, ((![v747, v900] : Fin 2 → IVec S16 32) a x).toNat < S56x512.size a := fun v747 v900 k0_hw236 => k0_hw236
def k0_off240 (k0_t3 : Fin k0_t3_loop.trips) : Fin 2 → Nat :=
  let c0_i32_97 : BitVec 32 := 0#32
  let c1_i32_99 : BitVec 32 := 1#32
  let arg14 : BitVec 32 := Scf.iv c0_i32_97 c1_i32_99 k0_t3
  let c4_i32_250 : BitVec 32 := 4#32
  let v743 : BitVec 32 := Scalar.muli arg14 c4_i32_250
  let c3_i32_251 : BitVec 32 := 3#32
  let v744 : BitVec 32 := Scalar.addi v743 c3_i32_251
  let v902 : Index := Scalar.indexCast v744
  let c400_303 : Index := 400#32
  ![v902.toNat, 400]

def k0_chk237 (v747 : IVec S16 32) (v906 : IVec S16 32) : Prop :=
  (∀ a x, ((![v747, v906] : Fin 2 → IVec S16 32) a x).toNat < S56x512.size a)
theorem k0_idx237_inb : ∀ (v747 : IVec S16 32) (v906 : IVec S16 32) (k0_hw237 : k0_chk237 v747 v906), ∀ a x, ((![v747, v906] : Fin 2 → IVec S16 32) a x).toNat < S56x512.size a := fun v747 v906 k0_hw237 => k0_hw237
def k0_off241 (k0_t3 : Fin k0_t3_loop.trips) : Fin 2 → Nat :=
  let c0_i32_97 : BitVec 32 := 0#32
  let c1_i32_99 : BitVec 32 := 1#32
  let arg14 : BitVec 32 := Scf.iv c0_i32_97 c1_i32_99 k0_t3
  let c4_i32_250 : BitVec 32 := 4#32
  let v743 : BitVec 32 := Scalar.muli arg14 c4_i32_250
  let c3_i32_251 : BitVec 32 := 3#32
  let v744 : BitVec 32 := Scalar.addi v743 c3_i32_251
  let v908 : Index := Scalar.indexCast v744
  let c416_305 : Index := 416#32
  ![v908.toNat, 416]

def k0_chk238 (v747 : IVec S16 32) (v912 : IVec S16 32) : Prop :=
  (∀ a x, ((![v747, v912] : Fin 2 → IVec S16 32) a x).toNat < S56x512.size a)
theorem k0_idx238_inb : ∀ (v747 : IVec S16 32) (v912 : IVec S16 32) (k0_hw238 : k0_chk238 v747 v912), ∀ a x, ((![v747, v912] : Fin 2 → IVec S16 32) a x).toNat < S56x512.size a := fun v747 v912 k0_hw238 => k0_hw238
def k0_off242 (k0_t3 : Fin k0_t3_loop.trips) : Fin 2 → Nat :=
  let c0_i32_97 : BitVec 32 := 0#32
  let c1_i32_99 : BitVec 32 := 1#32
  let arg14 : BitVec 32 := Scf.iv c0_i32_97 c1_i32_99 k0_t3
  let c4_i32_250 : BitVec 32 := 4#32
  let v743 : BitVec 32 := Scalar.muli arg14 c4_i32_250
  let c3_i32_251 : BitVec 32 := 3#32
  let v744 : BitVec 32 := Scalar.addi v743 c3_i32_251
  let v914 : Index := Scalar.indexCast v744
  let c432_307 : Index := 432#32
  ![v914.toNat, 432]

def k0_chk239 (v747 : IVec S16 32) (v918 : IVec S16 32) : Prop :=
  (∀ a x, ((![v747, v918] : Fin 2 → IVec S16 32) a x).toNat < S56x512.size a)
theorem k0_idx239_inb : ∀ (v747 : IVec S16 32) (v918 : IVec S16 32) (k0_hw239 : k0_chk239 v747 v918), ∀ a x, ((![v747, v918] : Fin 2 → IVec S16 32) a x).toNat < S56x512.size a := fun v747 v918 k0_hw239 => k0_hw239
def k0_off243 (k0_t3 : Fin k0_t3_loop.trips) : Fin 2 → Nat :=
  let c0_i32_97 : BitVec 32 := 0#32
  let c1_i32_99 : BitVec 32 := 1#32
  let arg14 : BitVec 32 := Scf.iv c0_i32_97 c1_i32_99 k0_t3
  let c4_i32_250 : BitVec 32 := 4#32
  let v743 : BitVec 32 := Scalar.muli arg14 c4_i32_250
  let c3_i32_251 : BitVec 32 := 3#32
  let v744 : BitVec 32 := Scalar.addi v743 c3_i32_251
  let v920 : Index := Scalar.indexCast v744
  let c448_309 : Index := 448#32
  ![v920.toNat, 448]

def k0_chk240 (v747 : IVec S16 32) (v924 : IVec S16 32) : Prop :=
  (∀ a x, ((![v747, v924] : Fin 2 → IVec S16 32) a x).toNat < S56x512.size a)
theorem k0_idx240_inb : ∀ (v747 : IVec S16 32) (v924 : IVec S16 32) (k0_hw240 : k0_chk240 v747 v924), ∀ a x, ((![v747, v924] : Fin 2 → IVec S16 32) a x).toNat < S56x512.size a := fun v747 v924 k0_hw240 => k0_hw240
def k0_off244 (k0_t3 : Fin k0_t3_loop.trips) : Fin 2 → Nat :=
  let c0_i32_97 : BitVec 32 := 0#32
  let c1_i32_99 : BitVec 32 := 1#32
  let arg14 : BitVec 32 := Scf.iv c0_i32_97 c1_i32_99 k0_t3
  let c4_i32_250 : BitVec 32 := 4#32
  let v743 : BitVec 32 := Scalar.muli arg14 c4_i32_250
  let c3_i32_251 : BitVec 32 := 3#32
  let v744 : BitVec 32 := Scalar.addi v743 c3_i32_251
  let v926 : Index := Scalar.indexCast v744
  let c464_311 : Index := 464#32
  ![v926.toNat, 464]
def k0_cond4 (k0_t1 : Fin k0_t1_loop.trips) : BitVec 1 :=
  let c0_i32_12 : BitVec 32 := 0#32
  let c1_i32 : BitVec 32 := 1#32
  let arg12 : BitVec 32 := Scf.iv c0_i32_12 c1_i32 k0_t1
  let c19_i32_119 : BitVec 32 := 19#32
  let v185 : BitVec 1 := Scalar.cmpi .slt arg12 c19_i32_119
  let v186 : BitVec 32 := Scalar.extui v185
  let c0_i32_120 : BitVec 32 := 0#32
  let v187 : BitVec 1 := Scalar.cmpi .ne v186 c0_i32_120
  v187

def k0_off245 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32 : BitVec 32 := 4#32
  let v2 : BitVec 32 := Scalar.muli v1 c4_i32
  let c0_i32_12 : BitVec 32 := 0#32
  let c1_i32 : BitVec 32 := 1#32
  let arg12 : BitVec 32 := Scf.iv c0_i32_12 c1_i32 k0_t1
  let c2_i32_71 : BitVec 32 := 2#32
  let v108 : BitVec 32 := Scalar.muli arg12 c2_i32_71
  let c1_i32_72 : BitVec 32 := 1#32
  let v109 : BitVec 32 := Scalar.addi v108 c1_i32_72
  let c2_i32_122 : BitVec 32 := 2#32
  let v188 : BitVec 32 := Scalar.addi v109 c2_i32_122
  let c0_i32_124 : BitVec 32 := 0#32
  let v190 : BitVec 1 := Scalar.cmpi .sgt v188 c0_i32_124
  let v191 : BitVec 32 := Scalar.extui v190
  let c0_i32_125 : BitVec 32 := 0#32
  let v192 : BitVec 1 := Scalar.cmpi .slt v188 c0_i32_125
  let v193 : BitVec 32 := Scalar.extui v192
  let v194 : BitVec 32 := Scalar.subi v191 v193
  let c10_i32_123 : BitVec 32 := 10#32
  let c0_i32_126 : BitVec 32 := 0#32
  let v195 : BitVec 1 := Scalar.cmpi .sgt c10_i32_123 c0_i32_126
  let v196 : BitVec 32 := Scalar.extui v195
  let c0_i32_127 : BitVec 32 := 0#32
  let v197 : BitVec 1 := Scalar.cmpi .slt c10_i32_123 c0_i32_127
  let v198 : BitVec 32 := Scalar.extui v197
  let v199 : BitVec 32 := Scalar.subi v196 v198
  let v200 : BitVec 1 := Scalar.cmpi .ne v194 v199
  let v201 : BitVec 32 := Scalar.remsi v188 c10_i32_123
  let c0_i32_128 : BitVec 32 := 0#32
  let v202 : BitVec 1 := Scalar.cmpi .ne v201 c0_i32_128
  let v203 : BitVec 1 := Scalar.andi v200 v202
  let v189 : BitVec 32 := Scalar.divsi v188 c10_i32_123
  let c1_i32_129 : BitVec 32 := 1#32
  let v204 : BitVec 32 := Scalar.subi v189 c1_i32_129
  let v205 : BitVec 32 := Scalar.select v203 v204 v189
  let v206 : BitVec 32 := Scalar.addi v2 v205
  let c10_i32_132 : BitVec 32 := 10#32
  let c0_i32_133 : BitVec 32 := 0#32
  let v209 : BitVec 1 := Scalar.cmpi .eq c10_i32_132 c0_i32_133
  let c1_i32_134 : BitVec 32 := 1#32
  let v210 : BitVec 32 := Scalar.select v209 c1_i32_134 c10_i32_132
  let v211 : BitVec 32 := Scalar.remsi v188 v210
  let c0_i32_136 : BitVec 32 := 0#32
  let v213 : BitVec 1 := Scalar.cmpi .slt v211 c0_i32_136
  let c0_i32_137 : BitVec 32 := 0#32
  let v214 : BitVec 1 := Scalar.cmpi .slt v210 c0_i32_137
  let v215 : BitVec 1 := Scalar.xori v213 v214
  let c0_i32_135 : BitVec 32 := 0#32
  let v212 : BitVec 1 := Scalar.cmpi .ne v211 c0_i32_135
  let v216 : BitVec 1 := Scalar.andi v215 v212
  let v217 : BitVec 32 := Scalar.addi v211 v210
  let v218 : BitVec 32 := Scalar.select v216 v217 v211
  let c48_i32_138 : BitVec 32 := 48#32
  let v219 : BitVec 32 := Scalar.muli v218 c48_i32_138
  let c0_i32_139 : BitVec 32 := 0#32
  ![v206.toNat, v219.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S128x512x512 : Shape := ⟨3, ![128, 512, 512]⟩
abbrev S128x2 : Shape := ⟨2, ![128, 2]⟩
abbrev S128x1 : Shape := ⟨2, ![128, 1]⟩
abbrev S128 : Shape := ⟨1, ![128]⟩
abbrev S480 : Shape := ⟨1, ![480]⟩
abbrev S1x480 : Shape := ⟨2, ![1, 480]⟩
abbrev S128x480 : Shape := ⟨2, ![128, 480]⟩
abbrev S128x480x1 : Shape := ⟨3, ![128, 480, 1]⟩
abbrev S128x1x480 : Shape := ⟨3, ![128, 1, 480]⟩
abbrev S_ : Shape := ⟨0, ![]⟩
abbrev S128x480x480 : Shape := ⟨3, ![128, 480, 480]⟩
abbrev S128x480x480x1 : Shape := ⟨4, ![128, 480, 480, 1]⟩
abbrev S128x480x480x2 : Shape := ⟨4, ![128, 480, 480, 2]⟩

abbrev nBuf : Space → Nat
  | .hbm => 40
  | .vmem => 0
  | .smem => 0
  | _ => 0

abbrev bufTy : (tb : Table) → Fin (tcTables nBuf tb) → BufTy
  | .hbm, ⟨0, _⟩ => ⟨S128x512x512, .f32⟩
  | .hbm, ⟨1, _⟩ => ⟨S128x2, .i32⟩
  | .hbm, ⟨2, _⟩ => ⟨S128x1, .i32⟩
  | .hbm, ⟨3, _⟩ => ⟨S128, .i32⟩
  | .hbm, ⟨4, _⟩ => ⟨S480, .i32⟩
  | .hbm, ⟨5, _⟩ => ⟨S1x480, .i32⟩
  | .hbm, ⟨6, _⟩ => ⟨S128x1, .i32⟩
  | .hbm, ⟨7, _⟩ => ⟨S128x480, .i32⟩
  | .hbm, ⟨8, _⟩ => ⟨S128x480, .i32⟩
  | .hbm, ⟨9, _⟩ => ⟨S128x480, .i32⟩
  | .hbm, ⟨10, _⟩ => ⟨S128x1, .i32⟩
  | .hbm, ⟨11, _⟩ => ⟨S128, .i32⟩
  | .hbm, ⟨12, _⟩ => ⟨S480, .i32⟩
  | .hbm, ⟨13, _⟩ => ⟨S1x480, .i32⟩
  | .hbm, ⟨14, _⟩ => ⟨S128x1, .i32⟩
  | .hbm, ⟨15, _⟩ => ⟨S128x480, .i32⟩
  | .hbm, ⟨16, _⟩ => ⟨S128x480, .i32⟩
  | .hbm, ⟨17, _⟩ => ⟨S128x480, .i32⟩
  | .hbm, ⟨18, _⟩ => ⟨S128x480x1, .i32⟩
  | .hbm, ⟨19, _⟩ => ⟨S128x1x480, .i32⟩
  | .hbm, ⟨20, _⟩ => ⟨S_, .i32⟩
  | .hbm, ⟨21, _⟩ => ⟨S128x480x1, .i32⟩
  | .hbm, ⟨22, _⟩ => ⟨S128x480x1, .i1⟩
  | .hbm, ⟨23, _⟩ => ⟨S_, .i32⟩
  | .hbm, ⟨24, _⟩ => ⟨S128x480x1, .i32⟩
  | .hbm, ⟨25, _⟩ => ⟨S128x480x1, .i32⟩
  | .hbm, ⟨26, _⟩ => ⟨S128x480x1, .i32⟩
  | .hbm, ⟨27, _⟩ => ⟨S_, .i32⟩
  | .hbm, ⟨28, _⟩ => ⟨S128x1x480, .i32⟩
  | .hbm, ⟨29, _⟩ => ⟨S128x1x480, .i1⟩
  | .hbm, ⟨30, _⟩ => ⟨S_, .i32⟩
  | .hbm, ⟨31, _⟩ => ⟨S128x1x480, .i32⟩
  | .hbm, ⟨32, _⟩ => ⟨S128x1x480, .i32⟩
  | .hbm, ⟨33, _⟩ => ⟨S128x1x480, .i32⟩
  | .hbm, ⟨34, _⟩ => ⟨S128x480x480, .i32⟩
  | .hbm, ⟨35, _⟩ => ⟨S128x480x480, .i32⟩
  | .hbm, ⟨36, _⟩ => ⟨S128x480x480x1, .i32⟩
  | .hbm, ⟨37, _⟩ => ⟨S128x480x480x1, .i32⟩
  | .hbm, ⟨38, _⟩ => ⟨S128x480x480x2, .i32⟩
  | .hbm, ⟨39, _⟩ => ⟨S128x480x480, .f32⟩
  | _, _ => ⟨S128x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_c_0 : Ref sig .tc := ⟨.hbm, 20, rfl⟩
abbrev main_v18 : Ref sig .tc := ⟨.hbm, 21, rfl⟩
abbrev main_v19 : Ref sig .tc := ⟨.hbm, 22, rfl⟩
abbrev main_c_1 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_c_2 : Ref sig .tc := ⟨.hbm, 27, rfl⟩
abbrev main_v23 : Ref sig .tc := ⟨.hbm, 28, rfl⟩
abbrev main_v24 : Ref sig .tc := ⟨.hbm, 29, rfl⟩
abbrev main_c_3 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩

abbrev nD : Nat := 1
abbrev τ : Topo := Topo.v7x

variable {F : FTy → Type} [FloatOps F]
-- ==== Proof.Clean.lean ====
/-
  The kernel's row loop in a readable form: its 120 moves of sixteen lanes as one list, and what they leave.
-/
module

public import proofs.«01_k».proof.Defs
public import proofs.«01_k».proof.Proof.Gen.KernelIdeal
public import proofs.«01_k».proof.Proof.Gen.KernelIdeal.Skeleton
public import Idealize.ShloMosaic.Lib.Pipeline.Value
public import Idealize.ShloMosaic.Lib.WritesUnit

@[expose] public section

noncomputable section

namespace Cert.KernelIdeal.Tile

open Idealize.SL Idealize.SL.Sem Idealize.ShloMosaic
open Cert.KernelIdeal.Gen

variable {F : FTy → Type} [FloatOps F]

/-- The thread of the tile at grid point `i`. -/
abbrev proc (i : grid0.Coords) : Proc τ := .scVector ((i 0).castLE hcore0) ((i 1).castLE hsub0)

/-- The row that unit `u` of trip `t` of the shift loop writes, as the kernel's word. -/
def rowW (t : Fin k0_t2_loop.trips) (u : BitVec 32) : BitVec 32 :=
  Scalar.addi (Scalar.muli (Scf.iv 0#32 1#32 t) 4#32) u

/-- The vector of row indices that a gather of that row reads: the row moved down by the crop's offset `o`. -/
def rowV (o : BitVec 32) (t : Fin k0_t2_loop.trips) (u : BitVec 32) : IVec S16 32 :=
  addi (broadcast S16 (rowW t u)) (broadcast S16 o)

/-- The vector of column indices of the gather of the column group that starts at `b`. -/
def colV (v3 : IVec S16 32) (o : BitVec 32) (b : BitVec 32) : IVec S16 32 :=
  addi v3 (broadcast S16 (Scalar.addi o b))

/-- Where move `j` of trip `t` stores: row `4 t + j / 30`, columns from `16 (j % 30)`. -/
def dstOff (t : Fin k0_t2_loop.trips) (j : Nat) : Fin 2 → Nat :=
  ![(Scalar.indexCast (rowW t (BitVec.ofNat 32 (j / 30)))).toNat, 16 * (j % 30)]

/-- The row word of move `u` in trip `t` is row `4 t + u`. -/
theorem rowW_toNat (t : Fin k0_t2_loop.trips) (u : Nat) (hu : u < 4) :
    (rowW t (BitVec.ofNat 32 u)).toNat = 4 * t.val + u := by
  have : ∀ (t : Fin 12) (u : Fin 4), (rowW t (BitVec.ofNat 32 u.val)).toNat = 4 * t.val + u.val := by decide +kernel
  exact this t ⟨u, hu⟩

/-- Move `j` of trip `t` writes sixteen lanes of row `4 t + j / 30`, from column `16 (j % 30)`. -/
theorem dstOff_eq (t : Fin k0_t2_loop.trips) (j : Nat) (hj : j < 120) :
    dstOff t j = ![4 * t.val + j / 30, 16 * (j % 30)] := by
  have h := rowW_toNat t (j / 30) (by omega)
  unfold dstOff
  rw [← h]; rfl

/-- Those lanes lie inside the output block. -/
theorem dstOff_inb (t : Fin k0_t2_loop.trips) (j : Nat) (hj : j < 120) :
    ∀ a, dstOff t j a + S1x16.size a ≤ S48x480.size a := by
  rw [dstOff_eq t j hj]
  have ht : t.val < 12 := t.isLt
  intro a
  match a with
  | ⟨0, _⟩ => show 4 * t.val + j / 30 + 1 ≤ 48; omega
  | ⟨1, _⟩ => show 16 * (j % 30) + 16 ≤ 480; omega

/-- One move of sixteen elements: gather them from `src`, store them in `dst`. -/
def move (i : grid0.Coords) (src : Memref sig .scVector .vmem S56x512 .f32) (dst : Memref sig .scVector .vmem S48x480 .f32)
    (v3 : IVec S16 32) (o : BitVec 32) (t : Fin k0_t2_loop.trips) (j : Nat) (hj : j < 120) :
    Prog (TpuEff nD τ sig (Elt F) Λ₀ (proc i)) PUnit := do
  let hw := (← Prog.lift (TpuEff.assume (k0_chk1 (rowV o t (BitVec.ofNat 32 (j / 30))) (colV v3 o (BitVec.ofNat 32 (16 * (j % 30)))))
    (k0_chk1.dec _ _))).down
  let v : Vec F S16 .f32 ← SparseCore.vectorLoadIdx src ![rowV o t (BitVec.ofNat 32 (j / 30)), colV v3 o (BitVec.ofNat 32 (16 * (j % 30)))]
    (k0_idx1_inb _ _ hw) (View.loads_vmem h_S56x512)
  let _ ← Prog.lift (.load dst (Rect.unit (s := S48x480) (dstOff t j) S1x16.size (dstOff_inb t j hj)).toLoadRect (View.loadsAt_vmem h_S1x16))
  Prog.lift (.store dst (Rect.unit (s := S48x480) (dstOff t j) S1x16.size (dstOff_inb t j hj)) (shapeCast S1x16 v shapeCasts_S16_S1x16)
    Finset.univ (View.stores_vmem_bits_univ h_S1x16 rfl) (.inl rfl))

/-- The last `n` of a trip's 120 moves, in order. -/
def moves (i : grid0.Coords) (src : Memref sig .scVector .vmem S56x512 .f32) (dst : Memref sig .scVector .vmem S48x480 .f32)
    (v3 : IVec S16 32) (o : BitVec 32) (t : Fin k0_t2_loop.trips) : Nat → Prog (TpuEff nD τ sig (Elt F) Λ₀ (proc i)) (BitVec 32)
  | 0 => pure 0#32
  | n + 1 => do move i src dst v3 o t (119 - n) (by omega); moves i src dst v3 o t n

/-! ## What a trip's moves leave -/

/-- The first `n` elements of the output block, in row-major order, hold the window of the input block at offset `k`. -/
def Done {α : Type} (X : S56x512.Idx → α) (k n : Nat) (Y : S48x480.Idx → α) : Prop :=
  ∀ y : S48x480.Idx, 480 * (y 0).val + (y 1).val < n →
    ∀ x : S56x512.Idx, (x 0).val = (y 0).val + k → (x 1).val = (y 1).val + k → Y y = X x

/-- Before the first move nothing is asked. -/
theorem Done.zero {α : Type} (X : S56x512.Idx → α) (k : Nat) (Y : S48x480.Idx → α) : Done X k 0 Y :=
  fun _ h => absurd h (Nat.not_lt_zero _)

/-- The lanes' numbers, which the kernel adds to a column group's start. -/
abbrev lanes : IVec S16 32 := iota .scVector S16 32 [0] iota_S16_d0_w32_scVector

/-- The row read by move `u` of trip `t`, at offset `k`. -/
theorem rowV_toNat (o : BitVec 32) (k : Nat) (hk : k ≤ 2) (ho : o = BitVec.ofNat 32 k) (t : Fin k0_t2_loop.trips) (u : Nat) (hu : u < 4)
    (l : S16.Idx) : (rowV o t (BitVec.ofNat 32 u) l).toNat = 4 * t.val + u + k := by
  have ht : t.val < 12 := t.isLt
  show (rowW t (BitVec.ofNat 32 u) + o).toNat = _
  subst ho
  rw [BitVec.toNat_add, rowW_toNat t u hu, BitVec.toNat_ofNat]
  omega

/-- The column read by lane `l` of the move whose columns start at `b`, at offset `k`. -/
theorem colV_toNat (o : BitVec 32) (k : Nat) (hk : k ≤ 2) (ho : o = BitVec.ofNat 32 k) (b : Nat) (hb : b ≤ 464)
    (l : S16.Idx) : (colV lanes o (BitVec.ofNat 32 b) l).toNat = b + (l 0).val + k := by
  have hl : (l 0).val < 16 := (l 0).isLt
  show (lanes l + (o + BitVec.ofNat 32 b)).toNat = _
  subst ho
  have h : lanes l = BitVec.ofNat 32 (l 0).val := iota_single_apply _ _ _ _ _ _
  rw [h]
  simp only [BitVec.toNat_add, BitVec.toNat_ofNat]
  omega

/-- The indices of a move's gather are inside the input block. -/
theorem move_chk (o : BitVec 32) (k : Nat) (hk : k ≤ 2) (ho : o = BitVec.ofNat 32 k) (t : Fin k0_t2_loop.trips) (j : Nat) (hj : j < 120) :
    k0_chk1 (rowV o t (BitVec.ofNat 32 (j / 30))) (colV lanes o (BitVec.ofNat 32 (16 * (j % 30)))) := by
  have ht : t.val < 12 := t.isLt
  intro a x
  match a with
  | ⟨0, _⟩ =>
    show (rowV o t (BitVec.ofNat 32 (j / 30)) x).toNat < 56
    rw [rowV_toNat o k hk ho t _ (by omega)]; omega
  | ⟨1, _⟩ =>
    have hl : (x 0).val < 16 := (x 0).isLt
    show (colV lanes o (BitVec.ofNat 32 (16 * (j % 30))) x).toNat < 512
    rw [colV_toNat o k hk ho _ (by omega)]; omega

/-- A move carries the progress sixteen elements on. -/
theorem Done.move {sp : Space} (v : View sig .scVector sp S48x480 .f32) (g : v.ty.Contents (Elt F)) (X : Vec F S56x512 .f32)
    (o : BitVec 32) (k : Nat) (hk : k ≤ 2) (ho : o = BitVec.ofNat 32 k) (t : Fin k0_t2_loop.trips) (j : Nat) (hj : j < 120)
    (hc : k0_chk1 (rowV o t (BitVec.ofNat 32 (j / 30))) (colV lanes o (BitVec.ofNat 32 (16 * (j % 30)))))
    (h : Done X k (1920 * t.val + 16 * j) (v.read (Elt F) g)) :
    Done X k (1920 * t.val + 16 * (j + 1)) (v.read (Elt F) (v.writes (Elt F) g
      [⟨Rect.unit (s := S48x480) (dstOff t j) S1x16.size (dstOff_inb t j hj),
        shapeCast S1x16 (loadIdx X ![rowV o t (BitVec.ofNat 32 (j / 30)), colV lanes o (BitVec.ofNat 32 (16 * (j % 30)))]
          (k0_idx1_inb _ _ hc)) shapeCasts_S16_S1x16⟩])) := by
  have ht : t.val < 12 := t.isLt
  intro y hy x hx0 hx1
  have hy0 : (y 0).val < 48 := (y 0).isLt
  have hy1 : (y 1).val < 480 := (y 1).isLt
  by_cases hin : 1920 * t.val + 16 * j ≤ 480 * (y 0).val + (y 1).val
  · -- one of the sixteen
    have e0 : (y 0).val = 4 * t.val + j / 30 := by omega
    have e1 : 16 * (j % 30) ≤ (y 1).val ∧ (y 1).val < 16 * (j % 30) + 16 := by omega
    let z : S1x16.Idx := fun a => match a with
      | ⟨0, _⟩ => ⟨0, Nat.one_pos⟩
      | ⟨1, _⟩ => ⟨(y 1).val - 16 * (j % 30), by show _ < 16; omega⟩
    rw [View.read_writes_cons_unit_of_mem v g (dstOff_inb t j hj) _ [] y z (dstOff_eq t j hj) (fun a => by
      match a with
      | ⟨0, _⟩ => show (y 0).val = 4 * t.val + j / 30 + 0; omega
      | ⟨1, _⟩ => show (y 1).val = 16 * (j % 30) + ((y 1).val - 16 * (j % 30)); omega)]
    refine (shapeCast_addUnit_apply ![16] _ shapeCasts_S16_S1x16 z).trans ?_
    show X _ = X x
    congr 1
    funext a
    apply Fin.ext
    match a with
    | ⟨0, _⟩ =>
      show (rowV o t (BitVec.ofNat 32 (j / 30)) _).toNat = (x 0).val
      refine (rowV_toNat o k hk ho t (j / 30) (by omega) _).trans ?_; omega
    | ⟨1, _⟩ =>
      show (colV lanes o (BitVec.ofNat 32 (16 * (j % 30))) _).toNat = (x 1).val
      refine (colV_toNat o k hk ho (16 * (j % 30)) (by omega) _).trans ?_
      show 16 * (j % 30) + ((y 1).val - 16 * (j % 30)) + k = (x 1).val
      omega
  · -- an element stored before
    have hmiss : v.read (Elt F) (v.writes (Elt F) g
      [⟨Rect.unit (s := S48x480) (dstOff t j) S1x16.size (dstOff_inb t j hj),
        shapeCast S1x16 (loadIdx X ![rowV o t (BitVec.ofNat 32 (j / 30)), colV lanes o (BitVec.ofNat 32 (16 * (j % 30)))]
          (k0_idx1_inb _ _ hc)) shapeCasts_S16_S1x16⟩]) y = v.read (Elt F) g y := by
      by_cases e0 : (y 0).val = 4 * t.val + j / 30
      · exact View.read_writes_cons_unit_of_not_mem v g (dstOff_inb t j hj) _ [] y (dstOff_eq t j hj) 1
          (Or.inl (by show (y 1).val < 16 * (j % 30); omega))
      · refine View.read_writes_cons_unit_of_not_mem v g (dstOff_inb t j hj) _ [] y (dstOff_eq t j hj) 0 (Or.inl ?_)
        show (y 0).val < 4 * t.val + j / 30
        omega
    rw [hmiss]
    exact h y (by omega) x hx0 hx1

/-! ## The program, its parts named

The printed body repeats one step for the two buffer pairs, each with its 120 moves written out and cut in parts. Here
the step is written once, over the pair it works on, and the printed body is shown to be it by unfolding. -/

/-- The block of 56 rows of the operand at `off`. -/
abbrev xWin (arg2 : Memref sig .scVector .hbm S128x512x512 .f32) (off : Fin 3 → Nat)
    (inb : ∀ a, off a + S1x56x512.size a ≤ S128x512x512.size a) : Memref sig .scVector .hbm S56x512 .f32 :=
  (arg2.slice (Rect.unit (s := S128x512x512) off S1x56x512.size inb) (fun _ => rfl)).squeeze S56x512 squeezes_S1x56x512_S56x512

/-- The block of 48 rows of the result at `off`. -/
abbrev oWin (arg3 : Memref sig .scVector .hbm S128x480x480 .f32) (off : Fin 3 → Nat)
    (inb : ∀ a, off a + S1x48x480.size a ≤ S128x480x480.size a) : Memref sig .scVector .hbm S48x480 .f32 :=
  (arg3.slice (Rect.unit (s := S128x480x480) off S1x48x480.size inb) (fun _ => rfl)).squeeze S48x480 squeezes_S1x48x480_S48x480

/-- The start of a copy into an input buffer. -/
def startIn (i : grid0.Coords) (arg2 : Memref sig .scVector .hbm S128x512x512 .f32)
    (src : Memref sig .scVector .vmem S56x512 .f32) (hsrc : src.IsWhole) (isem : DmaSems sig S_) (off : Fin 3 → Nat)
    (inb : ∀ a, off a + S1x56x512.size a ≤ S128x512x512.size a) : Prog (TpuEff nD τ sig (Elt F) Λ₀ (proc i)) PUnit :=
  Prog.lift (.enqueueDma (xWin arg2 off inb) (.here src) (.dma isem.sem) ((View.wordExact_bits rfl).reshape _ _) hsrc.wordExact
    ⟨Or.inl rfl, trivial⟩)

/-- The wait for a copy out of an output buffer. -/
def waitOut (i : grid0.Coords) (arg3 : Memref sig .scVector .hbm S128x480x480 .f32)
    (dst : Memref sig .scVector .vmem S48x480 .f32) (hdst : dst.IsWhole) (osem : DmaSems sig S_) :
    Prog (TpuEff nD τ sig (Elt F) Λ₀ (proc i)) PUnit :=
  Prog.lift (.waitDma2 osem.sem dst (oWin arg3 ![0, 0, 0] inb_S128x480x480_S1x48x480_0_0_0) hdst.wordExact ((View.wordExact_bits rfl).reshape _ _))

/-- One item: wait for the block, wait for the output buffer's last copy (not at the first trip), shift the block, start
    the copy of the result out, start the copy of the block after the next in (not at the last trip). -/
def item (i : grid0.Coords) (arg2 : Memref sig .scVector .hbm S128x512x512 .f32) (arg3 : Memref sig .scVector .hbm S128x480x480 .f32)
    (src : Memref sig .scVector .vmem S56x512 .f32) (hsrc : src.IsWhole) (dst : Memref sig .scVector .vmem S48x480 .f32) (hdst : dst.IsWhole)
    (isem osem : DmaSems sig S_) (later : BitVec 1) (o : BitVec 32)
    (outOff : Fin 3 → Nat) (outInb : ∀ a, outOff a + S1x48x480.size a ≤ S128x480x480.size a)
    (more : BitVec 1) (inOff : Fin 3 → Nat) (inInb : more = 1#1 → ∀ a, inOff a + S1x56x512.size a ≤ S128x512x512.size a) :
    Prog (TpuEff nD τ sig (Elt F) Λ₀ (proc i)) PUnit := do
  Prog.lift (.waitDma2 isem.sem (xWin arg2 ![0, 0, 0] inb_S128x512x512_S1x56x512_0_0_0) src ((View.wordExact_bits rfl).reshape _ _) hsrc.wordExact)
  if _h : later = 1#1 then do
    waitOut i arg3 dst hdst osem
    pure ⟨⟩
  else do
    pure ⟨⟩
  let _ ← Scf.Loop.for k0_t2_loop k0_t2_ok 0#32 (fun t _ => moves i src dst lanes o t 120)
  Prog.lift (.enqueueDma dst (.here (oWin arg3 outOff outInb)) (.dma osem.sem) hdst.wordExact ((View.wordExact_bits rfl).reshape _ _) ⟨Or.inl rfl, trivial⟩)
  if h : more = 1#1 then do
    startIn i arg2 src hsrc isem inOff (inInb h)
    pure ⟨⟩
  else do
    pure ⟨⟩

/-- The tile's first image, as the kernel's word. -/
def baseW (i : grid0.Coords) : BitVec 32 :=
  Scalar.muli (Scalar.addi (Scalar.muli (BitVec.ofNat 32 (i 1).val) 2#32) (BitVec.ofNat 32 (i 0).val)) 4#32

/-- The image of item `t`, as the kernel's word: the tile's first and the quotient of `t` by 10, rounded down. -/
def imgW (i : grid0.Coords) (t : BitVec 32) : BitVec 32 :=
  Scalar.addi (baseW i) (Scalar.select
    (Scalar.andi
      (Scalar.cmpi .ne
        (Scalar.subi (Scalar.extui (Scalar.cmpi .sgt t 0#32) : BitVec 32) (Scalar.extui (Scalar.cmpi .slt t 0#32)))
        (Scalar.subi (Scalar.extui (Scalar.cmpi .sgt 10#32 0#32)) (Scalar.extui (Scalar.cmpi .slt 10#32 0#32))))
      (Scalar.cmpi .ne (Scalar.remsi t 10#32) 0#32))
    (Scalar.subi (Scalar.divsi t 10#32) 1#32) (Scalar.divsi t 10#32))

/-- The crop's offset in item `t`, as the kernel's word. -/
def offW (i : grid0.Coords) (t : BitVec 32) : BitVec 32 := Scalar.subi 2#32 (Scalar.remsi (imgW i t) 3#32)

/-- Item `2 k + b` of trip `k`, as the kernel's word. -/
def itemW (k : Fin k0_t1_loop.trips) (b : BitVec 32) : BitVec 32 := Scalar.addi (Scalar.muli (Scf.iv 0#32 1#32 k) 2#32) b

/-- Whether a trip is not the first. -/
def laterW (k : Fin k0_t1_loop.trips) : BitVec 1 :=
  Scalar.cmpi .ne (Scalar.extui (Scalar.cmpi .sge (Scf.iv 0#32 1#32 k) 1#32) : BitVec 32) 0#32

/-- One trip: an item on each buffer pair. -/
def trip (i : grid0.Coords) (arg2 : Memref sig .scVector .hbm S128x512x512 .f32) (harg2 : arg2.IsWhole) (arg3 : Memref sig .scVector .hbm S128x480x480 .f32) (harg3 : arg3.IsWhole) (arg4 : Memref sig .scVector .vmem S56x512 .f32) (harg4 : arg4.IsWhole) (arg5 : Memref sig .scVector .vmem S56x512 .f32) (harg5 : arg5.IsWhole) (arg6 : Memref sig .scVector .vmem S48x480 .f32) (harg6 : arg6.IsWhole) (arg7 : Memref sig .scVector .vmem S48x480 .f32) (harg7 : arg7.IsWhole) (arg8 : DmaSems sig S_) (arg9 : DmaSems sig S_) (arg10 : DmaSems sig S_) (arg11 : DmaSems sig S_) (k : Fin k0_t1_loop.trips) : Prog (TpuEff nD τ sig (Elt F) Λ₀ (proc i)) (BitVec 32) := do
  item i arg2 arg3 arg4 harg4 arg6 harg6 arg8 arg10 (laterW k) (offW i (itemW k 0#32)) (k0_off123 i k 0#32) (k0_off123_inb i k 0)
    (k0_cond2 k) (k0_off124 i k) (k0_off124_inb i k)
  item i arg2 arg3 arg5 harg5 arg7 harg7 arg9 arg11 (laterW k) (offW i (itemW k 1#32)) (k0_off123 i k 1#32) (k0_off123_inb i k 1)
    (k0_cond4 k) (k0_off245 i k) (k0_off245_inb i k)
  pure 0#32

/-- The tile's whole program. -/
def tile (i : grid0.Coords) (arg2 : Memref sig .scVector .hbm S128x512x512 .f32) (harg2 : arg2.IsWhole) (arg3 : Memref sig .scVector .hbm S128x480x480 .f32) (harg3 : arg3.IsWhole) (arg4 : Memref sig .scVector .vmem S56x512 .f32) (harg4 : arg4.IsWhole) (arg5 : Memref sig .scVector .vmem S56x512 .f32) (harg5 : arg5.IsWhole) (arg6 : Memref sig .scVector .vmem S48x480 .f32) (harg6 : arg6.IsWhole) (arg7 : Memref sig .scVector .vmem S48x480 .f32) (harg7 : arg7.IsWhole) (arg8 : DmaSems sig S_) (arg9 : DmaSems sig S_) (arg10 : DmaSems sig S_) (arg11 : DmaSems sig S_) : Prog (TpuEff nD τ sig (Elt F) Λ₀ (proc i)) PUnit := do
  startIn i arg2 arg4 harg4 arg8 (k0_off1 i) (k0_off1_inb i)
  startIn i arg2 arg5 harg5 arg9 (k0_off2 i) (k0_off2_inb i)
  let _ ← Scf.Loop.for k0_t1_loop k0_t1_ok 0#32 (fun k _ => trip i arg2 harg2 arg3 harg3 arg4 harg4 arg5 harg5 arg6 harg6 arg7 harg7 arg8 arg9 arg10 arg11 k)
  waitOut i arg3 arg6 harg6 arg10
  waitOut i arg3 arg7 harg7 arg11
  pure ⟨⟩

set_option maxRecDepth 100000 in
set_option maxHeartbeats 4000000 in
/-- A trip of the printed shift loop of the first buffer pair is its 120 moves. -/
theorem t2_body_eq (i : grid0.Coords) (arg2 : Memref sig .scVector .hbm S128x512x512 .f32) (harg2 : arg2.IsWhole) (arg3 : Memref sig .scVector .hbm S128x480x480 .f32) (harg3 : arg3.IsWhole) (arg4 : Memref sig .scVector .vmem S56x512 .f32) (harg4 : arg4.IsWhole) (arg5 : Memref sig .scVector .vmem S56x512 .f32) (harg5 : arg5.IsWhole) (arg6 : Memref sig .scVector .vmem S48x480 .f32) (harg6 : arg6.IsWhole) (arg7 : Memref sig .scVector .vmem S48x480 .f32) (harg7 : arg7.IsWhole) (arg8 : DmaSems sig S_) (arg9 : DmaSems sig S_) (arg10 : DmaSems sig S_) (arg11 : DmaSems sig S_)
    (v2 : BitVec 32) (v3 : IVec S16 32) (v29 : BitVec 32) (v56 : BitVec 32) (v58 : BitVec 32) (v59 : BitVec 32) (v60 : BitVec 1) (v61 : BitVec 1) :
    k0_t2_body (F := F) i arg2 harg2 arg3 harg3 arg4 harg4 arg5 harg5 arg6 harg6 arg7 harg7 arg8 arg9 arg10 arg11 v2 v3 v29 v56 v58 v59 v60 v61
      = fun t _ => moves i arg4 arg6 v3 v56 t 120 := rfl

set_option maxRecDepth 100000 in
set_option maxHeartbeats 4000000 in
/-- A trip of the printed shift loop of the second buffer pair is its 120 moves. -/
theorem t3_body_eq (i : grid0.Coords) (arg2 : Memref sig .scVector .hbm S128x512x512 .f32) (harg2 : arg2.IsWhole) (arg3 : Memref sig .scVector .hbm S128x480x480 .f32) (harg3 : arg3.IsWhole) (arg4 : Memref sig .scVector .vmem S56x512 .f32) (harg4 : arg4.IsWhole) (arg5 : Memref sig .scVector .vmem S56x512 .f32) (harg5 : arg5.IsWhole) (arg6 : Memref sig .scVector .vmem S48x480 .f32) (harg6 : arg6.IsWhole) (arg7 : Memref sig .scVector .vmem S48x480 .f32) (harg7 : arg7.IsWhole) (arg8 : DmaSems sig S_) (arg9 : DmaSems sig S_) (arg10 : DmaSems sig S_) (arg11 : DmaSems sig S_)
    (v2 : BitVec 32) (v3 : IVec S16 32) (v109 : BitVec 32) (v134 : BitVec 32) :
    k0_t3_body (F := F) i arg2 harg2 arg3 harg3 arg4 harg4 arg5 harg5 arg6 harg6 arg7 harg7 arg8 arg9 arg10 arg11 v2 v3 v109 v134 (Scalar.subi 2#32 (Scalar.remsi v134 3#32))
      = fun t _ => moves i arg5 arg7 v3 (Scalar.subi 2#32 (Scalar.remsi v134 3#32)) t 120 := rfl

set_option maxRecDepth 100000 in
set_option maxHeartbeats 4000000 in
/-- A printed trip is `trip`. -/
theorem t1_body_eq (i : grid0.Coords) (arg2 : Memref sig .scVector .hbm S128x512x512 .f32) (harg2 : arg2.IsWhole) (arg3 : Memref sig .scVector .hbm S128x480x480 .f32) (harg3 : arg3.IsWhole) (arg4 : Memref sig .scVector .vmem S56x512 .f32) (harg4 : arg4.IsWhole) (arg5 : Memref sig .scVector .vmem S56x512 .f32) (harg5 : arg5.IsWhole) (arg6 : Memref sig .scVector .vmem S48x480 .f32) (harg6 : arg6.IsWhole) (arg7 : Memref sig .scVector .vmem S48x480 .f32) (harg7 : arg7.IsWhole) (arg8 : DmaSems sig S_) (arg9 : DmaSems sig S_) (arg10 : DmaSems sig S_) (arg11 : DmaSems sig S_) :
    k0_t1_body (F := F) i arg2 harg2 arg3 harg3 arg4 harg4 arg5 harg5 arg6 harg6 arg7 harg7 arg8 arg9 arg10 arg11 (baseW i) lanes
      = fun k _ => trip i arg2 harg2 arg3 harg3 arg4 harg4 arg5 harg5 arg6 harg6 arg7 harg7 arg8 arg9 arg10 arg11 k := by
  funext k w
  unfold k0_t1_body
  rw [k0_part45_eq_skeleton, k0_part46_eq_skeleton, k0_part47_eq_skeleton, k0_part48_eq_skeleton]
  unfold k0_part45_skel k0_part46_skel k0_part47_skel k0_part48_skel trip item
  simp only [t2_body_eq, t3_body_eq]
  by_cases h1 : laterW k = 1#1 <;> by_cases h2 : k0_cond2 k = 1#1 <;> by_cases h4 : k0_cond4 k = 1#1 <;>
    simp only [h1, h2, h4, ↓reduceDIte, Prog.bind_assoc, Prog.lift, startIn, waitOut, Prog.bind_op, Prog.bind_ret, Prog.pure_eq_ret] <;>
    unfold laterW at h1 <;>
    simp only [h1, ↓reduceDIte, Prog.bind_assoc, Prog.bind_op, Prog.bind_ret] <;> rfl

set_option maxRecDepth 100000 in
set_option maxHeartbeats 4000000 in
/-- The printed body is `tile`. -/
theorem body_eq (i : grid0.Coords) (arg2 : Memref sig .scVector .hbm S128x512x512 .f32) (harg2 : arg2.IsWhole) (arg3 : Memref sig .scVector .hbm S128x480x480 .f32) (harg3 : arg3.IsWhole) (arg4 : Memref sig .scVector .vmem S56x512 .f32) (harg4 : arg4.IsWhole) (arg5 : Memref sig .scVector .vmem S56x512 .f32) (harg5 : arg5.IsWhole) (arg6 : Memref sig .scVector .vmem S48x480 .f32) (harg6 : arg6.IsWhole) (arg7 : Memref sig .scVector .vmem S48x480 .f32) (harg7 : arg7.IsWhole) (arg8 : DmaSems sig S_) (arg9 : DmaSems sig S_) (arg10 : DmaSems sig S_) (arg11 : DmaSems sig S_) :
    cc0_body (F := F) i arg2 harg2 arg3 harg3 arg4 harg4 arg5 harg5 arg6 harg6 arg7 harg7 arg8 arg9 arg10 arg11 = tile i arg2 harg2 arg3 harg3 arg4 harg4 arg5 harg5 arg6 harg6 arg7 harg7 arg8 arg9 arg10 arg11 := by
  rw [cc0_body_eq_skeleton]
  unfold cc0_body_skel
  rw [k0_part49_eq_skeleton]
  unfold k0_part49_skel tile
  rw [← t1_body_eq]
  simp only [Prog.bind_assoc, Prog.lift, startIn, waitOut, Prog.bind_op, Prog.bind_ret, Prog.pure_eq_ret]
  rfl

end Cert.KernelIdeal.Tile

end
-- ==== Proof.Setup.lean ====
/-
  What the proof's modules share: the program as the launch theorem sees it, the resource algebra, the arrays.
-/
module

public import proofs.«01_k».proof.Proof.Clean
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic

@[expose] public section

noncomputable section

namespace Cert.KernelIdeal.Tile

open Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-- The labels, definitions, launch configuration and variants, with no pipelined region. -/
abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The launch configuration is well formed. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The resource algebra: the handshakes' rounds, and the counters of the local copies. -/
abbrev UH : Type := URounds (GSem nD τ sig) ℕ
abbrev UU : Type := UH × Counters

local notation "𝕄" => MT nD τ sig (HIx 1) (Elt F) ℕ UU ℕ

/-- The handshakes' rounds are the left factor; the copies' counters the right. -/
abbrev EH : Emb UH (MT nD τ sig (HIx 1) (Elt F) ℕ UU ℕ) := embL
/-- Where the counters lie in it. -/
abbrev EC : UEmb Counters (MT nD τ sig (HIx 1) (Elt F) ℕ UU ℕ) := countersEmb

/-- The operand and the result, as the TensorCore and as a tile address them. -/
abbrev xLoc (d : Dev nD) : Loc nD τ sig := (SparseCore.T d).loc main_arg0
abbrev oLoc (d : Dev nD) : Loc nD τ sig := (SparseCore.T d).loc main_v0
/-- The operand and the result as a tile sees them. -/
abbrev xV : Memref sig .scVector .hbm S128x512x512 .f32 := Memref.whole main_arg0_scv
abbrev oV : Memref sig .scVector .hbm S128x480x480 .f32 := Memref.whole main_v0_scv

/-- The thread of the tile at coordinates `i`. -/
abbrev thr (d : Dev nD) (i : grid0.Coords) : Thread nD τ := V d ((i 0).castLE hcore0) ((i 1).castLE hsub0)

end Cert.KernelIdeal.Tile

end
-- ==== Proof.Shift.lean ====
/-
  The shift of one block: a trip's 120 moves, and the loop of twelve trips.
-/
module

public import proofs.«01_k».proof.Proof.Setup

@[expose] public section

noncomputable section

namespace Cert.KernelIdeal.Tile

open Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

/-- Reading through a memref's whole rectangle is reading the memref. -/
theorem read_whole {sp : Space} {s : Shape} {e : EltTy} (b : Memref sig .scVector sp s e) (f : b.view.ty.Contents (Elt F)) :
    (b.access (.whole s)).read (Elt F) f = b.view.read (Elt F) f := by
  funext x
  show b.view.read (Elt F) f ((Rect.whole s).emb x) = _
  congr 1
  funext a
  apply Fin.ext
  show 0 + 1 * (x a).val = (x a).val
  omega

section

variable (d : Dev nD) (i : grid0.Coords) (src : Memref sig .scVector .vmem S56x512 .f32) (dst : Memref sig .scVector .vmem S48x480 .f32)

/-- One move: the gather's indices are in range, and the store carries the progress on. -/
theorem wp_move (o : BitVec 32) (k : Nat) (hk : k ≤ 2) (ho : o = BitVec.ofNat 32 k) (t : Fin k0_t2_loop.trips) (j : Nat) (hj : j < 120)
    {β : Type} (kk : PUnit → Prog (TpuEff nD τ sig (Elt F) Λ₀ (proc i)) β) (Q : β → sProp 𝕄)
    (f : Buf (Elt F) (src.view.loc (thr d i))) :
    iprop((src.view.loc (thr d i) ↦{fullShare} f)
        ∗ (∃ g, ⌜Done (src.view.read (Elt F) f) k (1920 * t.val + 16 * j) (dst.view.read (Elt F) g)⌝ ∗ dst.view.loc (thr d i) ↦{fullShare} g))
      ⊢ iprop(((src.view.loc (thr d i) ↦{fullShare} f)
          ∗ (∃ g, ⌜Done (src.view.read (Elt F) f) k (1920 * t.val + 16 * (j + 1)) (dst.view.read (Elt F) g)⌝ ∗ dst.view.loc (thr d i) ↦{fullShare} g)
          -∗ wp frame (wpE (defs₀ (F := F)) 𝒱₀ (thr d i) none) Set.univ (kk ⟨⟩) Q)
        -∗ wp frame (wpE (defs₀ (F := F)) 𝒱₀ (thr d i) none) Set.univ (move i src dst lanes o t j hj >>= kk) Q) := by
  have hc := move_chk o k hk ho t j hj
  unfold move
  simp only [Prog.lift, Prog.bind_op, Prog.bind_ret, Prog.bind_assoc, Prog.pure_eq_ret]
  iintro ⟨Hs, %g, %hg, Hd⟩ HK
  rw [wp_assume_of 𝒱₀ (thr d i) none Set.univ hc]
  iapply (SparseCore.wp_vectorLoadIdx 𝒱₀ (thr d i) none Set.univ (base := src) (S := Finset.univ) (q := fullShare) (Finset.subset_univ _)) $$ Hs
  iintro Hs
  rw [read_whole]
  iapply (wp_load 𝒱₀ (thr d i) none Set.univ (m := dst) (S := Finset.univ) (Finset.subset_univ _)) $$ Hd
  iintro Hd
  iapply (wp_store_writes₀ 𝒱₀ (thr d i) none Set.univ (m := dst) (S := Finset.univ)
    (r := Rect.unit (s := S48x480) (dstOff t j) S1x16.size (dstOff_inb t j hj)) (f := g) (Finset.subset_univ _)) $$ Hd
  iintro Hd
  iapply HK
  isplitl [Hs]; · iexact Hs
  iexists _
  isplitr
  · ipureintro
    exact Done.move dst.view g _ o k hk ho t j hj hc hg
  · iexact Hd

/-- The last `n` moves of a trip. -/
theorem wp_moves (o : BitVec 32) (k : Nat) (hk : k ≤ 2) (ho : o = BitVec.ofNat 32 k) (t : Fin k0_t2_loop.trips)
    (f : Buf (Elt F) (src.view.loc (thr d i))) (n : Nat) (hn : n ≤ 120) :
    iprop((src.view.loc (thr d i) ↦{fullShare} f)
        ∗ (∃ g, ⌜Done (src.view.read (Elt F) f) k (1920 * t.val + 16 * (120 - n)) (dst.view.read (Elt F) g)⌝ ∗ dst.view.loc (thr d i) ↦{fullShare} g))
      ⊢ wp frame (wpE (defs₀ (F := F)) 𝒱₀ (thr d i) none) Set.univ (moves i src dst lanes o t n)
          fun _ => (iprop((src.view.loc (thr d i) ↦{fullShare} f)
            ∗ (∃ g, ⌜Done (src.view.read (Elt F) f) k (1920 * (t.val + 1)) (dst.view.read (Elt F) g)⌝ ∗ dst.view.loc (thr d i) ↦{fullShare} g)) : sProp 𝕄) := by
  induction n with
  | zero =>
    rw [show 1920 * t.val + 16 * (120 - 0) = 1920 * (t.val + 1) by omega]
    show _ ⊢ wp _ _ _ (Prog.ret 0#32) _
    rw [wp_ret]
    iintro H
    imodintro
    iexact H
  | succ n ih =>
    show _ ⊢ wp _ _ _ (move i src dst lanes o t (119 - n) (by omega) >>= fun _ => moves i src dst lanes o t n) _
    have e : 119 - n = 120 - (n + 1) := by omega
    iintro H
    iapply (wp_move d i src dst o k hk ho t (119 - n) _ _ _ f) $$ [H]
    · rw [e]; iexact H
    rw [show 119 - n + 1 = 120 - n by omega]
    iintro H
    iapply (ih (by omega))
    iexact H

set_option maxRecDepth 100000 in
/-- The loop of twelve trips shifts the whole block: afterwards the output buffer holds the window at offset `k`. -/
theorem wp_shift (o : BitVec 32) (k : Nat) (hk : k ≤ 2) (ho : o = BitVec.ofNat 32 k)
    {β : Type} (kk : BitVec 32 → Prog (TpuEff nD τ sig (Elt F) Λ₀ (proc i)) β) (Q : β → sProp 𝕄)
    (f : Buf (Elt F) (src.view.loc (thr d i))) (g : Buf (Elt F) (dst.view.loc (thr d i))) :
    iprop((src.view.loc (thr d i) ↦{fullShare} f) ∗ (dst.view.loc (thr d i) ↦{fullShare} g))
      ⊢ iprop((∀ w, (src.view.loc (thr d i) ↦{fullShare} f)
          ∗ (∃ g, ⌜Done (src.view.read (Elt F) f) k 23040 (dst.view.read (Elt F) g)⌝ ∗ dst.view.loc (thr d i) ↦{fullShare} g)
          -∗ wp frame (wpE (defs₀ (F := F)) 𝒱₀ (thr d i) none) Set.univ (kk w) Q)
        -∗ wp frame (wpE (defs₀ (F := F)) 𝒱₀ (thr d i) none) Set.univ
            (Scf.Loop.for k0_t2_loop k0_t2_ok 0#32 (fun t _ => moves i src dst lanes o t 120) >>= kk) Q) := by
  rw [← show 1920 * Scf.trips k0_t2_loop.lb k0_t2_loop.ub k0_t2_loop.st = 23040 by decide]
  have h := Scf.wp_for_bind frame (wpE (defs₀ (F := F)) 𝒱₀ (thr d i) none) Set.univ k0_t2_loop.lb k0_t2_loop.ub k0_t2_loop.st k0_t2_ok (0#32 : BitVec 32)
    (fun t _ => moves i src dst lanes o t 120)
    (fun t _ => iprop((src.view.loc (thr d i) ↦{fullShare} f)
      ∗ (∃ g, ⌜Done (src.view.read (Elt F) f) k (1920 * t) (dst.view.read (Elt F) g)⌝ ∗ dst.view.loc (thr d i) ↦{fullShare} g)))
    (fun t _ => wp_moves d i src dst o k hk ho t f 120 le_rfl) (kk := kk) (Q := Q)
  iintro ⟨Hs, Hd⟩ HK
  iapply h $$ [Hs Hd]
  · isplitl [Hs]; · iexact Hs
    iexists g
    isplitr
    · ipureintro; exact Done.zero _ _ _
    · iexact Hd
  · iexact HK

end

end Cert.KernelIdeal.Tile

end
-- ==== Proof.Blocks.lean ====
/-
  The blocks of the operand and of the result: the offsets the kernel computes, what a block holds, and what the result
  holds once a shifted block has been copied out.
-/
module

public import proofs.«01_k».proof.Proof.Setup

@[expose] public section

noncomputable section

namespace Cert.KernelIdeal.Tile

open Cert.KernelIdeal.Gen
open Idealize.ShloMosaic
open Idealize.SL Idealize.SL.Sem

variable {F : FTy → Type}

/-! ## The words -/

/-- The first item of a tile. Item `n` of all the tiles' is rows `48 (n % 10)` onwards of image `n / 10`. -/
def first (i : grid0.Coords) : Nat := 40 * (2 * (i 1).val + (i 0).val)

/-- The offsets of item `n`'s block. -/
def blkOff (n : Nat) : Fin 3 → Nat := ![n / 10, 48 * (n % 10), 0]

/-- The crop's offset in item `n`'s image, along rows and along columns. -/
def crop (n : Nat) : Nat := 2 - n / 10 % 3

/-- An offset is at most 2. -/
theorem crop_le (n : Nat) : crop n ≤ 2 := Nat.sub_le _ _

/-- A tile's first block leaves room for its forty. -/
theorem first_le (i : grid0.Coords) : first i ≤ 1240 := by
  have h0 : (i 0).val < 2 := (i 0).isLt
  have h1 : (i 1).val < 16 := (i 1).isLt
  unfold first; omega

/-- The first two copies in are of the tile's blocks 0 and 1. -/
theorem off1_eq : ∀ i : grid0.Coords, k0_off1 i = blkOff (first i) := by decide +kernel
theorem off2_eq : ∀ i : grid0.Coords, k0_off2 i = blkOff (first i + 1) := by decide +kernel
/-- The block copied out in trip `k` from the buffer pair `b`. -/
theorem off123_eq : ∀ (i : grid0.Coords) (k : Fin k0_t1_loop.trips) (b : Fin 2),
    k0_off123 i k (BitVec.ofNat 32 b.val) = blkOff (first i + b.val + 2 * k.val) := by decide +kernel
/-- The copies in that trip `k` starts are of the next item of each buffer pair. -/
theorem off124_eq : ∀ (i : grid0.Coords) (k : Fin k0_t1_loop.trips), k0_off124 i k = blkOff (first i + 2 * (k.val + 1)) := by decide +kernel
theorem off245_eq : ∀ (i : grid0.Coords) (k : Fin k0_t1_loop.trips), k0_off245 i k = blkOff (first i + 1 + 2 * (k.val + 1)) := by decide +kernel
/-- The crop's offset in trip `k` on the buffer pair `b`. -/
theorem offW_eq : ∀ (i : grid0.Coords) (k : Fin k0_t1_loop.trips) (b : Fin 2),
    offW i (itemW k (BitVec.ofNat 32 b.val)) = BitVec.ofNat 32 (crop (first i + b.val + 2 * k.val)) := by decide +kernel
/-- A trip waits for an earlier copy out unless it is the first, and starts a copy in unless it is the last. -/
theorem laterW_iff : ∀ k : Fin k0_t1_loop.trips, laterW k = 1#1 ↔ k.val ≠ 0 := by decide +kernel
theorem cond2_iff : ∀ k : Fin k0_t1_loop.trips, k0_cond2 k = 1#1 ↔ k.val + 1 < 20 := by decide +kernel
theorem cond4_iff : ∀ k : Fin k0_t1_loop.trips, k0_cond4 k = 1#1 ↔ k.val + 1 < 20 := by decide +kernel

/-! ## The windows' elements -/

/-- Where an element of an input block lies in the operand. -/
theorem xWin_emb (off : Fin 3 → Nat) (inb : ∀ a, off a + S1x56x512.size a ≤ S128x512x512.size a) (y : S56x512.Idx) :
    (((xWin xV off inb).view.emb y : S128x512x512.Idx) 0).val = off 0
      ∧ (((xWin xV off inb).view.emb y : S128x512x512.Idx) 1).val = off 1 + (y 0).val
      ∧ (((xWin xV off inb).view.emb y : S128x512x512.Idx) 2).val = off 2 + (y 1).val := by
  have h : ∀ a, (((xWin xV off inb).view.emb y : S128x512x512.Idx) a).val
      = off a + 1 * (Shape.reshapeEquiv squeezes_S1x56x512_S56x512.numel_eq y a).val := fun _ => rfl
  have e := Shape.reshapeEquiv_cons_one (d := ![56, 512]) squeezes_S1x56x512_S56x512.numel_eq y
  refine ⟨?_, ?_, ?_⟩
  · rw [h 0, e]; rfl
  · rw [h 1, e]; show off 1 + 1 * (y 0).val = _; omega
  · rw [h 2, e]; show off 2 + 1 * (y 1).val = _; omega

/-- Where an element of an output block lies in the result. -/
theorem oWin_emb (off : Fin 3 → Nat) (inb : ∀ a, off a + S1x48x480.size a ≤ S128x480x480.size a) (y : S48x480.Idx) :
    (((oWin oV off inb).view.emb y : S128x480x480.Idx) 0).val = off 0
      ∧ (((oWin oV off inb).view.emb y : S128x480x480.Idx) 1).val = off 1 + (y 0).val
      ∧ (((oWin oV off inb).view.emb y : S128x480x480.Idx) 2).val = off 2 + (y 1).val := by
  have h : ∀ a, (((oWin oV off inb).view.emb y : S128x480x480.Idx) a).val
      = off a + 1 * (Shape.reshapeEquiv squeezes_S1x48x480_S48x480.numel_eq y a).val := fun _ => rfl
  have e := Shape.reshapeEquiv_cons_one (d := ![48, 480]) squeezes_S1x48x480_S48x480.numel_eq y
  refine ⟨?_, ?_, ?_⟩
  · rw [h 0, e]; rfl
  · rw [h 1, e]; show off 1 + 1 * (y 0).val = _; omega
  · rw [h 2, e]; show off 2 + 1 * (y 1).val = _; omega

/-! ## What the blocks hold -/

/-- `X` is item `n`'s block of the operand. -/
def IsBlk (x : S128x512x512.Idx → Elt F .f32) (n : Nat) (X : S56x512.Idx → Elt F .f32) : Prop :=
  ∀ (y : S56x512.Idx) (z : S128x512x512.Idx), (z 0).val = n / 10 → (z 1).val = 48 * (n % 10) + (y 0).val → (z 2).val = (y 1).val → X y = x z

/-- The window at item `n`'s offsets reads item `n`'s block. -/
theorem isBlk_read (x : S128x512x512.Idx → Elt F .f32) (n : Nat) (off : Fin 3 → Nat) (h : off = blkOff n)
    (inb : ∀ a, off a + S1x56x512.size a ≤ S128x512x512.size a) : IsBlk x n ((xWin xV off inb).view.read (Elt F) x) := by
  subst h
  intro y z h0 h1 h2
  have e := xWin_emb (blkOff n) inb y
  show x ((xWin xV (blkOff n) inb).view.emb y) = x z
  congr 1
  funext a
  apply Fin.ext
  match a with
  | ⟨0, _⟩ => exact e.1.trans h0.symm
  | ⟨1, _⟩ => exact e.2.1.trans h1.symm
  | ⟨2, _⟩ => exact (e.2.2.trans (Nat.zero_add _)).trans h2.symm

/-- The item an element of the result belongs to. -/
def blk (z : S128x480x480.Idx) : Nat := 10 * (z 0).val + (z 1).val / 48

/-- The result: element `(b, i, j)` is the operand's `(b, i + k, j + k)` with `k = 2 - b % 3`, the offset of image `b`. -/
def target (x : S128x512x512.Idx → Elt F .f32) : S128x480x480.Idx → Elt F .f32 := fun z => x fun a => match a with
  | ⟨0, _⟩ => ⟨(z 0).val, (z 0).isLt⟩
  | ⟨1, _⟩ => ⟨(z 1).val + (2 - (z 0).val % 3), by have h : (z 1).val < 480 := (z 1).isLt; show _ < 512; omega⟩
  | ⟨2, _⟩ => ⟨(z 2).val + (2 - (z 0).val % 3), by have h : (z 2).val < 480 := (z 2).isLt; show _ < 512; omega⟩

/-- The elements of the result that the items in `p` write. -/
def oSet (p : Nat → Prop) : Finset S128x480x480.Idx :=
  letI := Classical.decPred p
  Finset.univ.filter fun z => p (blk z)

/-- An element is in the set of `p` when its block satisfies `p`. -/
theorem mem_oSet {p : Nat → Prop} {z : S128x480x480.Idx} : z ∈ oSet p ↔ p (blk z) := by
  simp [oSet]

/-- The window at item `n`'s offsets is item `n`'s elements. -/
theorem oWin_set (n : Nat) (off : Fin 3 → Nat) (h : off = blkOff n)
    (inb : ∀ a, off a + S1x48x480.size a ≤ S128x480x480.size a) : ((oWin oV off inb).view.set : Finset S128x480x480.Idx) = oSet (· = n) := by
  subst h
  ext z
  have hz0 : (z 0).val < 128 := (z 0).isLt
  have hz1 : (z 1).val < 480 := (z 1).isLt
  have hz2 : (z 2).val < 480 := (z 2).isLt
  rw [mem_oSet]
  constructor
  · intro hz
    obtain ⟨y, -, rfl⟩ := Finset.mem_map.mp hz
    have e := oWin_emb (blkOff n) inb y
    have hy0 : (y 0).val < 48 := (y 0).isLt
    have b0 : blkOff n 0 = n / 10 := rfl
    have b1 : blkOff n 1 = 48 * (n % 10) := rfl
    show 10 * _ + _ / 48 = n
    rw [e.1, e.2.1, b0, b1]
    omega
  · intro hz
    have hb : 10 * (z 0).val + (z 1).val / 48 = n := hz
    let y : S48x480.Idx := fun a => match a with
      | ⟨0, _⟩ => ⟨(z 1).val - 48 * (n % 10), by show _ < 48; omega⟩
      | ⟨1, _⟩ => ⟨(z 2).val, hz2⟩
    refine Finset.mem_map.mpr ⟨y, Finset.mem_univ _, ?_⟩
    have e := oWin_emb (blkOff n) inb y
    funext a
    apply Fin.ext
    match a with
    | ⟨0, _⟩ => refine e.1.trans ?_; show n / 10 = (z 0).val; omega
    | ⟨1, _⟩ => refine e.2.1.trans ?_; show 48 * (n % 10) + ((z 1).val - 48 * (n % 10)) = (z 1).val; omega
    | ⟨2, _⟩ => refine e.2.2.trans ?_; show 0 + (z 2).val = (z 2).val; omega

/-- Item `n`'s elements, its shifted block copied out, hold the result. -/
theorem write_target (x : S128x512x512.Idx → Elt F .f32) (n : Nat) (off : Fin 3 → Nat) (h : off = blkOff n)
    (inb : ∀ a, off a + S1x48x480.size a ≤ S128x480x480.size a) (X : S56x512.Idx → Elt F .f32) (hX : IsBlk x n X)
    (Y : S48x480.Idx → Elt F .f32) (hY : Done X (crop n) 23040 Y) (f : S128x480x480.Idx → Elt F .f32) :
    ∀ z ∈ oSet (· = n), ((oWin oV off inb).view.write (Elt F) f Y Finset.univ : S128x480x480.Idx → Elt F .f32) z = target x z := by
  intro z hz
  rw [← oWin_set n off h inb] at hz
  subst h
  obtain ⟨y, -, rfl⟩ := Finset.mem_map.mp hz
  have e := oWin_emb (blkOff n) inb y
  have hy0 : (y 0).val < 48 := (y 0).isLt
  have hy1 : (y 1).val < 480 := (y 1).isLt
  have hk := crop_le n
  have b0 : blkOff n 0 = n / 10 := rfl
  have b1 : blkOff n 1 = 48 * (n % 10) := rfl
  have b2 : blkOff n 2 = 0 := rfl
  rw [b0, b1, b2] at e
  refine (View.write_emb_of_mem _ _ (Finset.mem_univ y)).trans ?_
  let y' : S56x512.Idx := fun a => match a with
    | ⟨0, _⟩ => ⟨(y 0).val + crop n, by show _ < 56; omega⟩
    | ⟨1, _⟩ => ⟨(y 1).val + crop n, by show _ < 512; omega⟩
  show Y y = _
  rw [hY y (by omega) y' rfl rfl]
  refine hX y' _ e.1 ?_ ?_
  · show _ + (2 - _ % 3) = 48 * (n % 10) + ((y 0).val + crop n)
    rw [e.1, e.2.1]; unfold crop; omega
  · show _ + (2 - _ % 3) = (y 1).val + crop n
    rw [e.1, e.2.2]; unfold crop; omega

end Cert.KernelIdeal.Tile

end
-- ==== Proof.Item.lean ====
/-
  One item of a tile's work on one buffer pair, and the tile's whole run.
-/
module

public import proofs.«01_k».proof.Proof.Shift
public import proofs.«01_k».proof.Proof.Blocks

@[expose] public section

noncomputable section

namespace Cert.KernelIdeal.Tile

open Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

/-! ## Assertions -/

/-- A copy under way delivers what is kept beside it as well. -/
theorem flight_keep {c : Thread nD τ} {sm : SemLoc sig} {ι : HIx 1} {N : ℕ} {A R : sProp 𝕄} :
    iprop(Transfers.Flight EC c sm ι N A ∗ R) ⊢ Transfers.Flight EC c sm ι N iprop(A ∗ R) := by
  unfold Transfers.Flight
  iintro ⟨⟨⟨%C, HC, %hcap, %hpeek⟩, Hcred⟩, HR⟩
  isplitl [HC HR]
  · iexists iprop(C ∗ R)
    isplitl [HC HR]; · isplitl [HC] <;> iassumption
    isplit
    · ipureintro
      intro K'
      refine BIBase.Entails.trans ?_ (hcap K')
      iintro ⟨⟨HC, HR⟩, HK⟩
      isplitl [HC]; · iexact HC
      iintro ⟨Hv, HA⟩
      iapply HK
      isplitl [Hv]; · iexact Hv
      isplitl [HA] <;> iassumption
    · ipureintro
      intro K'
      refine BIBase.Entails.trans ?_ (hpeek K')
      iintro ⟨⟨HC, HR⟩, HK⟩
      isplitl [HC]; · iexact HC
      iintro HC
      iapply HK
      isplitl [HC] <;> iassumption
  · iexact Hcred

/-- The result's elements that the items in `p` write, at `f`. -/
def oPts (d : Dev nD) (p : Nat → Prop) (f : S128x480x480.Idx → Elt F .f32) : sProp 𝕄 := oLoc d ↦[oSet p]{fullShare} f

omit [FloatOps F] in
/-- Separate sets of items hold separate elements. -/
theorem oPts_split (d : Dev nD) (f : S128x480x480.Idx → Elt F .f32) {p q r : Nat → Prop} (h : ∀ n, p n ↔ q n ∨ r n) (hd : ∀ n, q n → ¬ r n) :
    oPts d p f ⊣⊢ iprop(oPts d q f ∗ oPts d r f) := by
  unfold oPts
  have e : oSet p = oSet q ∪ oSet r := by
    ext z; rw [Finset.mem_union, mem_oSet, mem_oSet, mem_oSet]; exact h _
  rw [e]
  exact pointsTo_union (Finset.disjoint_left.mpr fun z hq hr => hd _ (mem_oSet.mp hq) (mem_oSet.mp hr))

omit [FloatOps F] in
/-- The elements depend only on which items are in the set. -/
theorem oPts_congr (d : Dev nD) (f : S128x480x480.Idx → Elt F .f32) {p q : Nat → Prop} (h : ∀ n, p n ↔ q n) : oPts d p f = oPts d q f := by
  rw [show p = q from funext fun n => propext (h n)]

omit [FloatOps F] in
/-- No items hold no elements. -/
theorem oPts_none (d : Dev nD) (f : S128x480x480.Idx → Elt F .f32) {p : Nat → Prop} (h : ∀ n, ¬ p n) : oPts d p f = (iprop(emp) : sProp 𝕄) := by
  unfold oPts
  rw [show oSet p = ∅ from Finset.eq_empty_of_forall_notMem fun z hz => h _ (mem_oSet.mp hz)]
  exact pointsTo_empty

section

variable (d : Dev nD) (i : grid0.Coords) (x : S128x512x512.Idx → Elt F .f32) (f₀ : S128x480x480.Idx → Elt F .f32) (q : PosShare TreeShare)
  (O : CellTallies nD τ sig (HIx 1)) (W : Waits sig (HIx 1))
  (src : Memref sig .scVector .vmem S56x512 .f32) (hsrc : src.IsWhole) (dst : Memref sig .scVector .vmem S48x480 .f32) (hdst : dst.IsWhole)
  (isem osem : DmaSems sig S_)

/-- What a copy in delivers: the buffer at item `n`'s block, and the share of the operand back. -/
def inD (n : Nat) : sProp 𝕄 :=
  iprop((∃ f, ⌜IsBlk x n (src.view.read (Elt F) f)⌝ ∗ src.view.loc (thr d i) ↦{fullShare} f) ∗ xLoc d ↦{q} x)

/-- What a copy out delivers: the buffer back, and item `n`'s elements at the result. -/
def outD (n : Nat) : sProp 𝕄 := iprop((∃ g, dst.view.loc (thr d i) ↦{fullShare} g) ∗ oPts d (· = n) (target x))

/-- What a copy in pays its semaphore. -/
abbrev NI : ℕ := src.view.dmaCredit
/-- What a copy out pays its semaphore. -/
abbrev NO : ℕ := (oWin oV ![0, 0, 0] inb_S128x480x480_S1x48x480_0_0_0).view.dmaCredit

/-- Both copies pay something. -/
theorem NI_pos : 0 < NI src := View.dmaCredit_pos _ (by decide)
theorem NO_pos : 0 < NO := View.dmaCredit_pos _ (by decide)

/-- The copy in of block `n`, in flight. -/
def inF (n : Nat) : sProp 𝕄 := Transfers.Flight EC (thr d i) (.dma isem.sem) none (NI src) (inD d i x q src n)
/-- The copy out of block `n`, in flight. -/
def outF (n : Nat) : sProp 𝕄 := Transfers.Flight EC (thr d i) (.dma osem.sem) none NO (outD d i x dst n)

/-- The thread's record of its waits: nothing beyond `W` but waits for the copies. -/
def waits : sProp 𝕄 := iprop(∃ W', ⌜∀ p ∈ W', p ∈ W ∨ p.2 = none⌝ ∗ owes (thr d i) O W')

omit [FloatOps F] in
/-- A wait for a copy goes on the thread's record. -/
theorem waits_insert (W' : Waits sig (HIx 1)) (h : ∀ p ∈ W', p ∈ W ∨ p.2 = none) (sm : SemLoc sig) :
    (owes (thr d i) O (insert (sm, none) W') : sProp 𝕄) ⊢ iprop(∃ W'', ⌜∀ p ∈ W'', p ∈ W ∨ p.2 = none⌝ ∗ owes (thr d i) O W'') := by
  iintro HO
  iexists (insert (sm, none) W')
  isplitr
  · ipureintro
    intro p hp
    rcases Finset.mem_insert.mp hp with hp | hp
    · exact .inr (by rw [hp])
    · exact h p hp
  · iexact HO

/-! ## The steps -/

/-- A copy in starts. -/
theorem wp_startIn {β : Type} (kk : PUnit → Prog (TpuEff nD τ sig (Elt F) Λ₀ (proc i)) β) (Φ : β → sProp 𝕄)
    (n : Nat) (off : Fin 3 → Nat) (h : off = blkOff n) (inb : ∀ a, off a + S1x56x512.size a ≤ S128x512x512.size a) :
    iprop((∃ f, src.view.loc (thr d i) ↦{fullShare} f) ∗ (xLoc d ↦{q} x) ∗ semVal (thr d i, SemLoc.dma isem.sem) 0)
      ⊢ iprop((inF d i x q src isem n -∗ wp frame (wpE (defs₀ (F := F)) 𝒱₀ (thr d i) none) Set.univ (kk ⟨⟩) Φ)
        -∗ wp frame (wpE (defs₀ (F := F)) 𝒱₀ (thr d i) none) Set.univ (startIn i xV src hsrc isem off inb >>= kk) Φ) := by
  unfold startIn
  simp only [Prog.lift, Prog.bind_op, Prog.bind_ret, Prog.bind_assoc, Prog.pure_eq_ret]
  iintro ⟨⟨%f, Hs⟩, Hx, Hv⟩ HK
  ihave Hx' := (pointsTo_split_subset (ℓ := xLoc d) (I := (xWin xV off inb).view.set) (S := Finset.univ) (Finset.subset_univ _)).1 $$ Hx
  icases Hx' with ⟨Hw, Hr⟩
  iapply (Transfers.wp_dmaLocal EC 𝒱₀ (thr d i) none (src := xWin xV off inb) (dst := src) (sm := .dma isem.sem) (q := q) (fs := x)
    (Sd := Finset.univ) (fd := f) none (NI src) rfl (NI_pos src) (Finset.subset_univ _)) $$ [Hs Hw Hv]
  · isplitl [Hw]; · iexact Hw
    isplitl [Hs]; · iexact Hs
    iexact Hv
  iintro HF
  iapply HK
  unfold inF
  iapply (Transfers.Flight_mono EC (thr d i) (D := iprop((((src.view.loc (thr d i) ↦[Finset.univ]{fullShare} src.view.write (Elt F) f ((xWin xV off inb).view.read (Elt F) x) Finset.univ))
      ∗ (xLoc d ↦[(xWin xV off inb).view.set]{q} x)) ∗ xLoc d ↦[Finset.univ \ (xWin xV off inb).view.set]{q} x)) ?_)
  · unfold inD
    iintro ⟨⟨Hs, Hw⟩, Hr⟩
    isplitl [Hs]
    · iexists (src.view.write (Elt F) f ((xWin xV off inb).view.read (Elt F) x) Finset.univ)
      isplitr
      · ipureintro
        rw [View.read_write_univ]
        exact isBlk_read x n off h inb
      · iexact Hs
    · iapply (pointsTo_split_subset (ℓ := xLoc d) (I := (xWin xV off inb).view.set) (S := Finset.univ) (Finset.subset_univ _)).2
      isplitl [Hw] <;> iassumption
  iapply flight_keep
  isplitl [HF] <;> iassumption

/-- The wait for a copy in. -/
theorem wp_waitIn {β : Type} (kk : PUnit → Prog (TpuEff nD τ sig (Elt F) Λ₀ (proc i)) β) (Φ : β → sProp 𝕄)
    (n : Nat) :
    iprop(Transfers.MayWaits (thr d i) (none : HIx 1) O ∗ inF d i x q src isem n ∗ waits d i O W)
      ⊢ iprop((inD d i x q src n ∗ semVal (thr d i, SemLoc.dma isem.sem) 0 ∗ waits d i O W
          -∗ wp frame (wpE (defs₀ (F := F)) 𝒱₀ (thr d i) none) Set.univ (kk ⟨⟩) Φ)
        -∗ wp frame (wpE (defs₀ (F := F)) 𝒱₀ (thr d i) none) Set.univ
          (Prog.lift (.waitDma2 isem.sem (xWin xV ![0, 0, 0] inb_S128x512x512_S1x56x512_0_0_0) src ((View.wordExact_bits rfl).reshape _ _) hsrc.wordExact) >>= kk) Φ) := by
  simp only [Prog.lift, Prog.bind_op, Prog.bind_ret, Prog.bind_assoc, Prog.pure_eq_ret]
  unfold inF
  iintro ⟨#Hmw, HF, HW⟩ HK
  unfold waits
  icases HW with ⟨%W', %hW', HO⟩
  iapply (Transfers.wp_waitLocalO EC 𝒱₀ (thr d i) none (sem := isem.sem) (dstw := src) none (N := NI src) rfl (O := O) (W := W')) $$ [HF HO]
  · isplitl [HF]; · iexact HF
    isplitl [HO]; · iexact HO
    iapply (Transfers.MayWaits.elim (SemLoc.dma isem.sem)); iexact Hmw
  iintro ⟨HD, Hv, HO⟩
  iapply HK
  isplitl [HD]; · iexact HD
  isplitl [Hv]; · iexact Hv
  iapply (waits_insert d i O W W' hW'); iexact HO

/-- The wait for a copy out. -/
theorem wp_waitOut {β : Type} (kk : PUnit → Prog (TpuEff nD τ sig (Elt F) Λ₀ (proc i)) β) (Φ : β → sProp 𝕄)
    (n : Nat) :
    iprop(Transfers.MayWaits (thr d i) (none : HIx 1) O ∗ outF d i x dst osem n ∗ waits d i O W)
      ⊢ iprop((outD d i x dst n ∗ semVal (thr d i, SemLoc.dma osem.sem) 0 ∗ waits d i O W
          -∗ wp frame (wpE (defs₀ (F := F)) 𝒱₀ (thr d i) none) Set.univ (kk ⟨⟩) Φ)
        -∗ wp frame (wpE (defs₀ (F := F)) 𝒱₀ (thr d i) none) Set.univ (waitOut i oV dst hdst osem >>= kk) Φ) := by
  unfold waitOut
  simp only [Prog.lift, Prog.bind_op, Prog.bind_ret, Prog.bind_assoc, Prog.pure_eq_ret]
  unfold outF
  iintro ⟨#Hmw, HF, HW⟩ HK
  unfold waits
  icases HW with ⟨%W', %hW', HO⟩
  iapply (Transfers.wp_waitLocalO EC 𝒱₀ (thr d i) none (sem := osem.sem) (dstw := oWin oV ![0, 0, 0] inb_S128x480x480_S1x48x480_0_0_0)
    none (N := NO) rfl (O := O) (W := W')) $$ [HF HO]
  · isplitl [HF]; · iexact HF
    isplitl [HO]; · iexact HO
    iapply (Transfers.MayWaits.elim (SemLoc.dma osem.sem)); iexact Hmw
  iintro ⟨HD, Hv, HO⟩
  iapply HK
  isplitl [HD]; · iexact HD
  isplitl [Hv]; · iexact Hv
  iapply (waits_insert d i O W W' hW'); iexact HO

/-- A copy out starts, from a buffer that holds the shifted block. -/
theorem wp_startOut {β : Type} (kk : PUnit → Prog (TpuEff nD τ sig (Elt F) Λ₀ (proc i)) β) (Φ : β → sProp 𝕄)
    (n : Nat) (off : Fin 3 → Nat) (h : off = blkOff n) (inb : ∀ a, off a + S1x48x480.size a ≤ S128x480x480.size a)
    (X : S56x512.Idx → Elt F .f32) (hX : IsBlk x n X) :
    iprop((∃ g, ⌜Done X (crop n) 23040 (dst.view.read (Elt F) g)⌝ ∗ dst.view.loc (thr d i) ↦{fullShare} g)
        ∗ oPts d (· = n) f₀ ∗ semVal (thr d i, SemLoc.dma osem.sem) 0)
      ⊢ iprop((outF d i x dst osem n -∗ wp frame (wpE (defs₀ (F := F)) 𝒱₀ (thr d i) none) Set.univ (kk ⟨⟩) Φ)
        -∗ wp frame (wpE (defs₀ (F := F)) 𝒱₀ (thr d i) none) Set.univ
          (Prog.lift (.enqueueDma dst (.here (oWin oV off inb)) (.dma osem.sem) hdst.wordExact ((View.wordExact_bits rfl).reshape _ _) ⟨Or.inl rfl, trivial⟩) >>= kk) Φ) := by
  simp only [Prog.lift, Prog.bind_op, Prog.bind_ret, Prog.bind_assoc, Prog.pure_eq_ret]
  iintro ⟨⟨%g, %hg, Hd⟩, Ho, Hv⟩ HK
  iapply (Transfers.wp_dmaLocal EC 𝒱₀ (thr d i) none (src := dst) (dst := oWin oV off inb) (sm := .dma osem.sem) (q := fullShare) (fs := g)
    (Sd := oSet (· = n)) (fd := f₀) none NO rfl NO_pos (by rw [← oWin_set n off h inb])) $$ [Hd Ho Hv]
  · isplitl [Hd]
    · rw [hdst.set_eq_univ]; iexact Hd
    isplitl [Ho]; · unfold oPts; iexact Ho
    iexact Hv
  iintro HF
  iapply HK
  unfold outF
  iapply (Transfers.Flight_mono EC (thr d i) ?_) $$ HF
  unfold outD oPts
  iintro ⟨Ho, Hd⟩
  isplitl [Hd]
  · iexists g
    rw [hdst.set_eq_univ]; iexact Hd
  · iapply (Entails.of_eq (pointsTo_congr (write_target x n off h inb X hX _ hg f₀)))
    iexact Ho

/-! ## One item -/

/-- At the start of trip `k`, with `n` the first item of the buffer pair: the copy in of the trip's block is under way, or
    there is none left. -/
def atIn (n k : Nat) : sProp 𝕄 :=
  if k < 20 then inF d i x q src isem (n + 2 * k)
  else iprop((∃ f, src.view.loc (thr d i) ↦{fullShare} f) ∗ (xLoc d ↦{q} x) ∗ semVal (thr d i, SemLoc.dma isem.sem) 0)

/-- The copy out of the block of the trip before is under way, or there was none. -/
def atOut (n k : Nat) : sProp 𝕄 :=
  if k = 0 then iprop((∃ g, dst.view.loc (thr d i) ↦{fullShare} g) ∗ semVal (thr d i, SemLoc.dma osem.sem) 0)
  else outF d i x dst osem (n + 2 * (k - 1))

/-- The items of the pair from trip `k` on. -/
def todo (n k : Nat) (m : Nat) : Prop := ∃ j, k ≤ j ∧ j < 20 ∧ m = n + 2 * j
/-- The items of the pair whose copy out has been waited for at the start of trip `k`. -/
def fini (n k : Nat) (m : Nat) : Prop := ∃ j, j + 1 < k ∧ m = n + 2 * j

/-- What a buffer pair holds at the start of trip `k`. -/
def pairAt (n k : Nat) : sProp 𝕄 :=
  iprop(atIn d i x q src isem n k ∗ atOut d i x dst osem n k ∗ oPts d (todo n k) f₀ ∗ oPts d (fini n k) (target x))

/-- The output buffer is free, after the wait for its last copy if there was one. -/
theorem wp_free {β : Type} (Φ : β → sProp 𝕄) (n k : Nat) (later : BitVec 1) (hl : later = 1#1 ↔ k ≠ 0) (rest : Prog (TpuEff nD τ sig (Elt F) Λ₀ (proc i)) β) :
    iprop(Transfers.MayWaits (thr d i) (none : HIx 1) O ∗ atOut d i x dst osem n k ∗ oPts d (fini n k) (target x) ∗ waits d i O W)
      ⊢ iprop(((∃ g, dst.view.loc (thr d i) ↦{fullShare} g) ∗ semVal (thr d i, SemLoc.dma osem.sem) 0 ∗ oPts d (fini n (k + 1)) (target x) ∗ waits d i O W
          -∗ wp frame (wpE (defs₀ (F := F)) 𝒱₀ (thr d i) none) Set.univ rest Φ)
        -∗ wp frame (wpE (defs₀ (F := F)) 𝒱₀ (thr d i) none) Set.univ
          (if _h : later = 1#1 then waitOut i oV dst hdst osem >>= fun _ => rest else rest) Φ) := by
  by_cases h : k = 0
  · rw [dif_neg (fun h' => hl.mp h' h)]
    unfold atOut
    rw [if_pos h, oPts_congr d (target x) (p := fini n (k + 1)) (q := fini n k) (fun m => by
      constructor <;> (rintro ⟨j, hj, -⟩; omega))]
    iintro ⟨-, ⟨Hd, Hv⟩, Ho, HW⟩ HK
    iapply HK
    isplitl [Hd]; · iexact Hd
    isplitl [Hv]; · iexact Hv
    isplitl [Ho] <;> iassumption
  · rw [dif_pos (hl.mpr h)]
    unfold atOut
    rw [if_neg h]
    iintro ⟨Hmw, HF, Ho, HW⟩ HK
    iapply (wp_waitOut d i x O W dst hdst osem _ Φ (n + 2 * (k - 1))) $$ [Hmw HF HW]
    · isplitl [Hmw]; · iexact Hmw
      isplitl [HF] <;> iassumption
    iintro ⟨HD, Hv, HW⟩
    unfold outD
    icases HD with ⟨Hd, Hn⟩
    iapply HK
    isplitl [Hd]; · iexact Hd
    isplitl [Hv]; · iexact Hv
    isplitr [HW]
    · iapply (oPts_split d (target x) (p := fini n (k + 1)) (q := (· = n + 2 * (k - 1))) (r := fini n k) (fun m => ?_) (fun m => ?_)).2
      · constructor
        · rintro ⟨j, hj, rfl⟩
          by_cases e : j + 1 = k
          · exact .inl (by omega)
          · exact .inr ⟨j, by omega, rfl⟩
        · rintro (e | ⟨j, hj, e⟩)
          · exact ⟨k - 1, by omega, e⟩
          · exact ⟨j, by omega, e⟩
      · rintro rfl ⟨j, hj, e⟩; omega
      isplitl [Hn] <;> iassumption
    · iexact HW

/-- The next copy in starts, if there is a next block. -/
theorem wp_next {β : Type} (Φ : β → sProp 𝕄) (n k : Nat) (hk : k < 20) (more : BitVec 1) (hm : more = 1#1 ↔ k + 1 < 20) (off : Fin 3 → Nat) (h : off = blkOff (n + 2 * (k + 1)))
    (inb : more = 1#1 → ∀ a, off a + S1x56x512.size a ≤ S128x512x512.size a) (rest : Prog (TpuEff nD τ sig (Elt F) Λ₀ (proc i)) β) :
    iprop((∃ f, src.view.loc (thr d i) ↦{fullShare} f) ∗ (xLoc d ↦{q} x) ∗ semVal (thr d i, SemLoc.dma isem.sem) 0)
      ⊢ iprop((atIn d i x q src isem n (k + 1) -∗ wp frame (wpE (defs₀ (F := F)) 𝒱₀ (thr d i) none) Set.univ rest Φ)
        -∗ wp frame (wpE (defs₀ (F := F)) 𝒱₀ (thr d i) none) Set.univ
          (if h : more = 1#1 then startIn i xV src hsrc isem off (inb h) >>= fun _ => rest else rest) Φ) := by
  unfold atIn
  by_cases hc : k + 1 < 20
  · rw [dif_pos (hm.mpr hc), if_pos hc]
    exact wp_startIn d i x q src hsrc isem (fun _ => rest) Φ (n + 2 * (k + 1)) off h _
  · rw [dif_neg (fun h' => hc (hm.mp h')), if_neg hc]
    iintro H HK
    iapply HK
    iexact H

/-- One item. -/
theorem wp_item {β : Type} (kk : PUnit → Prog (TpuEff nD τ sig (Elt F) Λ₀ (proc i)) β) (Φ : β → sProp 𝕄)
    (n k : Nat) (hk : k < 20) (later : BitVec 1) (hl : later = 1#1 ↔ k ≠ 0) (o : BitVec 32) (ho : o = BitVec.ofNat 32 (crop (n + 2 * k)))
    (outOff : Fin 3 → Nat) (hout : outOff = blkOff (n + 2 * k)) (outInb : ∀ a, outOff a + S1x48x480.size a ≤ S128x480x480.size a)
    (more : BitVec 1) (hm : more = 1#1 ↔ k + 1 < 20) (inOff : Fin 3 → Nat) (hin : inOff = blkOff (n + 2 * (k + 1)))
    (inInb : more = 1#1 → ∀ a, inOff a + S1x56x512.size a ≤ S128x512x512.size a) :
    iprop(Transfers.MayWaits (thr d i) (none : HIx 1) O ∗ pairAt d i x f₀ q src dst isem osem n k ∗ waits d i O W)
      ⊢ iprop((pairAt d i x f₀ q src dst isem osem n (k + 1) ∗ waits d i O W
          -∗ wp frame (wpE (defs₀ (F := F)) 𝒱₀ (thr d i) none) Set.univ (kk ⟨⟩) Φ)
        -∗ wp frame (wpE (defs₀ (F := F)) 𝒱₀ (thr d i) none) Set.univ
          (item i xV oV src hsrc dst hdst isem osem later o outOff outInb more inOff inInb >>= kk) Φ) := by
  have e : (item i xV oV src hsrc dst hdst isem osem later o outOff outInb more inOff inInb >>= kk : Prog (TpuEff nD τ sig (Elt F) Λ₀ (proc i)) β)
      = Prog.lift (.waitDma2 isem.sem (xWin xV ![0, 0, 0] inb_S128x512x512_S1x56x512_0_0_0) src ((View.wordExact_bits rfl).reshape _ _) hsrc.wordExact) >>= fun _ =>
        if _h : later = 1#1 then waitOut i oV dst hdst osem >>= fun _ =>
          Scf.Loop.for k0_t2_loop k0_t2_ok 0#32 (fun t _ => moves i src dst lanes o t 120) >>= fun _ =>
          Prog.lift (.enqueueDma dst (.here (oWin oV outOff outInb)) (.dma osem.sem) hdst.wordExact ((View.wordExact_bits rfl).reshape _ _) ⟨Or.inl rfl, trivial⟩) >>= fun _ =>
          if h : more = 1#1 then startIn i xV src hsrc isem inOff (inInb h) >>= fun _ => kk ⟨⟩ else kk ⟨⟩
        else
          Scf.Loop.for k0_t2_loop k0_t2_ok 0#32 (fun t _ => moves i src dst lanes o t 120) >>= fun _ =>
          Prog.lift (.enqueueDma dst (.here (oWin oV outOff outInb)) (.dma osem.sem) hdst.wordExact ((View.wordExact_bits rfl).reshape _ _) ⟨Or.inl rfl, trivial⟩) >>= fun _ =>
          if h : more = 1#1 then startIn i xV src hsrc isem inOff (inInb h) >>= fun _ => kk ⟨⟩ else kk ⟨⟩ := by
    unfold item
    by_cases h1 : later = 1#1 <;> by_cases h2 : more = 1#1 <;>
      simp only [h1, h2, ↓reduceDIte, Prog.bind_assoc, Prog.pure_eq_ret, Prog.bind_ret]
  rw [e]
  unfold pairAt
  rw [show atIn d i x q src isem n k = inF d i x q src isem (n + 2 * k) from if_pos hk,
    show atOut d i x dst osem n (k + 1) = outF d i x dst osem (n + 2 * k) from if_neg (Nat.succ_ne_zero k)]
  iintro ⟨#Hmw, ⟨Hin, Hout, Ht, Hf⟩, HW⟩ HK
  iapply (wp_waitIn d i x q O W src hsrc isem _ Φ (n + 2 * k)) $$ [Hin HW]
  · isplitr; · iexact Hmw
    isplitl [Hin] <;> iassumption
  iintro ⟨HD, Hvi, HW⟩
  unfold inD
  icases HD with ⟨⟨%f, %hf, Hs⟩, Hx⟩
  iapply (wp_free d i x O W dst hdst osem Φ n k later hl) $$ [Hout Hf HW]
  · isplitr; · iexact Hmw
    isplitl [Hout]; · iexact Hout
    isplitl [Hf] <;> iassumption
  iintro ⟨⟨%g, Hd⟩, Hvo, Hf, HW⟩
  iapply (wp_shift d i src dst o (crop (n + 2 * k)) (crop_le _) ho _ Φ f g) $$ [Hs Hd]
  · isplitl [Hs] <;> iassumption
  iintro %w ⟨Hs, Hd⟩
  ihave Ht' := (oPts_split d f₀ (p := todo n k) (q := (· = n + 2 * k)) (r := todo n (k + 1)) (fun m => by
      constructor
      · rintro ⟨j, hj, hj', rfl⟩
        by_cases e : j = k
        · exact .inl (by omega)
        · exact .inr ⟨j, by omega, hj', rfl⟩
      · rintro (e | ⟨j, hj, hj', e⟩)
        · exact ⟨k, le_rfl, hk, e⟩
        · exact ⟨j, by omega, hj', e⟩) (fun m => by rintro rfl ⟨j, hj, -, e⟩; omega)).1 $$ Ht
  icases Ht' with ⟨Hn, Ht⟩
  iapply (wp_startOut d i x f₀ dst hdst osem _ Φ (n + 2 * k) outOff hout outInb _ hf) $$ [Hd Hn Hvo]
  · isplitl [Hd]; · iexact Hd
    isplitl [Hn] <;> iassumption
  iintro Hout
  iapply (wp_next d i x q src hsrc isem Φ n k hk more hm inOff hin inInb) $$ [Hs Hx Hvi]
  · isplitl [Hs]; · iexists f; iexact Hs
    isplitl [Hx] <;> iassumption
  iintro Hin
  iapply HK
  isplitr [HW]
  · isplitl [Hin]; · iexact Hin
    isplitl [Hout]; · iexact Hout
    isplitl [Ht] <;> iassumption
  · iexact HW

end

end Cert.KernelIdeal.Tile

end
-- ==== Proof.Trips.lean ====
/-
  A tile's whole run: two copies in started, twenty trips of an item on each buffer pair, two copies out waited for.
-/
module

public import proofs.«01_k».proof.Proof.Item

@[expose] public section

noncomputable section

namespace Cert.KernelIdeal.Tile

open Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

section

variable (d : Dev nD) (i : grid0.Coords) (x : S128x512x512.Idx → Elt F .f32) (f₀ : S128x480x480.Idx → Elt F .f32) (q : PosShare TreeShare)
  (O : CellTallies nD τ sig (HIx 1)) (W : Waits sig (HIx 1))

/-- A buffer pair between runs: both buffers at some contents, both semaphores at zero. -/
def idle (src : Memref sig .scVector .vmem S56x512 .f32) (dst : Memref sig .scVector .vmem S48x480 .f32) (isem osem : DmaSems sig S_) : sProp 𝕄 :=
  iprop((∃ f, src.view.loc (thr d i) ↦{fullShare} f) ∗ (∃ g, dst.view.loc (thr d i) ↦{fullShare} g)
    ∗ semVal (thr d i, SemLoc.dma isem.sem) 0 ∗ semVal (thr d i, SemLoc.dma osem.sem) 0)

variable (src : Memref sig .scVector .vmem S56x512 .f32) (hsrc : src.IsWhole) (dst : Memref sig .scVector .vmem S48x480 .f32) (hdst : dst.IsWhole)
  (isem osem : DmaSems sig S_)

/-- A program with nothing left to do. -/
theorem wp_done {β : Type} (b : β) (Φ : β → sProp 𝕄) :
    Φ b ⊢ wp frame (wpE (defs₀ (F := F)) 𝒱₀ (thr d i) none) Set.univ (pure b : Prog (TpuEff nD τ sig (Elt F) Λ₀ (proc i)) β) Φ := by
  show _ ⊢ wp _ _ _ (Prog.ret b) _
  rw [wp_ret]
  iintro H
  imodintro
  iexact H

/-- A pair's first copy in starts: the pair is at trip 0. -/
theorem wp_begin {β : Type} (kk : PUnit → Prog (TpuEff nD τ sig (Elt F) Λ₀ (proc i)) β) (Φ : β → sProp 𝕄)
    (n : Nat) (off : Fin 3 → Nat) (h : off = blkOff n) (inb : ∀ a, off a + S1x56x512.size a ≤ S128x512x512.size a) :
    iprop(idle d i src dst isem osem ∗ (xLoc d ↦{q} x) ∗ oPts d (todo n 0) f₀)
      ⊢ iprop((pairAt d i x f₀ q src dst isem osem n 0 -∗ wp frame (wpE (defs₀ (F := F)) 𝒱₀ (thr d i) none) Set.univ (kk ⟨⟩) Φ)
        -∗ wp frame (wpE (defs₀ (F := F)) 𝒱₀ (thr d i) none) Set.univ (startIn i xV src hsrc isem off inb >>= kk) Φ) := by
  unfold idle pairAt
  rw [show atIn d i x q src isem n 0 = inF d i x q src isem n from if_pos (by decide),
    show atOut d i x dst osem n 0 = iprop((∃ g, dst.view.loc (thr d i) ↦{fullShare} g) ∗ semVal (thr d i, SemLoc.dma osem.sem) 0) from if_pos rfl,
    oPts_none d (target x) (p := fini n 0) (fun m => by rintro ⟨j, hj, -⟩; omega)]
  iintro ⟨⟨Hs, Hd, Hvi, Hvo⟩, Hx, Ho⟩ HK
  iapply (wp_startIn d i x q src hsrc isem kk Φ n off h inb) $$ [Hs Hx Hvi]
  · isplitl [Hs]; · iexact Hs
    isplitl [Hx] <;> iassumption
  iintro HF
  iapply HK
  isplitl [HF]; · iexact HF
  isplitl [Hd Hvo]; · isplitl [Hd] <;> iassumption
  isplitl [Ho]; · iexact Ho
  iempintro

/-- A pair's last copy out is waited for: the pair's items all hold the result. -/
theorem wp_end {β : Type} (kk : PUnit → Prog (TpuEff nD τ sig (Elt F) Λ₀ (proc i)) β) (Φ : β → sProp 𝕄) (n : Nat) :
    iprop(Transfers.MayWaits (thr d i) (none : HIx 1) O ∗ pairAt d i x f₀ q src dst isem osem n 20 ∗ waits d i O W)
      ⊢ iprop((idle d i src dst isem osem ∗ (xLoc d ↦{q} x) ∗ oPts d (todo n 0) (target x) ∗ waits d i O W
          -∗ wp frame (wpE (defs₀ (F := F)) 𝒱₀ (thr d i) none) Set.univ (kk ⟨⟩) Φ)
        -∗ wp frame (wpE (defs₀ (F := F)) 𝒱₀ (thr d i) none) Set.univ (waitOut i oV dst hdst osem >>= kk) Φ) := by
  unfold idle pairAt
  rw [show atIn d i x q src isem n 20 = iprop((∃ f, src.view.loc (thr d i) ↦{fullShare} f) ∗ (xLoc d ↦{q} x) ∗ semVal (thr d i, SemLoc.dma isem.sem) 0)
      from if_neg (by decide),
    show atOut d i x dst osem n 20 = outF d i x dst osem (n + 2 * 19) from if_neg (by decide)]
  iintro ⟨Hmw, ⟨⟨Hs, Hx, Hvi⟩, HF, -, Hf⟩, HW⟩ HK
  iapply (wp_waitOut d i x O W dst hdst osem kk Φ (n + 2 * 19)) $$ [Hmw HF HW]
  · isplitl [Hmw]; · iexact Hmw
    isplitl [HF] <;> iassumption
  iintro ⟨HD, Hvo, HW⟩
  unfold outD
  icases HD with ⟨Hd, Hn⟩
  iapply HK
  isplitl [Hs Hd Hvi Hvo]
  · isplitl [Hs]; · iexact Hs
    isplitl [Hd]; · iexact Hd
    isplitl [Hvi] <;> iassumption
  isplitl [Hx]; · iexact Hx
  isplitr [HW]
  · iapply (oPts_split d (target x) (p := todo n 0) (q := (· = n + 2 * 19)) (r := fini n 20) (fun m => ?_) (fun m => ?_)).2
    · constructor
      · rintro ⟨j, -, hj, rfl⟩
        by_cases e : j = 19
        · exact .inl (by omega)
        · exact .inr ⟨j, by omega, rfl⟩
      · rintro (e | ⟨j, hj, e⟩)
        · exact ⟨19, by omega, by omega, e⟩
        · exact ⟨j, by omega, by omega, e⟩
    · rintro rfl ⟨j, hj, e⟩; omega
    isplitl [Hn] <;> iassumption
  · iexact HW

/-! ## The trips -/

variable (src' : Memref sig .scVector .vmem S56x512 .f32) (hsrc' : src'.IsWhole) (dst' : Memref sig .scVector .vmem S48x480 .f32) (hdst' : dst'.IsWhole)
  (isem' osem' : DmaSems sig S_)

/-- What the tile holds at the start of trip `k`. -/
def tripAt (k : Nat) : sProp 𝕄 :=
  iprop(Transfers.MayWaits (thr d i) (none : HIx 1) O ∗ pairAt d i x f₀ q.left src dst isem osem (first i) k
    ∗ pairAt d i x f₀ q.right src' dst' isem' osem' (first i + 1) k ∗ waits d i O W)

/-- One trip. -/
theorem wp_trip (k : Fin k0_t1_loop.trips) :
    tripAt d i x f₀ q O W src dst isem osem src' dst' isem' osem' k.val
      ⊢ wp frame (wpE (defs₀ (F := F)) 𝒱₀ (thr d i) none) Set.univ
          (trip i xV (Memref.isWhole_whole _) oV (Memref.isWhole_whole _) src hsrc src' hsrc' dst hdst dst' hdst' isem isem' osem osem' k)
          fun _ => tripAt d i x f₀ q O W src dst isem osem src' dst' isem' osem' (k.val + 1) := by
  have hk : k.val < 20 := k.isLt
  unfold trip tripAt
  iintro ⟨#Hmw, H0, H1, HW⟩
  iapply (wp_item d i x f₀ q.left O W src hsrc dst hdst isem osem _ _ (first i) k.val hk _ (laterW_iff k) _ (offW_eq i k 0) _ (off123_eq i k 0) _
    _ (cond2_iff k) _ (off124_eq i k) _) $$ [H0 HW]
  · isplitr; · iexact Hmw
    isplitl [H0] <;> iassumption
  iintro ⟨H0, HW⟩
  iapply (wp_item d i x f₀ q.right O W src' hsrc' dst' hdst' isem' osem' _ _ (first i + 1) k.val hk _ (laterW_iff k) _ (offW_eq i k 1) _ (off123_eq i k 1) _
    _ (cond4_iff k) _ (off245_eq i k) _) $$ [H1 HW]
  · isplitr; · iexact Hmw
    isplitl [H1] <;> iassumption
  iintro ⟨H1, HW⟩
  iapply (wp_done d i _ _)
  isplitr; · iexact Hmw
  isplitl [H0]; · iexact H0
  isplitl [H1] <;> iassumption

/-- The items of a tile. -/
def mine (m : Nat) : Prop := m / 40 = 2 * (i 1).val + (i 0).val

omit [FloatOps F] in
/-- A tile's items are those of its two buffer pairs. -/
theorem mine_split (f : S128x480x480.Idx → Elt F .f32) :
    oPts d (mine i) f ⊣⊢ iprop(oPts d (todo (first i) 0) f ∗ oPts d (todo (first i + 1) 0) f) := by
  refine oPts_split d f (fun m => ?_) (fun m => ?_)
  · unfold mine todo first
    constructor
    · intro h
      rcases Nat.mod_two_eq_zero_or_one m with e | e
      · exact .inl ⟨(m - 40 * (2 * (i 1).val + (i 0).val)) / 2, by omega, by omega, by omega⟩
      · exact .inr ⟨(m - 40 * (2 * (i 1).val + (i 0).val)) / 2, by omega, by omega, by omega⟩
    · rintro (⟨j, -, hj, rfl⟩ | ⟨j, -, hj, rfl⟩) <;> omega
  · unfold todo first
    rintro ⟨j, -, hj, rfl⟩ ⟨j', -, hj', e⟩
    omega

set_option maxRecDepth 100000 in
/-- The tile's run leaves its items at the result, and everything else as it was. -/
theorem wp_tile :
    iprop(Transfers.MayWaits (thr d i) (none : HIx 1) O ∗ idle d i src dst isem osem ∗ idle d i src' dst' isem' osem'
        ∗ (xLoc d ↦{q} x) ∗ oPts d (mine i) f₀ ∗ waits d i O W)
      ⊢ wp frame (wpE (defs₀ (F := F)) 𝒱₀ (thr d i) none) Set.univ
          (tile i xV (Memref.isWhole_whole _) oV (Memref.isWhole_whole _) src hsrc src' hsrc' dst hdst dst' hdst' isem isem' osem osem')
          fun _ => (iprop(idle d i src dst isem osem ∗ idle d i src' dst' isem' osem' ∗ (xLoc d ↦{q} x) ∗ oPts d (mine i) (target x) ∗ waits d i O W) : sProp 𝕄) := by
  have hl := Scf.wp_for_bind frame (wpE (defs₀ (F := F)) 𝒱₀ (thr d i) none) Set.univ k0_t1_loop.lb k0_t1_loop.ub k0_t1_loop.st k0_t1_ok (0#32 : BitVec 32)
    (fun k _ => trip i xV (Memref.isWhole_whole _) oV (Memref.isWhole_whole _) src hsrc src' hsrc' dst hdst dst' hdst' isem isem' osem osem' k)
    (fun k _ => tripAt d i x f₀ q O W src dst isem osem src' dst' isem' osem' k)
    (fun k _ => wp_trip d i x f₀ q O W src hsrc dst hdst isem osem src' hsrc' dst' hdst' isem' osem' k)
    (kk := fun _ => waitOut i oV dst hdst osem >>= fun _ => waitOut i oV dst' hdst' osem' >>= fun _ => pure PUnit.unit)
    (Q := fun _ => (iprop(idle d i src dst isem osem ∗ idle d i src' dst' isem' osem' ∗ (xLoc d ↦{q} x) ∗ oPts d (mine i) (target x) ∗ waits d i O W) : sProp 𝕄))
  have ht : tripAt d i x f₀ q O W src dst isem osem src' dst' isem' osem' (Scf.trips k0_t1_loop.lb k0_t1_loop.ub k0_t1_loop.st)
      ⊢ tripAt d i x f₀ q O W src dst isem osem src' dst' isem' osem' 20 := by
    rw [show Scf.trips k0_t1_loop.lb k0_t1_loop.ub k0_t1_loop.st = 20 by decide]
  unfold tile
  iintro ⟨#Hmw, Hi, Hi', Hx, Ho, HW⟩
  ihave Hx' := (pointsTo_share (PosShare.mem_left_op_right q)).1 $$ Hx
  icases Hx' with ⟨Hx, Hx'⟩
  ihave Ho' := (mine_split d i f₀).1 $$ Ho
  icases Ho' with ⟨Ho, Ho'⟩
  iapply (wp_begin d i x f₀ q.left src hsrc dst isem osem _ _ (first i) _ (off1_eq i) _) $$ [Hi Hx Ho]
  · isplitl [Hi]; · iexact Hi
    isplitl [Hx] <;> iassumption
  iintro H0
  iapply (wp_begin d i x f₀ q.right src' hsrc' dst' isem' osem' _ _ (first i + 1) _ (off2_eq i) _) $$ [Hi' Hx' Ho']
  · isplitl [Hi']; · iexact Hi'
    isplitl [Hx'] <;> iassumption
  iintro H1
  iapply hl $$ [H0 H1 HW]
  · unfold tripAt
    isplitr; · iexact Hmw
    isplitl [H0]; · iexact H0
    isplitl [H1] <;> iassumption
  iintro %_ HT
  ihave HT := ht $$ HT
  unfold tripAt
  icases HT with ⟨-, H0, H1, HW⟩
  iapply (wp_end d i x f₀ q.left O W src dst hdst isem osem _ _ (first i)) $$ [H0 HW]
  · isplitr; · iexact Hmw
    isplitl [H0] <;> iassumption
  iintro ⟨Hi, Hx, Ho, HW⟩
  iapply (wp_end d i x f₀ q.right O W src' dst' hdst' isem' osem' _ _ (first i + 1)) $$ [H1 HW]
  · isplitr; · iexact Hmw
    isplitl [H1] <;> iassumption
  iintro ⟨Hi', Hx', Ho', HW⟩
  iapply (wp_done d i _ _)
  isplitl [Hi]; · iexact Hi
  isplitl [Hi']; · iexact Hi'
  isplitl [Hx Hx']
  · iapply (pointsTo_share (PosShare.mem_left_op_right q)).2
    isplitl [Hx] <;> iassumption
  isplitl [Ho Ho']
  · iapply (mine_split d i (target x)).2
    isplitl [Ho] <;> iassumption
  · iexact HW

end

end Cert.KernelIdeal.Tile

end
-- ==== Proof.Launch.lean ====
/-
  The launch: what the TensorCore hands each SparseCore, each SparseCore each of its tiles, and the program's run.
-/
module

public import proofs.«01_k».proof.Proof.Trips

@[expose] public section

noncomputable section

namespace Cert.KernelIdeal.Tile

open Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTokN shareDrop)

variable {F : FTy → Type}

local notation "𝕄" => MT nD τ sig (HIx 1) (Elt F) ℕ UU ℕ

variable (m : (ℓ : Loc nD τ sig) → Buf (Elt F) ℓ) (ρ : Dev nD → PrngReg)

/-! ## Shares -/

/-- The items of core `c`. -/
def ofCore (c n : Nat) : Prop := n / 40 % 2 = c
/-- The items of its tile `s`: forty in a row. -/
def ofTile (c s n : Nat) : Prop := n / 40 = 2 * s + c

/-- The share of the operand that core `c` reads. -/
def coreShare (c : Nat) : PosShare TreeShare := shareTokN fullShare c
/-- The part of it that tile `s` reads. -/
def tileShare (c s : Nat) : PosShare TreeShare := shareTokN (coreShare c) s

/-- Core `c` holds its share of the operand and its items, these at `f`; -/
def atCore (d : Dev nD) (c : Nat) (f : S128x480x480.Idx → Elt F .f32) : sProp 𝕄 :=
  iprop((xLoc d ↦{coreShare c} m (xLoc d)) ∗ oPts d (ofCore c) f)
/-- and so does tile `s` of it. -/
def atTile (d : Dev nD) (c s : Nat) (f : S128x480x480.Idx → Elt F .f32) : sProp 𝕄 :=
  iprop((xLoc d ↦{tileShare c s} m (xLoc d)) ∗ oPts d (ofTile c s) f)

/-- Items dealt out among `n` holders, none of them twice. -/
theorem oPts_deal (d : Dev nD) (f : S128x480x480.Idx → Elt F .f32) {n : ℕ} (p : Nat → Prop) (r : Nat → Nat → Prop)
    (h : ∀ z : S128x480x480.Idx, p (blk z) ↔ ∃ c : Fin n, r c.val (blk z)) (hd : ∀ (c c' : Fin n) k, r c.val k → r c'.val k → c = c') :
    oPts d p f = (bigSep Finset.univ fun c : Fin n => oPts d (r c.val) f : sProp 𝕄) := by
  unfold oPts
  rw [← pointsTo_biUnion Finset.univ (ℓ := oLoc d) (fun c : Fin n => oSet (r c.val)) fun c _ c' _ hne =>
    Finset.disjoint_left.mpr fun z hz hz' => hne (hd c c' _ (mem_oSet.mp hz) (mem_oSet.mp hz'))]
  congr 1
  ext z
  rw [mem_oSet, Finset.mem_biUnion, h z]
  exact ⟨fun ⟨c, hc⟩ => ⟨c, Finset.mem_univ c, mem_oSet.mpr hc⟩, fun ⟨c, _, hc⟩ => ⟨c, mem_oSet.mp hc⟩⟩

/-- There are 1280 blocks. -/
theorem blk_lt (z : S128x480x480.Idx) : blk z < 1280 := by
  have h0 : (z 0).val < 128 := (z 0).isLt
  have h1 : (z 1).val < 480 := (z 1).isLt
  unfold blk; omega

/-- The whole result is the two cores' items. -/
theorem oPts_cores (d : Dev nD) (f : S128x480x480.Idx → Elt F .f32) :
    (oLoc d ↦{fullShare} f : sProp 𝕄) = bigSep Finset.univ fun c : Fin 2 => oPts d (ofCore c.val) f := by
  rw [← oPts_deal d f (fun _ => True) ofCore (fun z => ⟨fun _ => ⟨⟨blk z / 40 % 2, by omega⟩, rfl⟩, fun _ => trivial⟩)
    (fun c c' k h h' => Fin.ext (h.symm.trans h'))]
  unfold oPts
  rw [show oSet (fun _ => True) = Finset.univ from Finset.eq_univ_of_forall fun z => mem_oSet.mpr trivial]

/-- A core's items are its sixteen tiles'. -/
theorem oPts_tiles (d : Dev nD) (c : Fin 2) (f : S128x480x480.Idx → Elt F .f32) :
    oPts d (ofCore c.val) f = (bigSep Finset.univ fun s : Fin 16 => oPts d (ofTile c.val s.val) f : sProp 𝕄) := by
  have hc := c.isLt
  refine oPts_deal d f (ofCore c.val) (ofTile c.val) (fun z => ?_) (fun s s' k h h' => ?_)
  · have hz := blk_lt z
    unfold ofCore ofTile
    constructor
    · intro h
      exact ⟨⟨blk z / 40 / 2, by omega⟩, by show _ = 2 * (blk z / 40 / 2) + c.val; omega⟩
    · rintro ⟨s, h⟩; omega
  · unfold ofTile at h h'
    exact Fin.ext (by omega)

/-- A core's holdings deal out to its tiles, and come back from them. -/
theorem atCore_deal (d : Dev nD) (c : Fin 2) (f g : S128x480x480.Idx → Elt F .f32) :
    atCore m d c.val f ⊢ iprop((bigSep Finset.univ fun s : Fin 16 => atTile m d c.val s.val f)
      ∗ ((bigSep Finset.univ fun s : Fin 16 => atTile m d c.val s.val g) -∗ atCore m d c.val g)) := by
  unfold atCore atTile
  rw [bigSep_sep', bigSep_sep', oPts_tiles, oPts_tiles]
  iintro ⟨Hx, Ho⟩
  ihave Hx := (Transfers.pointsTo_toks_split (coreShare c.val) 16) $$ Hx
  icases Hx with ⟨Hr, Hx⟩
  isplitl [Hx Ho]
  · isplitl [Hx]
    · iexact Hx
    · iexact Ho
  iintro ⟨Hx, Ho⟩
  isplitl [Hr Hx]
  · iapply (Transfers.pointsTo_toks_join (coreShare c.val) 16)
    isplitl [Hr]; · iexact Hr
    iexact Hx
  · iexact Ho

/-- The whole operand and the whole result deal out to the cores, and come back from them. -/
theorem whole_deal (d : Dev nD) (f g : S128x480x480.Idx → Elt F .f32) :
    iprop((xLoc d ↦{fullShare} m (xLoc d)) ∗ oLoc d ↦{fullShare} f)
      ⊢ (iprop((bigSep Finset.univ fun c : Fin 2 => atCore m d c.val f)
        ∗ ((bigSep Finset.univ fun c : Fin 2 => atCore m d c.val g) -∗ (xLoc d ↦{fullShare} m (xLoc d)) ∗ oLoc d ↦{fullShare} g)) : sProp 𝕄) := by
  unfold atCore
  rw [bigSep_sep', bigSep_sep', oPts_cores, oPts_cores]
  iintro ⟨Hx, Ho⟩
  ihave Hx := (Transfers.pointsTo_toks_split fullShare 2) $$ Hx
  icases Hx with ⟨Hr, Hx⟩
  isplitl [Hx Ho]
  · isplitl [Hx]
    · iexact Hx
    · iexact Ho
  iintro ⟨Hx, Ho⟩
  isplitl [Hr Hx]
  · iapply (Transfers.pointsTo_toks_join fullShare 2)
    isplitl [Hr]; · iexact Hr
    iexact Hx
  · iexact Ho

/-! ## What the handshakes carry -/

variable [FloatOps F]

/-- A core is handed its holdings with the result's launch contents, and hands them back with the result; a tile likewise. -/
def P : (K (F := F)).Pay (nD := nD) (Val := Elt F) (Name := ℕ) (U := UU) where
  st := fun _ d c => atCore m d c.val (m (oLoc d))
  dn := fun _ d c => atCore m d c.val (target (m (xLoc d)))
  go := fun _ d c s => atTile m d c.val s.val (m (oLoc d))
  td := fun _ d c s => atTile m d c.val s.val (target (m (xLoc d)))
  x := fun _ _ => iprop(emp)

/-- What the handshakes carry can be stored in a cell. -/
instance P_storable : (P m).IsStorable where
  st _ d c := by unfold P atCore oPts; infer_instance
  dn _ d c := by unfold P atCore oPts; infer_instance
  go _ d c s := by unfold P atTile oPts; infer_instance
  td _ d c s := by unfold P atTile oPts; infer_instance

/-- A SparseCore's part splits among its tiles and is put together again. -/
theorem vecSplit : (K (F := F)).VecSplit' (P m) 0 := by
  intro d c
  show atCore m d (c : Fin 2).val _ ⊢ |={Set.univ}=> iprop(
      (bigSep (Finset.univ : Finset (Fin 16)) fun s => atTile m d c.val s.val (m (oLoc d)))
      ∗ ((bigSep (Finset.univ : Finset (Fin 16)) fun s => atTile m d c.val s.val (target (m (xLoc d))))
          -∗ atCore m d c.val (target (m (xLoc d)))))
  iintro H
  imodintro
  iapply (atCore_deal m d c (m (oLoc d)) (target (m (xLoc d)))) $$ H

/-! ## A tile's own buffers and semaphores -/

section

variable (d : Dev nD) (i : grid0.Coords)

/-- The tile's two input blocks and two output blocks. -/
abbrev b0 : Memref sig .scVector .vmem S56x512 .f32 := Memref.whole cc0_scratch0
abbrev b1 : Memref sig .scVector .vmem S56x512 .f32 := Memref.whole cc0_scratch1
abbrev ob0 : Memref sig .scVector .vmem S48x480 .f32 := Memref.whole cc0_scratch2
abbrev ob1 : Memref sig .scVector .vmem S48x480 .f32 := Memref.whole cc0_scratch3

/-- A semaphore of the tile, as a cell. -/
abbrev cell (sm : DmaSems sig S_) : GSem nD τ sig := (thr d i, SemLoc.dma sm.sem)
/-- A buffer of the tile, as a reference of the device. -/
abbrev dref (b : Ref sig .scVector) : DevRef τ sig := (proc i).devRef b

omit [FloatOps F] in
/-- A tile's own DMA semaphore is among its scoped ones. -/
theorem cell_mem (sm : DmaSems sig S_) (h : (SemLoc.dma sm.sem : SemLoc sig).isScoped .scVector = true) : cell d i sm ∈ ownCells (thr d i) :=
  mem_ownCells.mpr ⟨rfl, h⟩

omit [FloatOps F] in
/-- Different semaphores are different cells. -/
theorem cell_ne (sm sm' : DmaSems sig S_) (h : (SemLoc.dma sm.sem : SemLoc sig) ≠ SemLoc.dma sm'.sem) : cell d i sm ≠ cell d i sm' :=
  fun e => h (Prod.mk.inj e).2

/-- The semaphores of the tile that the kernel does not name. -/
def restCells : Finset (GSem nD τ sig) :=
  ((((ownCells (thr d i)).erase (cell d i cc0_scratch4)).erase (cell d i cc0_scratch5)).erase (cell d i cc0_scratch6)).erase (cell d i cc0_scratch7)

omit [FloatOps F] in
/-- A tile's scoped semaphores are its four DMA semaphores and the rest. -/
theorem sems_eq :
    (ownSems0 (thr d i) : sProp 𝕄)
      = iprop(semVal (cell d i cc0_scratch4) 0 ∗ semVal (cell d i cc0_scratch5) 0 ∗ semVal (cell d i cc0_scratch6) 0 ∗ semVal (cell d i cc0_scratch7) 0
          ∗ bigSep (restCells d i) fun g => semVal g 0) := by
  unfold SparseCore.Cfg.ownSems0 restCells
  rw [SparseCore.bigSep_erase' (cell_mem d i cc0_scratch4 (by decide)),
    SparseCore.bigSep_erase' (Finset.mem_erase.mpr ⟨cell_ne d i cc0_scratch5 cc0_scratch4 (by decide), cell_mem d i cc0_scratch5 (by decide)⟩),
    SparseCore.bigSep_erase' (Finset.mem_erase.mpr ⟨cell_ne d i cc0_scratch6 cc0_scratch5 (by decide), Finset.mem_erase.mpr
      ⟨cell_ne d i cc0_scratch6 cc0_scratch4 (by decide), cell_mem d i cc0_scratch6 (by decide)⟩⟩),
    SparseCore.bigSep_erase' (Finset.mem_erase.mpr ⟨cell_ne d i cc0_scratch7 cc0_scratch6 (by decide), Finset.mem_erase.mpr
      ⟨cell_ne d i cc0_scratch7 cc0_scratch5 (by decide), Finset.mem_erase.mpr
        ⟨cell_ne d i cc0_scratch7 cc0_scratch4 (by decide), cell_mem d i cc0_scratch7 (by decide)⟩⟩⟩)]

omit [FloatOps F] in
/-- A tile's own buffer is among its scoped ones. -/
theorem dref_mem (b : Ref sig .scVector) (h : (dref i b).owner = .proc (proc i)) : dref i b ∈ ownRefs (τ := τ) (proc i) :=
  SparseCore.Cfg.mem_ownRefs_of_owner (p := proc i) (b := dref i b) h

omit [FloatOps F] in
/-- Different buffers stay different. -/
theorem dref_ne (b b' : Ref sig .scVector) (h : b ≠ b') : dref i b ≠ dref i b' := fun e => h (Proc.devRef_injective _ e)

/-- The buffers of the tile that the kernel does not name. -/
def restRefs : Finset (DevRef τ sig) :=
  ((((ownRefs (τ := τ) (proc i)).erase (dref i cc0_scratch0)).erase (dref i cc0_scratch1)).erase (dref i cc0_scratch2)).erase (dref i cc0_scratch3)

omit [FloatOps F] in
/-- A tile's scoped buffers are its four blocks and the rest. -/
theorem bufs_eq :
    (ownBufs (thr d i) : sProp 𝕄)
      = iprop((∃ f, (thr d i).loc cc0_scratch0 ↦{fullShare} f) ∗ (∃ f, (thr d i).loc cc0_scratch1 ↦{fullShare} f)
          ∗ (∃ f, (thr d i).loc cc0_scratch2 ↦{fullShare} f) ∗ (∃ f, (thr d i).loc cc0_scratch3 ↦{fullShare} f)
          ∗ bigSep (restRefs i) fun b => iprop(∃ f, ((d, b) : Loc nD τ sig) ↦{fullShare} f)) := by
  unfold SparseCore.Cfg.ownBufs restRefs
  refine (SparseCore.bigSep_erase' (dref_mem i cc0_scratch0 rfl)).trans ?_
  rw [SparseCore.bigSep_erase' (Finset.mem_erase.mpr ⟨dref_ne i cc0_scratch1 cc0_scratch0 (by decide), dref_mem i cc0_scratch1 rfl⟩),
    SparseCore.bigSep_erase' (Finset.mem_erase.mpr ⟨dref_ne i cc0_scratch2 cc0_scratch1 (by decide), Finset.mem_erase.mpr
      ⟨dref_ne i cc0_scratch2 cc0_scratch0 (by decide), dref_mem i cc0_scratch2 rfl⟩⟩),
    SparseCore.bigSep_erase' (Finset.mem_erase.mpr ⟨dref_ne i cc0_scratch3 cc0_scratch2 (by decide), Finset.mem_erase.mpr
      ⟨dref_ne i cc0_scratch3 cc0_scratch1 (by decide), Finset.mem_erase.mpr ⟨dref_ne i cc0_scratch3 cc0_scratch0 (by decide), dref_mem i cc0_scratch3 rfl⟩⟩⟩)]

/-- A tile's task: from its holdings to its holdings with the result, its buffers and semaphores as the launch finds them. -/
theorem tile_task (O : CellTallies nD τ sig (HIx 1)) (W : Waits sig (HIx 1)) (hO : ∀ g, O g none = 0) :
    iprop(levAts (K (F := F)).L (K (F := F)).lev ∗ emp ∗ atTile m d (i 0).val (i 1).val (m (oLoc d))
        ∗ scopedBufs (thr d i) ∗ scopedSems0 (thr d i) ∗ owes (thr d i) O W)
      ⊢ wp frame (wpE (defs₀ (F := F)) 𝒱₀ (thr d i) none) Set.univ
          (cc0_body i xV (Memref.isWhole_whole _) oV (Memref.isWhole_whole _) b0 (Memref.isWhole_whole _) b1 (Memref.isWhole_whole _)
            ob0 (Memref.isWhole_whole _) ob1 (Memref.isWhole_whole _) cc0_scratch4 cc0_scratch5 cc0_scratch6 cc0_scratch7)
          fun _ => (iprop(atTile m d (i 0).val (i 1).val (target (m (xLoc d))) ∗ scopedBufs (thr d i) ∗ scopedSems0 (thr d i)
            ∗ waits d i O W) : sProp 𝕄) := by
  rw [body_eq, (K (F := F)).scopedBufs_V facts d ((i 0).castLE hcore0) ((i 1).castLE hsub0),
    SparseCore.Cfg.scopedSems0_V (Val := Elt F) d ((i 0).castLE hcore0) ((i 1).castLE hsub0), sems_eq, bufs_eq]
  unfold atTile
  iintro ⟨#Hlv, -, ⟨Hx, Ho⟩, ⟨Hb0, Hb1, Ho0, Ho1, Hbs⟩, ⟨Hi0, Hi1, Hs0, Hs1, Hss⟩, HO⟩
  iapply wp_wand $$ [Hx Ho Hb0 Hb1 Ho0 Ho1 Hi0 Hi1 Hs0 Hs1 HO]
  · iapply (wp_tile d i (m (xLoc d)) (m (oLoc d)) (tileShare (i 0).val (i 1).val) O W b0 (Memref.isWhole_whole _) ob0 (Memref.isWhole_whole _)
      cc0_scratch4 cc0_scratch6 b1 (Memref.isWhole_whole _) ob1 (Memref.isWhole_whole _) cc0_scratch5 cc0_scratch7)
    isplitr
    · iapply ((K (F := F)).mayWaits_none (thr := thr d i) hO); iexact Hlv
    isplitl [Hb0 Ho0 Hi0 Hs0]
    · unfold idle
      isplitl [Hb0]; · iexact Hb0
      isplitl [Ho0]; · iexact Ho0
      isplitl [Hi0] <;> iassumption
    isplitl [Hb1 Ho1 Hi1 Hs1]
    · unfold idle
      isplitl [Hb1]; · iexact Hb1
      isplitl [Ho1]; · iexact Ho1
      isplitl [Hi1] <;> iassumption
    isplitl [Hx]; · iexact Hx
    isplitl [Ho]; · iexact Ho
    unfold waits
    iexists W
    isplitr
    · ipureintro; exact fun p hp => .inl hp
    · iexact HO
  · iintro %_ ⟨H0, H1, Hx, Ho, HW⟩
    unfold idle
    icases H0 with ⟨Hb0, Ho0, Hi0, Hs0⟩
    icases H1 with ⟨Hb1, Ho1, Hi1, Hs1⟩
    isplitl [Hx Ho]
    · isplitl [Hx]; · iexact Hx
      iexact Ho
    isplitl [Hb0 Hb1 Ho0 Ho1 Hbs]
    · isplitl [Hb0]; · iexact Hb0
      isplitl [Hb1]; · iexact Hb1
      isplitl [Ho0]; · iexact Ho0
      isplitl [Ho1]; · iexact Ho1
      iexact Hbs
    isplitl [Hi0 Hi1 Hs0 Hs1 Hss]
    · isplitl [Hi0]; · iexact Hi0
      isplitl [Hi1]; · iexact Hi1
      isplitl [Hs0]; · iexact Hs0
      isplitl [Hs1]; · iexact Hs1
      iexact Hss
    · iexact HW

end

/-! ## The launch theorem's obligations -/

/-- A core and a subcore as the grid's coordinates. -/
def coords (c : Fin (grid0.bound 0)) (s : Fin (grid0.bound 1)) : grid0.Coords :=
  fun | 0 => c | 1 => s | ⟨_ + 2, h⟩ => absurd h (Nat.not_lt.2 (Nat.le_add_left _ _))

/-- What the launch runs on a tile is the generated body. -/
theorem defs₀_tile (c : Fin τ.nSC) (s : Fin τ.nSub) :
    defs₀ (F := F) (.scVector c s) 0 ()
      = SparseCore.onTile hcore0 hsub0 (fun c s => cc0_body (coords c s)
          xV (Memref.isWhole_whole _) oV (Memref.isWhole_whole _) b0 (Memref.isWhole_whole _) b1 (Memref.isWhole_whole _)
          ob0 (Memref.isWhole_whole _) ob1 (Memref.isWhole_whole _) cc0_scratch4 cc0_scratch5 cc0_scratch6 cc0_scratch7) ⟨⟩ c s := rfl

omit [FloatOps F] in
/-- A postcondition's waits and leftovers in the form that the launch asks for. -/
theorem post_weaken {d : Dev nD} {i : grid0.Coords} {A B C : sProp 𝕄} {O : CellTallies nD τ sig (HIx 1)} {W : Waits sig (HIx 1)} {q : Fin 1} :
    iprop(A ∗ B ∗ C ∗ waits d i O W)
      ⊢ iprop(A ∗ B ∗ C ∗ ∃ W', ⌜∀ p ∈ W', p ∈ W ∨ p.2 = none ∨ p.2 = some q⌝ ∗ owes (thr d i) O W') := by
  unfold waits
  iintro ⟨HA, HB, HC, %W', %hW', HO⟩
  isplitl [HA]; · iexact HA
  isplitl [HB]; · iexact HB
  isplitl [HC]; · iexact HC
  iexists W'
  isplitr
  · ipureintro; exact fun p hp => (hW' p hp).imp_right Or.inl
  · iexact HO

/-- Every tile's task, as the launch calls it. -/
theorem tileObl : (K (F := F)).TileObl (D (F := F)) 𝒱 (P m) v₀ 0 := by
  intro d c s O W hO _ _
  simp only [show (P m).ox = fun _ _ => 0 from rfl, add_zero]
  change _ ⊢ wp _ _ _ (Pipeline.liftProg (defs₀ (F := F) (.scVector ((K (F := F)).core 0 c) ((K (F := F)).sub 0 s)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 s).val < grid0.bound 1 := ⟨c.isLt, s.isLt⟩
  rw [defs₀_tile]
  simp only [SparseCore.onTile, hc, and_self, ↓reduceDIte]
  exact (tile_task m d (coords ⟨_, hc.1⟩ ⟨_, hc.2⟩) O W hO).trans (wp_mono frame _ _ fun _ => post_weaken)

/-! ## The launch element: the handshakes' rounds, and nothing of the kernel's own -/

/-- The ghost state at the launch. -/
def u₀ : UU := (initOf (K (F := F)).hsCells (K (F := F)).hsToks, 1)

/-- It pays for the handshakes' cells. -/
theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  have hx : (bigSep Finset.univ fun thr : Thread nD τ => bigSep Finset.univ fun q : Fin 1 => (P m).x q thr) = (iprop(emp) : sProp 𝕄) := by
    unfold P
    exact (bigSep_congr fun _ _ => bigSep_emp_const _).trans (bigSep_emp_const _)
  rw [hx, show (bigSep Finset.univ fun _ : Dev nD => iprop(emp)) = (iprop(emp) : sProp 𝕄) from bigSep_emp_const _]
  unfold u₀
  iintro Hu
  ihave H := (ownU_pair _ _) $$ Hu
  icases H with ⟨HH, -⟩
  imodintro
  isplitl [HH]; · iexact HH
  isplitr <;> iempintro

/-! ## The TensorCore's program -/

omit [FloatOps F] in
/-- The arrays in HBM are the operand and the result. -/
theorem unscopedBufs_eq (d : Dev nD) (W : (b : Ref sig .tc) → Buf (Elt F) ((d.tc : Thread nD τ).loc b)) :
    (unscopedBufs d W : sProp 𝕄) = iprop((xLoc d ↦{fullShare} W main_arg0) ∗ oLoc d ↦{fullShare} W main_v0) := by
  unfold unscopedBufs
  rw [show (Finset.univ.filter fun b : Ref sig .tc => ¬ b.isScoped) = {main_arg0, main_v0} by decide,
    SparseCore.bigSep_insert' (by decide), bigSep_singleton]

/-- What the program leaves: the operand as it was, and the result. -/
abbrev FIN (d : Dev nD) : sProp 𝕄 := iprop((xLoc d ↦{fullShare} m (xLoc d)) ∗ oLoc d ↦{fullShare} target (m (xLoc d)))

/-- The one call, from the operand and the result's array. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscopedBufs_eq]
  simp only [main, wp_bind, wp_pure]
  iintro ⟨#Hctx, Hst, ⟨Hb, Hxo, Hts, -⟩, -⟩
  ihave Hd := (whole_deal m d (m (oLoc d)) (target (m (xLoc d)))) $$ Hxo
  icases Hd with ⟨Hgo, Hback⟩
  iapply ((K (F := F)).wp_run (D (F := F)) 𝒱 (EH := EH) (P := P m) κ d 0) $$ [Hst Hgo Hback Hb Hts]
  isplitr; · iexact Hctx
  isplitl [Hst]; · iexact Hst
  isplitl [Hgo]; · iexact Hgo
  iintro ⟨Hst, Hdn⟩
  ihave Hdn' := (Entails.of_eq (show (bigSep Finset.univ fun c : Fin ((K (F := F)).nCore 0) => (P m).dn 0 d c)
    = bigSep (Finset.univ : Finset (Fin 2)) fun c => atCore m d c.val (target (m (xLoc d))) from rfl)) $$ Hdn
  ihave Hxo := Hback $$ Hdn'
  imodintro
  isplitl [Hst]; · iexact Hst
  isplitl [Hxo]; · iexact Hxo
  isplitl [Hb] <;> iassumption

/-- What a device's memory holds at the end. -/
def fq (d : Dev nD) (s' : Phys nD τ sig (Elt F)) : Prop :=
  s'.mem.mem (xLoc d) = m (xLoc d) ∧ s'.mem.mem (oLoc d) = (target (m (xLoc d)) : S128x480x480.Idx → Elt F .f32)

/-- The TensorCore's final resources fix that memory. -/
theorem hfin (d : Dev nD) (s' : Phys nD τ sig (Elt F)) : iprop(FIN m d ∗ SI s') ⊢ (⌜fq m d s'⌝ : sProp 𝕄) := by
  iintro ⟨⟨Hx, Ho⟩, HSI⟩
  ihave H := (persistent_entails_right (SI_pointsTo_agree (st := s') (ℓ := xLoc d) (I := Finset.univ) (q := fullShare) (f := m (xLoc d)))) $$ [HSI Hx]
  · isplitl [HSI] <;> iassumption
  icases H with ⟨%hx, HSI, -⟩
  ihave H := (SI_pointsTo_agree (st := s') (ℓ := oLoc d) (I := Finset.univ) (q := fullShare) (f := target (m (xLoc d)))) $$ [HSI Ho]
  · isplitl [HSI] <;> iassumption
  icases H with %ho
  ipureintro
  exact ⟨funext fun z => hx z (Finset.mem_univ z), funext fun z => ho z (Finset.mem_univ z)⟩

/-! ## The program's run -/

/-- At the end: the operand unchanged, the result `target` of it, every semaphore at zero. -/
def QC : PUnit × MemSt nD τ sig (Elt F) → Prop := fun r =>
  (∀ c : Dev nD, r.2.mem (xLoc c) = m (xLoc c) ∧ r.2.mem (oLoc c) = (target (m (xLoc c)) : S128x480x480.Idx → Elt F .f32)) ∧ r.2.sem = fun _ => 0

/-- Every run of the program ends, without a fault, in such a state: at any reading of the floats. -/
theorem run_main [∀ e, Nonempty (Elt F e)] :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.KernelIdeal.Tile

end
-- ==== Proof.Reference.lean ====
/-
  The reference's result: `target` of its argument.
-/
module

public import proofs.«01_k».proof.Proof.Blocks
public import proofs.«01_k».proof.Proof.Gen.ReferenceIdeal
public import proofs.«01_k».proof.Proof.Gen.ReferenceIdeal.Run
public import Idealize.ShloMosaic.Lib.Pipeline.Value
public import Idealize.ShloMosaic.Lib.StableHlo.Predicate

@[expose] public section

noncomputable section

namespace Cert.ReferenceIdeal.Crop

open Cert.ReferenceIdeal Cert.ReferenceIdeal.Gen
open Idealize.ShloMosaic Idealize.SL.Sem

/-- The table of offsets: `2 - b % 3` for image `b`, along rows and along columns. -/
theorem table_eq : ∀ (b : Fin 128) (p : Fin 2), lit0 ⟨b.val * 2 + p.val, by omega⟩ = BitVec.ofNat 32 (2 - b.val % 3) := by
  decide +kernel

/-- Where the crop of each image reads, along axis `p`: its offset, and the coordinate. -/
def places (p : Nat) (hs : S128x2.Slices ![0, p] S128x1) : IVec S128x480 32 :=
  addi (broadcastInDim S128x480 ![0, 1] bcast_S128x1_S128x480_0_1 (broadcastInDim S128x1 ![0] bcast_S128_S128x1_0
      (shapeCast _ (extractStridedSlice S128x1 ![0, p] (fun i => lit0 (S128x2.rowMajor i)) hs) shapeCasts_S128x1_S128)))
    (broadcastInDim S128x480 ![0, 1] bcast_S1x480_S128x480_0_1 (broadcastInDim S1x480 ![1] bcast_S480_S1x480_1 (iotaInDim S480 32 0)))

/-- The place at (b, r): image b's offset plus r. -/
theorem places_apply (p : Fin 2) (hs : S128x2.Slices ![0, p.val] S128x1) (y : S128x480.Idx) :
    places p.val hs y = BitVec.ofNat 32 (2 - (y 0).val % 3 + (y 1).val) := by
  have hb : (y 0).val < 128 := (y 0).isLt
  have hr : (y 1).val < 480 := (y 1).isLt
  have e1 : broadcastInDim S128x480 ![0, 1] bcast_S128x1_S128x480_0_1 (broadcastInDim S128x1 ![0] bcast_S128_S128x1_0
      (shapeCast _ (extractStridedSlice S128x1 ![0, p.val] (fun i => lit0 (S128x2.rowMajor i)) hs) shapeCasts_S128x1_S128)) y
      = BitVec.ofNat 32 (2 - (y 0).val % 3) := by
    refine (broadcastInDim_apply _ _ _ y (show S128x1.Idx from fun | 0 => ⟨(y 0).val, hb⟩ | 1 => ⟨0, by decide⟩) (fun a => by fin_cases a <;> rfl)).trans ?_
    refine (broadcastInDim_apply _ _ _ _ (show S128.Idx from fun | 0 => ⟨(y 0).val, hb⟩) (fun a => by fin_cases a; rfl)).trans ?_
    refine (shapeCast_apply _ _ _ (show S128x1.Idx from fun | 0 => ⟨(y 0).val, hb⟩ | 1 => ⟨0, by decide⟩) ?_).trans ?_
    · rw [Shape.rowMajor_val_two, Shape.rowMajor_val_one]
      show (y 0).val * 1 + 0 = (y 0).val
      omega
    refine (extractStridedSlice_apply _ _ _ _ (show S128x2.Idx from fun | 0 => ⟨(y 0).val, hb⟩ | 1 => ⟨p.val, p.isLt⟩) (fun a => by fin_cases a <;> simp)).trans ?_
    refine (congrArg lit0 (Fin.ext ?_)).trans (table_eq ⟨(y 0).val, hb⟩ p)
    rw [Shape.rowMajor_val_two]
    rfl
  have e2 : broadcastInDim S128x480 ![0, 1] bcast_S1x480_S128x480_0_1 (broadcastInDim S1x480 ![1] bcast_S480_S1x480_1 (iotaInDim S480 32 0)) y
      = BitVec.ofNat 32 (y 1).val := rfl
  show IntOp.addi _ _ = _
  rw [e1, e2]
  exact (BitVec.ofNat_add _ _).symm

/-- A word that is not negative stays as it is when 512 is added to the negative ones. -/
theorem select_nonneg (n : Nat) (hn : n < 2 ^ 31) (v w c : BitVec 32) (hv : v = BitVec.ofNat 32 n) (hc : c = 0#32) :
    Scalar.select (IntOp.cmpi .slt v c) w v = v := by
  subst hv hc
  have h : IntOp.cmpi .slt (BitVec.ofNat 32 n) 0#32 = 0#1 := by
    simp only [IntOp.cmpi]
    rw [show (BitVec.ofNat 32 n).slt 0#32 = false from ?_]; · rfl
    rw [BitVec.slt_eq_decide, StableHlo.Predicate.toInt_ofNat_small _ (by omega)]
    simp
  rw [h]; rfl

/-- The row that each element of the result is read at. -/
def rows : IVec S128x480x480x1 32 :=
  broadcastInDim S128x480x480x1 ![0, 1, 2] bcast_S128x480x480_S128x480x480x1_0_1_2 (broadcastInDim S128x480x480 ![0, 1, 2] bcast_S128x480x1_S128x480x480_0_1_2
    (select (cmpi .slt (broadcastInDim S128x480x1 ![0, 1] bcast_S128x480_S128x480x1_0_1 (places 0 slices_S128x2_S128x1_0_0))
        (broadcastInDim S128x480x1 ![] bcast_S_S128x480x1 (constantI S_ 32 0#32)))
      (addi (broadcastInDim S128x480x1 ![0, 1] bcast_S128x480_S128x480x1_0_1 (places 0 slices_S128x2_S128x1_0_0))
        (broadcastInDim S128x480x1 ![] bcast_S_S128x480x1 (constantI S_ 32 512#32)))
      (broadcastInDim S128x480x1 ![0, 1] bcast_S128x480_S128x480x1_0_1 (places 0 slices_S128x2_S128x1_0_0))))
/-- The column that each element of the result is read at. -/
def cols : IVec S128x480x480x1 32 :=
  broadcastInDim S128x480x480x1 ![0, 1, 2] bcast_S128x480x480_S128x480x480x1_0_1_2 (broadcastInDim S128x480x480 ![0, 1, 2] bcast_S128x1x480_S128x480x480_0_1_2
    (select (cmpi .slt (broadcastInDim S128x1x480 ![0, 2] bcast_S128x480_S128x1x480_0_2 (places 1 slices_S128x2_S128x1_0_1))
        (broadcastInDim S128x1x480 ![] bcast_S_S128x1x480 (constantI S_ 32 0#32)))
      (addi (broadcastInDim S128x1x480 ![0, 2] bcast_S128x480_S128x1x480_0_2 (places 1 slices_S128x2_S128x1_0_1))
        (broadcastInDim S128x1x480 ![] bcast_S_S128x1x480 (constantI S_ 32 512#32)))
      (broadcastInDim S128x1x480 ![0, 2] bcast_S128x480_S128x1x480_0_2 (places 1 slices_S128x2_S128x1_0_1))))

/-- An index of an image's plane, from an image and a coordinate. -/
def at2 (b : Fin 128) (r : Fin 480) : S128x480.Idx := fun | 0 => b | 1 => r

/-- The row that element (b, i, j) is read at: image b's offset plus i. -/
theorem rows_apply (y : S128x480x480x1.Idx) : rows y = BitVec.ofNat 32 (2 - (y 0).val % 3 + (y 1).val) := by
  have hr : (y 1).val < 480 := (y 1).isLt
  have e := places_apply 0 slices_S128x2_S128x1_0_0 (at2 (y 0) (y 1))
  unfold rows
  refine (broadcastInDim_apply _ _ _ y (show S128x480x480.Idx from fun | 0 => y 0 | 1 => y 1 | 2 => y 2) (fun a => by fin_cases a <;> rfl)).trans ?_
  refine (broadcastInDim_apply _ _ _ _ (show S128x480x1.Idx from fun | 0 => y 0 | 1 => y 1 | 2 => ⟨0, by decide⟩) (fun a => by fin_cases a <;> rfl)).trans ?_
  refine (select_nonneg (2 - (y 0).val % 3 + (y 1).val) (by omega) _ _ _ ?_ rfl).trans ?_ <;>
    exact (broadcastInDim_apply _ _ _ _ (at2 (y 0) (y 1)) (fun a => by fin_cases a <;> rfl)).trans e

/-- The column that element (b, i, j) is read at: image b's offset plus j. -/
theorem cols_apply (y : S128x480x480x1.Idx) : cols y = BitVec.ofNat 32 (2 - (y 0).val % 3 + (y 2).val) := by
  have hr : (y 2).val < 480 := (y 2).isLt
  have e := places_apply 1 slices_S128x2_S128x1_0_1 (at2 (y 0) (y 2))
  unfold cols
  refine (broadcastInDim_apply _ _ _ y (show S128x480x480.Idx from fun | 0 => y 0 | 1 => y 1 | 2 => y 2) (fun a => by fin_cases a <;> rfl)).trans ?_
  refine (broadcastInDim_apply _ _ _ _ (show S128x1x480.Idx from fun | 0 => y 0 | 1 => ⟨0, by decide⟩ | 2 => y 2) (fun a => by fin_cases a <;> rfl)).trans ?_
  refine (select_nonneg (2 - (y 0).val % 3 + (y 2).val) (by omega) _ _ _ ?_ rfl).trans ?_ <;>
    exact (broadcastInDim_apply _ _ _ _ (at2 (y 0) (y 2)) (fun a => by fin_cases a <;> rfl)).trans e

/-- Both, side by side. -/
def starts : IVec S128x480x480x2 32 :=
  concatenate S128x480x480x2 3 [⟨S128x480x480x1, rows⟩, ⟨S128x480x480x1, cols⟩] concatenates_S128x480x480x1_S128x480x480x1_S128x480x480x2_d3

/-- An index of the starts, from an element of the result and which of the two. -/
def at4 (z : S128x480x480.Idx) (p : Fin 2) : S128x480x480x2.Idx := fun | 0 => z 0 | 1 => z 1 | 2 => z 2 | 3 => p
/-- The same element, as an index of the rows or of the columns. -/
def at3 (z : S128x480x480.Idx) : S128x480x480x1.Idx := fun | 0 => z 0 | 1 => z 1 | 2 => z 2 | 3 => ⟨0, by decide⟩

/-- The first of an element's two starts is its row. -/
theorem starts_row (z : S128x480x480.Idx) : starts (at4 z 0) = BitVec.ofNat 32 (2 - (z 0).val % 3 + (z 1).val) :=
  (concatenate_pair_apply_left 3 rows cols _ (at4 z 0) rfl (at3 z) (fun b => by fin_cases b <;> rfl)).trans (rows_apply (at3 z))

/-- The second is its column. -/
theorem starts_col (z : S128x480x480.Idx) : starts (at4 z 1) = BitVec.ofNat 32 (2 - (z 0).val % 3 + (z 2).val) :=
  (concatenate_pair_apply_right 3 rows cols _ (at4 z 1) rfl rfl (at3 z) (fun b hb => by fin_cases b <;> first | rfl | exact absurd rfl hb) rfl).trans
    (cols_apply (at3 z))

/-- A start in the image is not moved by the clamp. -/
theorem clamp_small (n : Nat) (hn : n < 512) : min (BitVec.ofNat 32 n).toInt.toNat 511 = n := by
  rw [StableHlo.Predicate.toInt_ofNat_small _ (by omega)]
  omega

/-- The reference's gather: one element of the image for each pair of starts. -/
abbrev dims : GatherDims S128x512x512 S128x480x480x2 S128x480x480 := gather_S128x512x512_S128x480x480x2_S128x480x480_n_12_0_0_12_3_111

/-- An element is read from the image that it belongs to. -/
theorem operandIdx_image (z : S128x480x480.Idx) : (dims.operandIdx z starts 0).val = (z 0).val := by
  show dims.start z starts 0 + dims.batchCoord z 0 + dims.offCoord z 0 = _
  rw [dims.start_batching _ _ _ (by decide), dims.offCoord_eq_zero _ _ (by decide), Nat.zero_add, Nat.add_zero]
  rfl

/-- Its row in that image is the offset plus its own. -/
theorem operandIdx_row (z : S128x480x480.Idx) : (dims.operandIdx z starts 1).val = 2 - (z 0).val % 3 + (z 1).val := by
  have h1 : (z 1).val < 480 := (z 1).isLt
  show dims.start z starts 1 + dims.batchCoord z 1 + dims.offCoord z 1 = _
  rw [dims.batchCoord_eq_zero _ _ (by decide), dims.offCoord_eq_zero _ _ (by decide), Nat.add_zero]
  unfold GatherDims.start
  rw [dif_pos (by decide), show dims.siIdx z ⟨dims.startIndexMap.idxOf 1, List.idxOf_lt_length_iff.2 (by decide)⟩ = at4 z 0 from
    funext fun b => by fin_cases b <;> rfl, starts_row]
  exact clamp_small _ (by omega)

/-- Its column in that image is the offset plus its own. -/
theorem operandIdx_col (z : S128x480x480.Idx) : (dims.operandIdx z starts 2).val = 2 - (z 0).val % 3 + (z 2).val := by
  have h1 : (z 2).val < 480 := (z 2).isLt
  show dims.start z starts 2 + dims.batchCoord z 2 + dims.offCoord z 2 = _
  rw [dims.batchCoord_eq_zero _ _ (by decide), dims.offCoord_eq_zero _ _ (by decide), Nat.add_zero]
  unfold GatherDims.start
  rw [dif_pos (by decide), show dims.siIdx z ⟨dims.startIndexMap.idxOf 2, List.idxOf_lt_length_iff.2 (by decide)⟩ = at4 z 1 from
    funext fun b => by fin_cases b <;> rfl, starts_col]
  exact clamp_small _ (by omega)

variable {F : FTy → Type} [FloatOps F]

/-- The reference's result is `target` of its argument: the result that the kernel's tiles leave. -/
theorem gather_eq (x : S128x512x512.Idx → Elt F .f32) : Host.gather dims x starts = Cert.KernelIdeal.Tile.target (F := F) x := by
  funext z
  unfold Host.gather Cert.KernelIdeal.Tile.target
  refine congrArg x (funext fun a => Fin.ext ?_)
  match a with
  | ⟨0, _⟩ => exact operandIdx_image z
  | ⟨1, _⟩ => exact (operandIdx_row z).trans (Nat.add_comm _ _)
  | ⟨2, _⟩ => exact (operandIdx_col z).trans (Nat.add_comm _ _)

/-- Every run of the reference ends with the result at `target` of its argument, and the argument unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v33) = (Cert.KernelIdeal.Tile.target (F := F) (m ((c.tc : Thread nD τ).loc main_arg0)) : S128x480x480.Idx → Elt F .f32)
      ∧ r.2.mem ((c.tc : Thread nD τ).loc main_arg0) = m ((c.tc : Thread nD τ).loc main_arg0) :=
  (θ_run defs _ _).mono (fun _ h c => ⟨(h c).1.trans (gather_eq (F := F) _), (h c).2⟩) (Value.run (F := F) m ρ)

end Cert.ReferenceIdeal.Crop

end
-- ==== Proof.lean ====
/-
  The certificate: the two frames of the kernel and the value claim come from one run of the launch (`Tile.run_main`),
  which is stated for any float values; the reference's side from its run (`Crop.run`).
-/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Launch
public import proofs.«01_k».proof.Proof.Reference
public import Idealize.ShloMosaic.Adequacy
public import Idealize.ShloMosaic.Init
public import Idealize.ShloMosaic.Lib.Quiescent

@[expose] public section

noncomputable section

namespace Cert.Proof

open Idealize.ShloMosaic Idealize.SL.Sem Cert.Kernel

/-- The kernel at machine floats terminates without fault, leaves its argument as it was, and every counter at zero. -/
theorem frame_kernel : Cert.quiescent_Kernel := fun m ρ _ =>
  (θ_run Cert.KernelIdeal.defs _ _).mono (fun _ h => ⟨fun c => (h.1 c).1, h.2⟩) (Cert.KernelIdeal.Tile.run_main (F := Bits) m ρ)

/-- The same of the kernel over the extended reals. -/
theorem frame_kernelIdeal : Cert.quiescent_KernelIdeal := fun m ρ _ =>
  (θ_run Cert.KernelIdeal.defs _ _).mono (fun _ h => ⟨fun c => (h.1 c).1, h.2⟩) (Cert.KernelIdeal.Tile.run_main (F := Ideal) m ρ)

/-- The same of the reference, which has no semaphores. -/
theorem frame_referenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Crop.run (F := Ideal) m ρ)

/-- Kernel and reference end with equal results: both leave `target` of the argument that they share. -/
theorem algebraic : Cert.algebraic_KernelIdeal_ReferenceIdeal := fun m g m' g' _ hm =>
  ⟨fun c => Cert.KernelIdeal.Tile.target (F := Ideal) (m (Cert.KernelIdeal.Tile.xLoc c)),
    (θ_run Cert.KernelIdeal.defs _ _).mono (fun _ h c => ⟨(h.1 c).2, (h.1 c).1⟩) (Cert.KernelIdeal.Tile.run_main (F := Ideal) m g),
    (θ_run Cert.ReferenceIdeal.defs _ _).mono (fun _ h c => ⟨(h c).1.trans (congrArg (Cert.KernelIdeal.Tile.target (F := Ideal)) (hm c)), (h c).2⟩)
      (Cert.ReferenceIdeal.Crop.run (F := Ideal) m' g')⟩

/-- Every claim of the certificate. -/
theorem claim : Cert.Claim :=
  ⟨Cert.Kernel.Gen.facts, Cert.KernelIdeal.Gen.facts, Cert.ReferenceIdeal.Gen.facts,
    frame_kernel, frame_kernelIdeal, frame_referenceIdeal, trivial, algebraic⟩

end Cert.Proof

end
